-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_bf16 [hPre_scales_bf16 : Cert.Pre_scales_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_scales_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_bf16 [hPre_scales_bf16 : Cert.Pre_scales_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_bf16 [hKernelIdeal : Cert.KernelIdeal.Facts] [hPre_scales_bf16 : Cert.Pre_scales_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_bf16 [hReferenceIdeal : Cert.ReferenceIdeal.Facts] [hPre_scales_bf16 : Cert.Pre_scales_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scales_bf16 [hKernelIdeal : Cert.KernelIdeal.Facts] [hReferenceIdeal : Cert.ReferenceIdeal.Facts] [hPre_scales_bf16 : Cert.Pre_scales_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v29)) (v4 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_v32) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_bf16 : Cert.Pre_scales_bf16.Facts),
    quiescent_Kernel (hKernel := hKernel)
    ∧ quiescent_KernelIdeal (hKernelIdeal := hKernelIdeal)
    ∧ quiescent_KernelIdeal_pre_scales_bf16 (hKernelIdeal := hKernelIdeal) (hPre_scales_bf16 := hPre_scales_bf16)
    ∧ quiescent_ReferenceIdeal (hReferenceIdeal := hReferenceIdeal)
    ∧ quiescent_ReferenceIdeal_pre_scales_bf16 (hReferenceIdeal := hReferenceIdeal) (hPre_scales_bf16 := hPre_scales_bf16)
    ∧ preserves_Kernel_KernelIdeal
    ∧ algebraic_KernelIdeal_ReferenceIdeal_pre_scales_bf16 (hKernelIdeal := hKernelIdeal) (hReferenceIdeal := hReferenceIdeal) (hPre_scales_bf16 := hPre_scales_bf16)
-- ==== Pre_scales_bf16.lean ====
abbrev S32x1x4096 : Shape := ⟨3, ![32, 1, 4096]⟩
abbrev S32x1x4x128 : Shape := ⟨4, ![32, 1, 4, 128]⟩
abbrev S32x2048x4x128 : Shape := ⟨4, ![32, 2048, 4, 128]⟩
abbrev S32x2048x4 : Shape := ⟨3, ![32, 2048, 4]⟩
abbrev S254x32x2048x4 : Shape := ⟨4, ![254, 32, 2048, 4]⟩
abbrev S_ : Shape := ⟨0, ![]⟩

class Facts : Prop where
  bcast_S_S254x32x2048x4 : S_.BroadcastsInDim S254x32x2048x4 (![] : Fin 0 → Fin S254x32x2048x4.rank)
  bcast_S32x2048x4_S254x32x2048x4_1_2_3 : S32x2048x4.BroadcastsInDim S254x32x2048x4 (![1, 2, 3] : Fin 3 → Fin S254x32x2048x4.rank)

variable [Facts]

def fn_part2 {F : FTy → Type} [FloatOps F] (main_v27 : IVec S254x32x2048x4 1) (main_v33 : FVec F S254x32x2048x4 .f32) (main_v34 : FVec F S254x32x2048x4 .f32) (main_v37 : FVec F S254x32x2048x4 .f32) : IVec S254x32x2048x4 1 :=
  let main_cst_8 : FVec F S_ .f32 := constant S_ .f32 0x00000000#32
  let main_v38 : FVec F S254x32x2048x4 .f32 := broadcastInDim S254x32x2048x4 ![] bcast_S_S254x32x2048x4 main_cst_8
  let main_v39 : IVec S254x32x2048x4 1 := cmpf .oeq main_v34 main_v38
  let main_cst_9 : FVec F S_ .f32 := constant S_ .f32 0x00800000#32
  let main_v40 : FVec F S254x32x2048x4 .f32 := broadcastInDim S254x32x2048x4 ![] bcast_S_S254x32x2048x4 main_cst_9
  let main_v41 : IVec S254x32x2048x4 1 := cmpf .oge main_v34 main_v40
  let main_cst_10 : FVec F S_ .f32 := constant S_ .f32 0x7F7F0000#32
  let main_v42 : FVec F S254x32x2048x4 .f32 := broadcastInDim S254x32x2048x4 ![] bcast_S_S254x32x2048x4 main_cst_10
  let main_v43 : IVec S254x32x2048x4 1 := cmpf .ole main_v34 main_v42
  let main_v44 : IVec S254x32x2048x4 1 := andi main_v41 main_v43
  let main_v45 : IVec S254x32x2048x4 1 := ori main_v39 main_v44
  let main_v46 : IVec S254x32x2048x4 1 := cmpf .ole main_v33 main_v34
  let main_cst_11 : FVec F S_ .f32 := constant S_ .f32 0x40000000#32
  let main_v47 : FVec F S254x32x2048x4 .f32 := broadcastInDim S254x32x2048x4 ![] bcast_S_S254x32x2048x4 main_cst_11
  let main_v48 : FVec F S254x32x2048x4 .f32 := mulf main_v33 main_v47
  let main_v49 : IVec S254x32x2048x4 1 := cmpf .olt main_v34 main_v48
  let main_v50 : IVec S254x32x2048x4 1 := andi main_v46 main_v49
  let main_v51 : IVec S254x32x2048x4 1 := noti main_v50
  let main_v52 : FVec F S254x32x2048x4 .f32 := Host.floor main_v37
  let main_v53 : IVec S254x32x2048x4 1 := cmpf .oeq main_v52 main_v37
  let main_v54 : IVec S254x32x2048x4 1 := ori main_v51 main_v53
  let main_v55 : IVec S254x32x2048x4 1 := andi main_v45 main_v54
  let main_v56 : IVec S254x32x2048x4 1 := andi main_v27 main_v55
  main_v56

def fn_part1 {F : FTy → Type} [FloatOps F] (main_arg6 : FVec F S32x2048x4 .f32) (main_v5 : FVec F S254x32x2048x4 .f32) (main_v6 : FVec F S254x32x2048x4 .f32) (main_v9 : FVec F S254x32x2048x4 .f32) (main_v17 : IVec S254x32x2048x4 1) : IVec S254x32x2048x4 1 :=
  let main_v18 : IVec S254x32x2048x4 1 := cmpf .ole main_v5 main_v6
  let main_cst_4 : FVec F S_ .f32 := constant S_ .f32 0x40000000#32
  let main_v19 : FVec F S254x32x2048x4 .f32 := broadcastInDim S254x32x2048x4 ![] bcast_S_S254x32x2048x4 main_cst_4
  let main_v20 : FVec F S254x32x2048x4 .f32 := mulf main_v5 main_v19
  let main_v21 : IVec S254x32x2048x4 1 := cmpf .olt main_v6 main_v20
  let main_v22 : IVec S254x32x2048x4 1 := andi main_v18 main_v21
  let main_v23 : IVec S254x32x2048x4 1 := noti main_v22
  let main_v24 : FVec F S254x32x2048x4 .f32 := Host.floor main_v9
  let main_v25 : IVec S254x32x2048x4 1 := cmpf .oeq main_v24 main_v9
  let main_v26 : IVec S254x32x2048x4 1 := ori main_v23 main_v25
  let main_v27 : IVec S254x32x2048x4 1 := andi main_v17 main_v26
  let main_v28 : IVec S254x32x2048x4 32 := iotaInDim S254x32x2048x4 32 0
  let main_c_5 : IVec S_ 32 := constantI S_ 32 1#32
  let main_v29 : IVec S254x32x2048x4 32 := broadcastInDim S254x32x2048x4 ![] bcast_S_S254x32x2048x4 main_c_5
  let main_v30 : IVec S254x32x2048x4 32 := addi main_v28 main_v29
  let main_c_6 : IVec S_ 32 := constantI S_ 32 23#32
  let main_v31 : IVec S254x32x2048x4 32 := broadcastInDim S254x32x2048x4 ![] bcast_S_S254x32x2048x4 main_c_6
  let main_v32 : IVec S254x32x2048x4 32 := Host.shli main_v30 main_v31
  let main_v33 : FVec F S254x32x2048x4 .f32 := bitcastToFloat .f32 main_v32
  let main_v34 : FVec F S254x32x2048x4 .f32 := broadcastInDim S254x32x2048x4 ![1, 2, 3] bcast_S32x2048x4_S254x32x2048x4_1_2_3 main_arg6
  let main_v35 : FVec F S254x32x2048x4 .f32 := Host.divf main_v34 main_v33
  let main_cst_7 : FVec F S_ .f32 := constant S_ .f32 0x43000000#32
  let main_v36 : FVec F S254x32x2048x4 .f32 := broadcastInDim S254x32x2048x4 ![] bcast_S_S254x32x2048x4 main_cst_7
  let main_v37 : FVec F S254x32x2048x4 .f32 := mulf main_v35 main_v36
  fn_part2 (F := F) main_v27 main_v33 main_v34 main_v37

def fn {F : FTy → Type} [FloatOps F] (main_arg0 : FVec F S32x1x4096 .bf16) (main_arg1 : FVec F S32x1x4x128 .bf16) (main_arg2 : FVec F S32x1x4x128 .bf16) (main_arg3 : IVec S32x2048x4x128 8) (main_arg4 : FVec F S32x2048x4 .f32) (main_arg5 : IVec S32x2048x4x128 8) (main_arg6 : FVec F S32x2048x4 .f32) : IVec S254x32x2048x4 1 :=
  let main_v0 : IVec S254x32x2048x4 32 := iotaInDim S254x32x2048x4 32 0
  let main_c : IVec S_ 32 := constantI S_ 32 1#32
  let main_v1 : IVec S254x32x2048x4 32 := broadcastInDim S254x32x2048x4 ![] bcast_S_S254x32x2048x4 main_c
  let main_v2 : IVec S254x32x2048x4 32 := addi main_v0 main_v1
  let main_c_0 : IVec S_ 32 := constantI S_ 32 23#32
  let main_v3 : IVec S254x32x2048x4 32 := broadcastInDim S254x32x2048x4 ![] bcast_S_S254x32x2048x4 main_c_0
  let main_v4 : IVec S254x32x2048x4 32 := Host.shli main_v2 main_v3
  let main_v5 : FVec F S254x32x2048x4 .f32 := bitcastToFloat .f32 main_v4
  let main_v6 : FVec F S254x32x2048x4 .f32 := broadcastInDim S254x32x2048x4 ![1, 2, 3] bcast_S32x2048x4_S254x32x2048x4_1_2_3 main_arg4
  let main_v7 : FVec F S254x32x2048x4 .f32 := Host.divf main_v6 main_v5
  let main_cst : FVec F S_ .f32 := constant S_ .f32 0x43000000#32
  let main_v8 : FVec F S254x32x2048x4 .f32 := broadcastInDim S254x32x2048x4 ![] bcast_S_S254x32x2048x4 main_cst
  let main_v9 : FVec F S254x32x2048x4 .f32 := mulf main_v7 main_v8
  let main_cst_1 : FVec F S_ .f32 := constant S_ .f32 0x00000000#32
  let main_v10 : FVec F S254x32x2048x4 .f32 := broadcastInDim S254x32x2048x4 ![] bcast_S_S254x32x2048x4 main_cst_1
  let main_v11 : IVec S254x32x2048x4 1 := cmpf .oeq main_v6 main_v10
  let main_cst_2 : FVec F S_ .f32 := constant S_ .f32 0x00800000#32
  let main_v12 : FVec F S254x32x2048x4 .f32 := broadcastInDim S254x32x2048x4 ![] bcast_S_S254x32x2048x4 main_cst_2
  let main_v13 : IVec S254x32x2048x4 1 := cmpf .oge main_v6 main_v12
  let main_cst_3 : FVec F S_ .f32 := constant S_ .f32 0x7F7F0000#32
  let main_v14 : FVec F S254x32x2048x4 .f32 := broadcastInDim S254x32x2048x4 ![] bcast_S_S254x32x2048x4 main_cst_3
  let main_v15 : IVec S254x32x2048x4 1 := cmpf .ole main_v6 main_v14
  let main_v16 : IVec S254x32x2048x4 1 := andi main_v13 main_v15
  let main_v17 : IVec S254x32x2048x4 1 := ori main_v11 main_v16
  fn_part1 (F := F) main_arg6 main_v5 main_v6 main_v9 main_v17
-- ==== Kernel.lean ====
abbrev S32x1x4096 : Shape := ⟨3, ![32, 1, 4096]⟩
abbrev S32x1x4x128 : Shape := ⟨4, ![32, 1, 4, 128]⟩
abbrev S32x2048x4x128 : Shape := ⟨4, ![32, 2048, 4, 128]⟩
abbrev S32x2048x4 : Shape := ⟨3, ![32, 2048, 4]⟩
abbrev S32x32x128 : Shape := ⟨3, ![32, 32, 128]⟩
abbrev S32x4x128 : Shape := ⟨3, ![32, 4, 128]⟩
abbrev S32x8192x128 : Shape := ⟨3, ![32, 8192, 128]⟩
abbrev S32x16x128x4 : Shape := ⟨4, ![32, 16, 128, 4]⟩
abbrev S32x16x4x128 : Shape := ⟨4, ![32, 16, 4, 128]⟩
abbrev S32x64x128 : Shape := ⟨3, ![32, 64, 128]⟩
abbrev S512x512 : Shape := ⟨2, ![512, 512]⟩
abbrev S_ : Shape := ⟨0, ![]⟩
abbrev S1x32x128 : Shape := ⟨3, ![1, 32, 128]⟩
abbrev S1x4x128 : Shape := ⟨3, ![1, 4, 128]⟩
abbrev S1x8192x128 : Shape := ⟨3, ![1, 8192, 128]⟩
abbrev S1x64x128 : Shape := ⟨3, ![1, 64, 128]⟩
abbrev S32x128 : Shape := ⟨2, ![32, 128]⟩
abbrev S32x256 : Shape := ⟨2, ![32, 256]⟩
abbrev S64x256 : Shape := ⟨2, ![64, 256]⟩
abbrev S4x128 : Shape := ⟨2, ![4, 128]⟩
abbrev S4 : Shape := ⟨1, ![4]⟩
abbrev S4x1 : Shape := ⟨2, ![4, 1]⟩
abbrev S1x16x128 : Shape := ⟨3, ![1, 16, 128]⟩
abbrev S16x128 : Shape := ⟨2, ![16, 128]⟩
abbrev S128x16 : Shape := ⟨2, ![128, 16]⟩
abbrev S16x512 : Shape := ⟨2, ![16, 512]⟩
abbrev S32x512 : Shape := ⟨2, ![32, 512]⟩
abbrev S8x256 : Shape := ⟨2, ![8, 256]⟩
abbrev S8x128 : Shape := ⟨2, ![8, 128]⟩
abbrev S64x1 : Shape := ⟨2, ![64, 1]⟩
abbrev S64x128 : Shape := ⟨2, ![64, 128]⟩
abbrev S256x128 : Shape := ⟨2, ![256, 128]⟩
abbrev S1x256x128 : Shape := ⟨3, ![1, 256, 128]⟩
abbrev S256x256 : Shape := ⟨2, ![256, 256]⟩
abbrev S1x256 : Shape := ⟨2, ![1, 256]⟩
abbrev S124x128 : Shape := ⟨2, ![124, 128]⟩
abbrev S128x128 : Shape := ⟨2, ![128, 128]⟩
abbrev S8 : Shape := ⟨1, ![8]⟩
abbrev S8x1 : Shape := ⟨2, ![8, 1]⟩
abbrev S192x256 : Shape := ⟨2, ![192, 256]⟩
abbrev S96x128 : Shape := ⟨2, ![96, 128]⟩
abbrev S32x4x1 : Shape := ⟨3, ![32, 4, 1]⟩
abbrev S32x4 : Shape := ⟨2, ![32, 4]⟩
abbrev S32x1x4 : Shape := ⟨3, ![32, 1, 4]⟩

abbrev nBuf : Space → Nat
  | .hbm => 47
  | .vmem => 25
  | .smem => 0
  | _ => 0

abbrev bufTy : (tb : Table) → Fin (tcTables nBuf tb) → BufTy
  | .hbm, ⟨0, _⟩ => ⟨S32x1x4096, .bf16⟩
  | .hbm, ⟨1, _⟩ => ⟨S32x1x4x128, .bf16⟩
  | .hbm, ⟨2, _⟩ => ⟨S32x1x4x128, .bf16⟩
  | .hbm, ⟨3, _⟩ => ⟨S32x2048x4x128, .i8⟩
  | .hbm, ⟨4, _⟩ => ⟨S32x2048x4, .f32⟩
  | .hbm, ⟨5, _⟩ => ⟨S32x2048x4x128, .i8⟩
  | .hbm, ⟨6, _⟩ => ⟨S32x2048x4, .f32⟩
  | .hbm, ⟨7, _⟩ => ⟨S32x32x128, .bf16⟩
  | .hbm, ⟨8, _⟩ => ⟨S32x4x128, .bf16⟩
  | .hbm, ⟨9, _⟩ => ⟨S32x4x128, .bf16⟩
  | .hbm, ⟨10, _⟩ => ⟨S32x8192x128, .i8⟩
  | .hbm, ⟨11, _⟩ => ⟨S32x16x128x4, .f32⟩
  | .hbm, ⟨12, _⟩ => ⟨S32x16x4x128, .f32⟩
  | .hbm, ⟨13, _⟩ => ⟨S32x64x128, .f32⟩
  | .hbm, ⟨14, _⟩ => ⟨S32x8192x128, .i8⟩
  | .hbm, ⟨15, _⟩ => ⟨S32x16x128x4, .f32⟩
  | .hbm, ⟨16, _⟩ => ⟨S32x16x4x128, .f32⟩
  | .hbm, ⟨17, _⟩ => ⟨S32x64x128, .f32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S512x512, .f32⟩
  | .hbm, ⟨32, _⟩ => ⟨S512x512, .bf16⟩
  | .hbm, ⟨33, _⟩ => ⟨S32x32x128, .bf16⟩
  | .hbm, ⟨34, _⟩ => ⟨S32x4x128, .i8⟩
  | .hbm, ⟨35, _⟩ => ⟨S32x4x128, .f32⟩
  | .hbm, ⟨36, _⟩ => ⟨S32x4x128, .i8⟩
  | .hbm, ⟨37, _⟩ => ⟨S32x4x128, .f32⟩
  | .hbm, ⟨38, _⟩ => ⟨S32x1x4096, .bf16⟩
  | .hbm, ⟨39, _⟩ => ⟨S32x1x4x128, .i8⟩
  | .hbm, ⟨40, _⟩ => ⟨S32x4x1, .f32⟩
  | .hbm, ⟨41, _⟩ => ⟨S32x4, .f32⟩
  | .hbm, ⟨42, _⟩ => ⟨S32x1x4, .f32⟩
  | .hbm, ⟨43, _⟩ => ⟨S32x1x4x128, .i8⟩
  | .hbm, ⟨44, _⟩ => ⟨S32x4x1, .f32⟩
  | .hbm, ⟨45, _⟩ => ⟨S32x4, .f32⟩
  | .hbm, ⟨46, _⟩ => ⟨S32x1x4, .f32⟩
  | .local _ .vmem, ⟨0, _⟩ => ⟨S1x32x128, .bf16⟩
  | .local _ .vmem, ⟨1, _⟩ => ⟨S1x32x128, .bf16⟩
  | .local _ .vmem, ⟨2, _⟩ => ⟨S1x4x128, .bf16⟩
  | .local _ .vmem, ⟨3, _⟩ => ⟨S1x4x128, .bf16⟩
  | .local _ .vmem, ⟨4, _⟩ => ⟨S1x4x128, .bf16⟩
  | .local _ .vmem, ⟨5, _⟩ => ⟨S1x4x128, .bf16⟩
  | .local _ .vmem, ⟨6, _⟩ => ⟨S1x8192x128, .i8⟩
  | .local _ .vmem, ⟨7, _⟩ => ⟨S1x8192x128, .i8⟩
  | .local _ .vmem, ⟨8, _⟩ => ⟨S1x64x128, .f32⟩
  | .local _ .vmem, ⟨9, _⟩ => ⟨S1x64x128, .f32⟩
  | .local _ .vmem, ⟨10, _⟩ => ⟨S1x8192x128, .i8⟩
  | .local _ .vmem, ⟨11, _⟩ => ⟨S1x8192x128, .i8⟩
  | .local _ .vmem, ⟨12, _⟩ => ⟨S1x64x128, .f32⟩
  | .local _ .vmem, ⟨13, _⟩ => ⟨S1x64x128, .f32⟩
  | .local _ .vmem, ⟨14, _⟩ => ⟨S512x512, .bf16⟩
  | .local _ .vmem, ⟨15, _⟩ => ⟨S1x32x128, .bf16⟩
  | .local _ .vmem, ⟨16, _⟩ => ⟨S1x32x128, .bf16⟩
  | .local _ .vmem, ⟨17, _⟩ => ⟨S1x4x128, .i8⟩
  | .local _ .vmem, ⟨18, _⟩ => ⟨S1x4x128, .i8⟩
  | .local _ .vmem, ⟨19, _⟩ => ⟨S1x4x128, .f32⟩
  | .local _ .vmem, ⟨20, _⟩ => ⟨S1x4x128, .f32⟩
  | .local _ .vmem, ⟨21, _⟩ => ⟨S1x4x128, .i8⟩
  | .local _ .vmem, ⟨22, _⟩ => ⟨S1x4x128, .i8⟩
  | .local _ .vmem, ⟨23, _⟩ => ⟨S1x4x128, .f32⟩
  | .local _ .vmem, ⟨24, _⟩ => ⟨S1x4x128, .f32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8192x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S32x1x4096 : Shape := ⟨3, ![32, 1, 4096]⟩
abbrev S32x1x4x128 : Shape := ⟨4, ![32, 1, 4, 128]⟩
abbrev S32x2048x4x128 : Shape := ⟨4, ![32, 2048, 4, 128]⟩
abbrev S32x2048x4 : Shape := ⟨3, ![32, 2048, 4]⟩
abbrev S_ : Shape := ⟨0, ![]⟩
abbrev S32x1x4 : Shape := ⟨3, ![32, 1, 4]⟩
abbrev S32x1x4x1 : Shape := ⟨4, ![32, 1, 4, 1]⟩
abbrev S32x1x4x8x128 : Shape := ⟨5, ![32, 1, 4, 8, 128]⟩
abbrev S32x4x8x1 : Shape := ⟨4, ![32, 4, 8, 1]⟩
abbrev S32x4x8x1x128 : Shape := ⟨5, ![32, 4, 8, 1, 128]⟩
abbrev S32x1024x4x128 : Shape := ⟨4, ![32, 1024, 4, 128]⟩
abbrev S32x1024x4 : Shape := ⟨3, ![32, 1024, 4]⟩
abbrev S32x1024x4x1 : Shape := ⟨4, ![32, 1024, 4, 1]⟩
abbrev S32x4x1024x1x8 : Shape := ⟨5, ![32, 4, 1024, 1, 8]⟩
abbrev S32x4x8x1x1024 : Shape := ⟨5, ![32, 4, 8, 1, 1024]⟩
abbrev S32x4x8x1x1 : Shape := ⟨5, ![32, 4, 8, 1, 1]⟩
abbrev S32x4x1x1x8 : Shape := ⟨5, ![32, 4, 1, 1, 8]⟩
abbrev S1 : Shape := ⟨1, ![1]⟩
abbrev S1x1 : Shape := ⟨2, ![1, 1]⟩

abbrev nBuf : Space → Nat
  | .hbm => 207
  | .vmem => 0
  | .smem => 0
  | _ => 0

abbrev hbmTy0_0 (i : Nat) : BufTy := match i % 128 with
  | 0 => ⟨S32x1x4096, .bf16⟩
  | 1 => ⟨S32x1x4x128, .bf16⟩
  | 2 => ⟨S32x1x4x128, .bf16⟩
  | 3 => ⟨S32x2048x4x128, .i8⟩
  | 4 => ⟨S32x2048x4, .f32⟩
  | 5 => ⟨S32x2048x4x128, .i8⟩
  | 6 => ⟨S32x2048x4, .f32⟩
  | 7 => ⟨S32x1x4x128, .f32⟩
  | 8 => ⟨S32x1x4x128, .f32⟩
  | 9 => ⟨S_, .f32⟩
  | 10 => ⟨S32x1x4, .f32⟩
  | 11 => ⟨S_, .f32⟩
  | 12 => ⟨S32x1x4, .f32⟩
  | 13 => ⟨S32x1x4, .i1⟩
  | 14 => ⟨S_, .f32⟩
  | 15 => ⟨S32x1x4, .f32⟩
  | 16 => ⟨S32x1x4, .f32⟩
  | 17 => ⟨S_, .f32⟩
  | 18 => ⟨S_, .f32⟩
  | 19 => ⟨S32x1x4, .f32⟩
  | 20 => ⟨S32x1x4, .f32⟩
  | 21 => ⟨S32x1x4x1, .f32⟩
  | 22 => ⟨S32x1x4x128, .f32⟩
  | 23 => ⟨S32x1x4x128, .f32⟩
  | 24 => ⟨S32x1x4x128, .f32⟩
  | 25 => ⟨S_, .f32⟩
  | 26 => ⟨S_, .f32⟩
  | 27 => ⟨S_, .f32⟩
  | 28 => ⟨S32x1x4x128, .f32⟩
  | 29 => ⟨S32x1x4x128, .f32⟩
  | 30 => ⟨S_, .f32⟩
  | 31 => ⟨S32x1x4x128, .f32⟩
  | 32 => ⟨S32x1x4x128, .f32⟩
  | 33 => ⟨S32x1x4x128, .i32⟩
  | 34 => ⟨S32x1x4x128, .i8⟩
  | 35 => ⟨S32x1x4x128, .f32⟩
  | 36 => ⟨S32x1x4x128, .f32⟩
  | 37 => ⟨S_, .f32⟩
  | 38 => ⟨S32x1x4, .f32⟩
  | 39 => ⟨S_, .f32⟩
  | 40 => ⟨S32x1x4, .f32⟩
  | 41 => ⟨S32x1x4, .i1⟩
  | 42 => ⟨S_, .f32⟩
  | 43 => ⟨S32x1x4, .f32⟩
  | 44 => ⟨S32x1x4, .f32⟩
  | 45 => ⟨S_, .f32⟩
  | 46 => ⟨S_, .f32⟩
  | 47 => ⟨S32x1x4, .f32⟩
  | 48 => ⟨S32x1x4, .f32⟩
  | 49 => ⟨S32x1x4x1, .f32⟩
  | 50 => ⟨S32x1x4x128, .f32⟩
  | 51 => ⟨S32x1x4x128, .f32⟩
  | 52 => ⟨S32x1x4x128, .f32⟩
  | 53 => ⟨S_, .f32⟩
  | 54 => ⟨S_, .f32⟩
  | 55 => ⟨S_, .f32⟩
  | 56 => ⟨S32x1x4x128, .f32⟩
  | 57 => ⟨S32x1x4x128, .f32⟩
  | 58 => ⟨S_, .f32⟩
  | 59 => ⟨S32x1x4x128, .f32⟩
  | 60 => ⟨S32x1x4x128, .f32⟩
  | 61 => ⟨S32x1x4x128, .i32⟩
  | 62 => ⟨S32x1x4x128, .i8⟩
  | 63 => ⟨S32x1x4x8x128, .bf16⟩
  | 64 => ⟨S_, .f32⟩
  | 65 => ⟨S32x4x8x1, .f32⟩
  | 66 => ⟨S_, .f32⟩
  | 67 => ⟨S32x4x8x1, .f32⟩
  | 68 => ⟨S_, .f32⟩
  | 69 => ⟨S32x4x8x1x128, .f32⟩
  | 70 => ⟨S32x1024x4x128, .i8⟩
  | 71 => ⟨S32x1024x4, .f32⟩
  | 72 => ⟨S32x1024x4x128, .i32⟩
  | 73 => ⟨S32x1024x4x128, .f32⟩
  | 74 => ⟨S32x1024x4x128, .bf16⟩
  | 75 => ⟨S32x1024x4x1, .f32⟩
  | 76 => ⟨S32x1024x4x1, .bf16⟩
  | 77 => ⟨S32x1024x4x128, .bf16⟩
  | 78 => ⟨S32x1024x4x128, .bf16⟩
  | 79 => ⟨S32x1024x4x128, .i8⟩
  | 80 => ⟨S32x1024x4, .f32⟩
  | 81 => ⟨S32x1024x4x128, .i32⟩
  | 82 => ⟨S32x1024x4x128, .f32⟩
  | 83 => ⟨S32x1024x4x128, .bf16⟩
  | 84 => ⟨S32x1024x4x1, .f32⟩
  | 85 => ⟨S32x1024x4x1, .bf16⟩
  | 86 => ⟨S32x1024x4x128, .bf16⟩
  | 87 => ⟨S32x1024x4x128, .bf16⟩
  | 88 => ⟨S32x4x1024x1x8, .f32⟩
  | 89 => ⟨S32x4x8x1x1024, .f32⟩
  | 90 => ⟨S_, .f32⟩
  | 91 => ⟨S32x4x8x1x1024, .f32⟩
  | 92 => ⟨S32x4x8x1x1024, .f32⟩
  | 93 => ⟨S_, .f32⟩
  | 94 => ⟨S32x4x8x1, .f32⟩
  | 95 => ⟨S32x4x8x1, .f32⟩
  | 96 => ⟨S32x4x8x1x1, .f32⟩
  | 97 => ⟨S32x4x8x1x1024, .f32⟩
  | 98 => ⟨S32x4x8x1x1024, .f32⟩
  | 99 => ⟨S32x4x8x1x1024, .f32⟩
  | 100 => ⟨S32x4x8x1, .f32⟩
  | 101 => ⟨S32x4x8x1, .f32⟩
  | 102 => ⟨S32x4x8x1, .f32⟩
  | 103 => ⟨S_, .f32⟩
  | 104 => ⟨S32x4x8x1, .f32⟩
  | 105 => ⟨S32x4x8x1, .f32⟩
  | 106 => ⟨S32x1024x4x128, .f32⟩
  | 107 => ⟨S32x4x8x1x128, .f32⟩
  | 108 => ⟨S32x4x8x1x1, .f32⟩
  | 109 => ⟨S32x4x8x1x128, .f32⟩
  | 110 => ⟨S32x4x8x1x128, .f32⟩
  | 111 => ⟨S32x4x8x1x128, .f32⟩
  | 112 => ⟨S32x1024x4x128, .i8⟩
  | 113 => ⟨S32x1024x4, .f32⟩
  | 114 => ⟨S32x1024x4x128, .i32⟩
  | 115 => ⟨S32x1024x4x128, .f32⟩
  | 116 => ⟨S32x1024x4x128, .bf16⟩
  | 117 => ⟨S32x1024x4x1, .f32⟩
  | 118 => ⟨S32x1024x4x1, .bf16⟩
  | 119 => ⟨S32x1024x4x128, .bf16⟩
  | 120 => ⟨S32x1024x4x128, .bf16⟩
  | 121 => ⟨S32x1024x4x128, .i8⟩
  | 122 => ⟨S32x1024x4, .f32⟩
  | 123 => ⟨S32x1024x4x128, .i32⟩
  | 124 => ⟨S32x1024x4x128, .f32⟩
  | 125 => ⟨S32x1024x4x128, .bf16⟩
  | 126 => ⟨S32x1024x4x1, .f32⟩
  | 127 => ⟨S32x1024x4x1, .bf16⟩
  | _ => ⟨S32x1x4096, .bf16⟩

abbrev hbmTy0_1 (i : Nat) : BufTy := match i % 128 with
  | 0 => ⟨S32x1024x4x128, .bf16⟩
  | 1 => ⟨S32x1024x4x128, .bf16⟩
  | 2 => ⟨S32x4x1024x1x8, .f32⟩
  | 3 => ⟨S32x4x8x1x1024, .f32⟩
  | 4 => ⟨S_, .f32⟩
  | 5 => ⟨S32x4x8x1x1024, .f32⟩
  | 6 => ⟨S32x4x8x1x1024, .f32⟩
  | 7 => ⟨S_, .f32⟩
  | 8 => ⟨S32x4x8x1, .f32⟩
  | 9 => ⟨S32x4x8x1, .f32⟩
  | 10 => ⟨S32x4x8x1x1, .f32⟩
  | 11 => ⟨S32x4x8x1x1024, .f32⟩
  | 12 => ⟨S32x4x8x1x1024, .f32⟩
  | 13 => ⟨S32x4x8x1x1024, .f32⟩
  | 14 => ⟨S32x4x8x1, .f32⟩
  | 15 => ⟨S32x4x8x1, .f32⟩
  | 16 => ⟨S32x4x8x1, .f32⟩
  | 17 => ⟨S_, .f32⟩
  | 18 => ⟨S32x4x8x1, .f32⟩
  | 19 => ⟨S32x4x8x1, .f32⟩
  | 20 => ⟨S32x1024x4x128, .f32⟩
  | 21 => ⟨S32x4x8x1x128, .f32⟩
  | 22 => ⟨S32x4x8x1x1, .f32⟩
  | 23 => ⟨S32x4x8x1x128, .f32⟩
  | 24 => ⟨S32x4x8x1x128, .f32⟩
  | 25 => ⟨S32x4x8x1x128, .f32⟩
  | 26 => ⟨S32x1x4x128, .i32⟩
  | 27 => ⟨S32x1x4x128, .f32⟩
  | 28 => ⟨S32x1x4x128, .bf16⟩
  | 29 => ⟨S32x1x4x1, .f32⟩
  | 30 => ⟨S32x1x4x1, .bf16⟩
  | 31 => ⟨S32x1x4x128, .bf16⟩
  | 32 => ⟨S32x1x4x128, .bf16⟩
  | 33 => ⟨S32x1x4x128, .i32⟩
  | 34 => ⟨S32x1x4x128, .f32⟩
  | 35 => ⟨S32x1x4x128, .bf16⟩
  | 36 => ⟨S32x1x4x1, .f32⟩
  | 37 => ⟨S32x1x4x1, .bf16⟩
  | 38 => ⟨S32x1x4x128, .bf16⟩
  | 39 => ⟨S32x1x4x128, .bf16⟩
  | 40 => ⟨S32x4x1x1x8, .f32⟩
  | 41 => ⟨S32x4x8x1x1, .f32⟩
  | 42 => ⟨S_, .f32⟩
  | 43 => ⟨S32x4x8x1x1, .f32⟩
  | 44 => ⟨S32x4x8x1x1, .f32⟩
  | 45 => ⟨S1, .i32⟩
  | 46 => ⟨S1x1, .i32⟩
  | 47 => ⟨S1, .i32⟩
  | 48 => ⟨S1x1, .i32⟩
  | 49 => ⟨S1x1, .i1⟩
  | 50 => ⟨S_, .f32⟩
  | 51 => ⟨S_, .f32⟩
  | 52 => ⟨S32x4x8x1x1, .i1⟩
  | 53 => ⟨S32x4x8x1x1, .f32⟩
  | 54 => ⟨S32x4x8x1x1, .f32⟩
  | 55 => ⟨S_, .f32⟩
  | 56 => ⟨S32x4x8x1, .f32⟩
  | 57 => ⟨S32x4x8x1, .f32⟩
  | 58 => ⟨S32x4x8x1x1, .f32⟩
  | 59 => ⟨S32x4x8x1x1, .f32⟩
  | 60 => ⟨S32x4x8x1x1, .f32⟩
  | 61 => ⟨S32x4x8x1, .f32⟩
  | 62 => ⟨S32x4x8x1, .f32⟩
  | 63 => ⟨S32x4x8x1, .f32⟩
  | 64 => ⟨S_, .f32⟩
  | 65 => ⟨S32x4x8x1, .f32⟩
  | 66 => ⟨S32x4x8x1, .f32⟩
  | 67 => ⟨S32x1x4x128, .f32⟩
  | 68 => ⟨S32x4x8x1x128, .f32⟩
  | 69 => ⟨S32x4x8x1x1, .f32⟩
  | 70 => ⟨S32x4x8x1x128, .f32⟩
  | 71 => ⟨S32x4x8x1x128, .f32⟩
  | 72 => ⟨S32x4x8x1x128, .f32⟩
  | 73 => ⟨S32x4x8x1x1, .f32⟩
  | 74 => ⟨S32x4x8x1x128, .f32⟩
  | 75 => ⟨S32x4x8x1x128, .f32⟩
  | 76 => ⟨S32x1x4x8x128, .f32⟩
  | 77 => ⟨S32x1x4096, .f32⟩
  | 78 => ⟨S32x1x4096, .bf16⟩
  | _ => ⟨S32x1x4096, .bf16⟩

abbrev hbmTy (i : Nat) : BufTy := match i / 128 with
  | 0 => hbmTy0_0 i
  | 1 => hbmTy0_1 i
  | _ => ⟨S32x1x4096, .bf16⟩

abbrev bufTy : (tb : Table) → Fin (tcTables nBuf tb) → BufTy
  | .hbm, ⟨i, _⟩ => hbmTy i
  | _, _ => ⟨S32x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_cst_10 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_11 : Ref sig .tc := ⟨.hbm, 64, rfl⟩
abbrev main_v31 : Ref sig .tc := ⟨.hbm, 65, rfl⟩
abbrev main_cst_12 : Ref sig .tc := ⟨.hbm, 66, rfl⟩
abbrev main_v32 : Ref sig .tc := ⟨.hbm, 67, rfl⟩
abbrev main_cst_13 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_14 : Ref sig .tc := ⟨.hbm, 90, rfl⟩
abbrev main_v54 : Ref sig .tc := ⟨.hbm, 91, rfl⟩
abbrev main_v55 : Ref sig .tc := ⟨.hbm, 92, rfl⟩
abbrev main_cst_15 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_16 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_17 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_19 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_20 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_21 : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_v135 : Ref sig .tc := ⟨.hbm, 182, rfl⟩
abbrev main_cst_22 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_23 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩

abbrev nD : Nat := 1
abbrev τ : Topo := Topo.v7x

variable {F : FTy → Type} [FloatOps F]
-- ==== Proof.Attn.Model.lean ====
/-
  The vector computation of one grid point, cut in named pieces: how a chunk of a cache is dequantised, a score tile,
  the maximum's steps, a step of the accumulators and the final quotient, each as a function of the vectors it reads.
-/
module

public import proofs.«01_k».proof.Proof.Gen.KernelIdeal.Skeleton

@[expose] public section

set_option synthInstance.maxSize 4096

noncomputable section

namespace Cert.KernelIdeal.Gen

open Idealize.ShloMosaic Idealize.SL.Sem

variable {F : FTy → Type} [FloatOps F]

/-- One step of the search for a scale's bits: bit `k` is set when the number with it does not pass `mag`. -/
def searchStep (mag : FVec F S16x128 .f32) (bits : IVec S16x128 32) (k : BitVec 32) : IVec S16x128 32 :=
  select (cmpf .ole (bitcastToFloat .f32 (ori bits (broadcast S16x128 k))) mag) (ori bits (broadcast S16x128 k)) bits

/-- The bits tried, from the highest exponent bit to the lowest of bfloat16's fraction. -/
def searchBits : List (BitVec 32) :=
  [1073741824#32, 536870912#32, 268435456#32, 134217728#32, 67108864#32, 33554432#32, 16777216#32, 8388608#32,
   4194304#32, 2097152#32, 1048576#32, 524288#32, 262144#32, 131072#32, 65536#32]

/-- A scale vector rounded to bfloat16. -/
def scaleRow (v : Vec F S1x16x128 .f32) : FVec F S16x128 .f32 :=
  extf .f32 (truncf .bf16 (shapeCast S16x128 v shapeCasts_S1x16x128_S16x128) bitsLt_bf16_f32) bitsLt_bf16_f32

/-- The bits of a scale vector, with its sign. -/
def scaleBits (v : Vec F S1x16x128 .f32) : IVec S16x128 32 :=
  select (cmpf .olt (scaleRow v) (broadcast S16x128 (Scalar.ofBits .f32 0x00000000#32)))
    (ori (searchBits.foldl (searchStep (absf (scaleRow v))) (broadcast S16x128 0#32)) (broadcast S16x128 2147483648#32))
    (searchBits.foldl (searchStep (absf (scaleRow v))) (broadcast S16x128 0#32))

/-- The eight-bit significand of a scale. -/
def scaleMant (v : Vec F S1x16x128 .f32) : IVec S16x128 32 :=
  ori (andi (shrsi (scaleBits v) (broadcast S16x128 16#32)) (broadcast S16x128 127#32)) (broadcast S16x128 128#32)

/-- The power of two of a scale. -/
def scalePow (v : Vec F S1x16x128 .f32) : FVec F S16x128 .f32 :=
  bitcastToFloat .f32 (andi (scaleBits v) (broadcast S16x128 4286578688#32))

/-- The four heads' significands, one byte each, transposed: token on the rows. -/
def mantWords (v0 v1 v2 v3 : Vec F S1x16x128 .f32) : IVec S128x16 32 :=
  transpose S128x16 [1, 0]
    (ori (ori (ori (scaleMant v0) (shli (scaleMant v1) (broadcast S16x128 8#32)))
      (shli (scaleMant v2) (broadcast S16x128 16#32))) (shli (scaleMant v3) (broadcast S16x128 24#32)))
    transposes_S16x128_p1_0_S128x16

/-- The four heads' powers of two side by side. -/
def powRow (v0 v1 v2 v3 : Vec F S1x16x128 .f32) : FVec F S16x512 .f32 :=
  concatenate S16x512 1 [⟨S16x128, scalePow v0⟩, ⟨S16x128, scalePow v1⟩, ⟨S16x128, scalePow v2⟩, ⟨S16x128, scalePow v3⟩]
    concatenates_S16x128_S16x128_S16x128_S16x128_S16x512_d1

/-- The powers of both caches, interleaved by the matrix `il` to the lanes' order. -/
def interleaved (kp vp : FVec F S16x512 .f32) (il : Vec F S512x512 .bf16) : FVec F S32x512 .f32 :=
  matmul dot_S32x512_S512x512_S32x512_1_0_0_1_n_n none
    (truncf .bf16 (concatenate S32x512 0 [⟨S16x512, kp⟩, ⟨S16x512, vp⟩] concatenates_S16x512_S16x512_S32x512_d0)
      bitsLt_bf16_f32)
    (shapeCast S512x512 il shapeCasts_S512x512_S512x512) (constant S32x512 .f32 0x00000000#32)

/-- The key cache's lane factors. -/
def kFactor (kp vp : FVec F S16x512 .f32) (il : Vec F S512x512 .bf16) : FVec F S16x512 .f32 :=
  mulf (extractStridedSlice S16x512 ![0, 0] (interleaved kp vp il) slices_S32x512_o0_0_S16x512)
    (broadcast S16x512 (Scalar.ofBits .f32 0x3A3504F3#32))

/-- The value cache's lane factors. -/
def vFactor (kp vp : FVec F S16x512 .f32) (il : Vec F S512x512 .bf16) : FVec F S16x512 .f32 :=
  mulf (extractStridedSlice S16x512 ![16, 0] (interleaved kp vp il) slices_S32x512_o16_0_S16x512)
    (broadcast S16x512 (Scalar.ofBits .f32 0x3C000000#32))

/-- A chunk of 256 rows of a cache, codes times significands: the words of `wt` at rows `l …` of column `c`. -/
def chunk (wt : IVec S128x16 32) (l c : Nat) (hs : S128x16.Slices ![l, c] S64x1) (C : Vec F S1x256x128 .i8) :
    FVec F S256x128 .bf16 :=
  mulf
    (sitofp .bf16 (bitcast S256x128 8 (bitcast S64x128 32 (shapeCast S256x128 C shapeCasts_S1x256x128_S256x128)
      bitcasts_S256x128_w8_S64x128_w32) bitcasts_S64x128_w32_S256x128_w8))
    (uitofp .bf16 (bitcast S256x128 8 (broadcastTo S64x128 (shapeCast S64x1 (extractStridedSlice S64x1 ![l, c] wt hs)
      shapeCasts_S64x1_S64x1) broadcasts_S64x1_S64x128) bitcasts_S64x128_w32_S256x128_w8))

/-- Two chunks side by side. -/
def chunkPair (a b : FVec F S256x128 .bf16) : FVec F S256x256 .bf16 :=
  concatenate S256x256 1 [⟨S256x128, a⟩, ⟨S256x128, b⟩] concatenates_S256x128_S256x128_S256x256_d1

/-- The product of the queries with two chunks of keys. -/
def qk (q : FVec F S64x256 .bf16) (k : FVec F S256x256 .bf16) : FVec F S64x256 .f32 :=
  matmul dot_S64x256_S256x256_S64x256_1_1_0_0_n_n none q k (constant S64x256 .f32 0x00000000#32)

/-- Of the four heads' rows, at each lane those of the lane's head. -/
def ownHead (cls : IVec S8x256 32) (s : FVec F S32x256 .f32) : FVec F S8x256 .f32 :=
  select (cmpi .eq cls (broadcast S8x256 0#32)) (extractStridedSlice S8x256 ![0, 0] s slices_S32x256_o0_0_S8x256)
    (select (cmpi .eq cls (broadcast S8x256 1#32)) (extractStridedSlice S8x256 ![8, 0] s slices_S32x256_o8_0_S8x256)
      (select (cmpi .eq cls (broadcast S8x256 2#32)) (extractStridedSlice S8x256 ![16, 0] s slices_S32x256_o16_0_S8x256)
        (extractStridedSlice S8x256 ![24, 0] s slices_S32x256_o24_0_S8x256)))

/-- A row of lane factors. -/
def laneFactor (f : FVec F S16x512 .f32) (c l : Nat) (hs : S16x512.Slices ![c, l] S1x256) : FVec F S8x256 .f32 :=
  broadcastTo S8x256 (extractStridedSlice S1x256 ![c, l] f hs) broadcasts_S1x256_S8x256

/-- The scores of one chunk, from the rows `o …` of the product. -/
def scoreTile (s : FVec F S64x256 .f32) (o : Nat) (ho : S64x256.Slices ![o, 0] S32x256) (f : FVec F S16x512 .f32)
    (c l : Nat) (hs : S16x512.Slices ![c, l] S1x256) : FVec F S8x256 .f32 :=
  mulf (ownHead k0_pay82 (extractStridedSlice S32x256 ![o, 0] s ho)) (laneFactor f c l hs)

/-- The new token's row of keys or values over zero rows. -/
def newRows (codes : FVec F S4x128 .f32) (scale : FVec F S4x1 .f32) : FVec F S128x128 .bf16 :=
  concatenate S128x128 0
    [⟨S4x128, mulf (truncf .bf16 codes bitsLt_bf16_f32)
        (broadcastTo S4x128 (truncf .bf16 scale bitsLt_bf16_f32) broadcasts_S4x1_S4x128)⟩,
     ⟨S124x128, broadcast S124x128 (Scalar.ofBits .bf16 0x0000#16)⟩] concatenates_S4x128_S124x128_S128x128_d0

/-- Of the four heads' rows, at each of 128 lanes those of the lane's head. -/
def ownHead1 (cls : IVec S8x128 32) (s : FVec F S32x128 .f32) : FVec F S8x128 .f32 :=
  select (cmpi .eq cls (broadcast S8x128 0#32)) (extractStridedSlice S8x128 ![0, 0] s slices_S32x128_o0_0_S8x128)
    (select (cmpi .eq cls (broadcast S8x128 1#32)) (extractStridedSlice S8x128 ![8, 0] s slices_S32x128_o8_0_S8x128)
      (select (cmpi .eq cls (broadcast S8x128 2#32)) (extractStridedSlice S8x128 ![16, 0] s slices_S32x128_o16_0_S8x128)
        (extractStridedSlice S8x128 ![24, 0] s slices_S32x128_o24_0_S8x128)))

/-- The new token's scores: one lane per head, -∞ at the other lanes. -/
def newScore (q : FVec F S32x128 .bf16) (codes : FVec F S4x128 .f32) (scale : FVec F S4x1 .f32) : FVec F S8x128 .f32 :=
  select k0_pay174
    (mulf (ownHead1 k0_pay83 (matmul dot_S32x128_S128x128_S32x128_1_1_0_0_n_n none q (newRows codes scale)
        (constant S32x128 .f32 0x00000000#32))) (broadcast S8x128 (Scalar.ofBits .f32 0x3DB504F3#32)))
    (broadcast S8x128 (Scalar.ofBits .f32 0xFF800000#32))

/-- A step of the running maximum per lane. -/
def maxStep (mx : FVec F S8x128 .f32) (s : FVec F S8x256 .f32) : FVec F S8x128 .f32 :=
  maximumf mx (maximumf (extractStridedSlice S8x128 ![0, 0] s slices_S8x256_o0_0_S8x128)
    (extractStridedSlice S8x128 ![0, 128] s slices_S8x256_o0_128_S8x128))

/-- The maximum over the lanes of head `h`. -/
def headMax (mx : FVec F S8x128 .f32) (h : BitVec 32) : FVec F S8x1 .f32 :=
  shapeCast S8x1 (multiReduction .maximumf [1] S8
    (select (cmpi .eq k0_pay83 (broadcast S8x128 h)) mx (broadcast S8x128 (Scalar.ofBits .f32 0xFF800000#32)))
    0xFF800000#32 reduces_S8x128_S8 (.inl rfl) rfl) shapeCasts_S8_S8x1

/-- A column copied to the lanes. -/
def toLanes (m : FVec F S8x1 .f32) : FVec F S8x128 .f32 :=
  broadcastTo S8x128 (shapeCast S8x1 m shapeCasts_S8x1_S8x1) broadcasts_S8x1_S8x128

/-- At each lane the maximum of the lane's head. -/
def laneMax (mx : FVec F S8x128 .f32) : FVec F S8x128 .f32 :=
  select (cmpi .eq k0_pay83 (broadcast S8x128 3#32)) (toLanes (headMax mx 3#32))
    (select (cmpi .eq k0_pay83 (broadcast S8x128 2#32)) (toLanes (headMax mx 2#32))
      (select (cmpi .eq k0_pay83 (broadcast S8x128 1#32)) (toLanes (headMax mx 1#32)) (toLanes (headMax mx 0#32))))

/-- The lane maxima twice, for the 256 lanes of a tile. -/
def laneMax2 (m : FVec F S8x128 .f32) : FVec F S8x256 .f32 :=
  concatenate S8x256 1 [⟨S8x128, m⟩, ⟨S8x128, m⟩] concatenates_S8x128_S8x128_S8x256_d1

/-- The weights of a tile. -/
def weight (s m2 : FVec F S8x256 .f32) : FVec F S8x256 .f32 := exp (subf s m2)

/-- A step of the running sum of the weights, per lane. -/
def sumStep (l : FVec F S8x128 .f32) (pa pb : FVec F S8x256 .f32) : FVec F S8x128 .f32 :=
  addf l (addf (addf (extractStridedSlice S8x128 ![0, 0] pa slices_S8x256_o0_0_S8x128)
      (extractStridedSlice S8x128 ![0, 128] pa slices_S8x256_o0_128_S8x128))
    (addf (extractStridedSlice S8x128 ![0, 0] pb slices_S8x256_o0_0_S8x128)
      (extractStridedSlice S8x128 ![0, 128] pb slices_S8x256_o0_128_S8x128)))

/-- What is left of `r` after its rounding to bfloat16. -/
def leftOver {s : Shape} (r : FVec F s .f32) : FVec F s .f32 :=
  subf r (extf .f32 (truncf .bf16 r bitsLt_bf16_f32) bitsLt_bf16_f32)

/-- The weights as rows of the four heads, zero where the lane is another head's. -/
def headRows (cls16 : IVec S32x256 1) (r : FVec F S8x256 .f32) : FVec F S32x256 .bf16 :=
  select cls16
    (concatenate S32x256 0 [⟨S8x256, truncf .bf16 r bitsLt_bf16_f32⟩, ⟨S8x256, truncf .bf16 r bitsLt_bf16_f32⟩,
      ⟨S8x256, truncf .bf16 r bitsLt_bf16_f32⟩, ⟨S8x256, truncf .bf16 r bitsLt_bf16_f32⟩]
      concatenates_S8x256_S8x256_S8x256_S8x256_S32x256_d0)
    (broadcast S32x256 (Scalar.ofBits .bf16 0x0000#16))

/-- The three parts of the weights of two tiles, on top of each other. -/
def sixRows (cls16 : IVec S32x256 1) (ra rb : FVec F S8x256 .f32) : FVec F S192x256 .bf16 :=
  concatenate S192x256 0
    [⟨S32x256, headRows cls16 ra⟩, ⟨S32x256, headRows cls16 (leftOver ra)⟩,
     ⟨S32x256, headRows cls16 (leftOver (leftOver ra))⟩,
     ⟨S32x256, headRows cls16 rb⟩, ⟨S32x256, headRows cls16 (leftOver rb)⟩,
     ⟨S32x256, headRows cls16 (leftOver (leftOver rb))⟩]
    concatenates_S32x256_S32x256_S32x256_S32x256_S32x256_S32x256_S192x256_d0

/-- A step of the accumulators. -/
def accStep (acc : FVec F S192x256 .f32) (lhs : FVec F S192x256 .bf16) (v : FVec F S256x256 .bf16) :
    FVec F S192x256 .f32 :=
  addf acc (matmul dot_S192x256_S256x256_S192x256_1_0_0_1_n_n none lhs v (constant S192x256 .f32 0x00000000#32))

/-- The new token's weights as rows of the four heads. -/
def headRows1 (cls16 : IVec S32x128 1) (r : FVec F S8x128 .f32) : FVec F S32x128 .bf16 :=
  select cls16
    (concatenate S32x128 0 [⟨S8x128, truncf .bf16 r bitsLt_bf16_f32⟩, ⟨S8x128, truncf .bf16 r bitsLt_bf16_f32⟩,
      ⟨S8x128, truncf .bf16 r bitsLt_bf16_f32⟩, ⟨S8x128, truncf .bf16 r bitsLt_bf16_f32⟩]
      concatenates_S8x128_S8x128_S8x128_S8x128_S32x128_d0)
    (broadcast S32x128 (Scalar.ofBits .bf16 0x0000#16))

/-- The three parts of the new token's weights. -/
def threeRows (cls16 : IVec S32x128 1) (r : FVec F S8x128 .f32) : FVec F S96x128 .bf16 :=
  concatenate S96x128 0
    [⟨S32x128, headRows1 cls16 r⟩, ⟨S32x128, headRows1 cls16 (leftOver r)⟩,
     ⟨S32x128, headRows1 cls16 (leftOver (leftOver r))⟩] concatenates_S32x128_S32x128_S32x128_S96x128_d0

/-- The new token's part of the numerators. -/
def accNew (lhs : FVec F S96x128 .bf16) (v : FVec F S128x128 .bf16) : FVec F S96x128 .f32 :=
  matmul dot_S96x128_S128x128_S96x128_1_0_0_1_n_n none lhs v (constant S96x128 .f32 0x00000000#32)

/-- The numerators: the parts of the new token and of the accumulators added up. -/
def numer (accx : FVec F S96x128 .f32) (acc : FVec F S192x256 .f32) : FVec F S32x128 .f32 :=
  addf (addf (addf (addf (addf (addf
    (addf (addf (extractStridedSlice S32x128 ![0, 0] accx slices_S96x128_o0_0_S32x128)
        (extractStridedSlice S32x128 ![32, 0] accx slices_S96x128_o32_0_S32x128))
      (extractStridedSlice S32x128 ![64, 0] accx slices_S96x128_o64_0_S32x128))
    (extractStridedSlice S32x128 ![0, 0] acc slices_S192x256_o0_0_S32x128))
    (extractStridedSlice S32x128 ![96, 128] acc slices_S192x256_o96_128_S32x128))
    (extractStridedSlice S32x128 ![32, 0] acc slices_S192x256_o32_0_S32x128))
    (extractStridedSlice S32x128 ![128, 128] acc slices_S192x256_o128_128_S32x128))
    (extractStridedSlice S32x128 ![64, 0] acc slices_S192x256_o64_0_S32x128))
    (extractStridedSlice S32x128 ![160, 128] acc slices_S192x256_o160_128_S32x128)

/-- The sum of the weights of head `h`. -/
def headSum (l : FVec F S8x128 .f32) (h : BitVec 32) : FVec F S8x128 .f32 :=
  broadcastTo S8x128 (shapeCast S8x1 (multiReduction .add [1] S8
    (select (cmpi .eq k0_pay83 (broadcast S8x128 h)) l (broadcast S8x128 (Scalar.ofBits .f32 0x00000000#32)))
    0x00000000#32 reduces_S8x128_S8 (.inl rfl) rfl) shapeCasts_S8_S8x1) broadcasts_S8x1_S8x128

/-- The quotients, head by head. -/
def quotient (l : FVec F S8x128 .f32) (out : FVec F S32x128 .f32) : FVec F S32x128 .f32 :=
  concatenate S32x128 0
    [⟨S8x128, divf (extractStridedSlice S8x128 ![0, 0] out slices_S32x128_o0_0_S8x128) (headSum l 0#32)⟩,
     ⟨S8x128, divf (extractStridedSlice S8x128 ![8, 0] out slices_S32x128_o8_0_S8x128) (headSum l 1#32)⟩,
     ⟨S8x128, divf (extractStridedSlice S8x128 ![16, 0] out slices_S32x128_o16_0_S8x128) (headSum l 2#32)⟩,
     ⟨S8x128, divf (extractStridedSlice S8x128 ![24, 0] out slices_S32x128_o24_0_S8x128) (headSum l 3#32)⟩]
    concatenates_S8x128_S8x128_S8x128_S8x128_S32x128_d0

/-- The masks of the four heads' rows: the lanes of the row's own head. -/
def headMask : IVec S32x256 1 :=
  k0_pay87 (iota .tc S32x256 32 [0] iota_S32x256_d0_w32) 8#32 k0_pay84 k0_pay85 k0_pay86

end Cert.KernelIdeal.Gen

end
-- ==== Proof.Attn.Link.lean ====
/-
  The values named in one grid point's run, each as a piece of the vector computation of the values before it.
-/
module

public import proofs.«01_k».proof.Proof.Attn.Model
public import proofs.«01_k».proof.Proof.Gen.KernelIdeal.Frame.RunA

@[expose] public section

set_option synthInstance.maxSize 4096
set_option maxRecDepth 65536

noncomputable section

namespace Cert.KernelIdeal.Gen

open Idealize.ShloMosaic Idealize.SL.Sem

variable {F : FTy → Type} [FloatOps F]

/-- Head 0's scales: every fourth row from row 0. -/
def scaleLoad0 (arg : Memref sig .tc .vmem S1x64x128 .f32) (harg : arg.IsWhole) (x : Vec F S1x64x128 .f32) :
    Vec F S1x16x128 .f32 :=
  View.readAt (Elt F) arg.view
    { off := ![0, 0, 0], size := S1x16x128.size, stride := ![1, 4, 1], inb := inb_S1x64x128_S1x16x128_0_0_0_s_1_4_1 }
    (harg.unread x)

/-- Head 1's scales: every fourth row from row 1. -/
def scaleLoad1 (arg : Memref sig .tc .vmem S1x64x128 .f32) (harg : arg.IsWhole) (x : Vec F S1x64x128 .f32) :
    Vec F S1x16x128 .f32 :=
  View.readAt (Elt F) arg.view
    { off := ![0, 1, 0], size := S1x16x128.size, stride := ![1, 4, 1], inb := inb_S1x64x128_S1x16x128_0_1_0_s_1_4_1 }
    (harg.unread x)

/-- Head 2's scales: every fourth row from row 2. -/
def scaleLoad2 (arg : Memref sig .tc .vmem S1x64x128 .f32) (harg : arg.IsWhole) (x : Vec F S1x64x128 .f32) :
    Vec F S1x16x128 .f32 :=
  View.readAt (Elt F) arg.view
    { off := ![0, 2, 0], size := S1x16x128.size, stride := ![1, 4, 1], inb := inb_S1x64x128_S1x16x128_0_2_0_s_1_4_1 }
    (harg.unread x)

/-- Head 3's scales: every fourth row from row 3. -/
def scaleLoad3 (arg : Memref sig .tc .vmem S1x64x128 .f32) (harg : arg.IsWhole) (x : Vec F S1x64x128 .f32) :
    Vec F S1x16x128 .f32 :=
  View.readAt (Elt F) arg.view
    { off := ![0, 3, 0], size := S1x16x128.size, stride := ![1, 4, 1], inb := inb_S1x64x128_S1x16x128_0_3_0_s_1_4_1 }
    (harg.unread x)

/-- The 256 rows of a cache from row `o`. -/
def chunkLoad (arg : Memref sig .tc .vmem S1x8192x128 .i8) (harg : arg.IsWhole) (x : Vec F S1x8192x128 .i8) (o : Nat)
    (inb : ∀ a, (![0, o, 0] : Fin 3 → Nat) a + S1x256x128.size a ≤ S1x8192x128.size a) : Vec F S1x256x128 .i8 :=
  View.readAt (Elt F) arg.view (Rect.unit (s := S1x8192x128) ![0, o, 0] S1x256x128.size inb).toLoadRect (harg.unread x)

variable (c : Dev nD) (arg1 : Memref sig .tc .vmem S1x32x128 .bf16) (harg1 : arg1.IsWhole)
  (arg2 : Memref sig .tc .vmem S1x4x128 .bf16) (harg2 : arg2.IsWhole)
  (arg3 : Memref sig .tc .vmem S1x4x128 .bf16) (harg3 : arg3.IsWhole)
  (arg4 : Memref sig .tc .vmem S1x8192x128 .i8) (harg4 : arg4.IsWhole)
  (arg5 : Memref sig .tc .vmem S1x64x128 .f32) (harg5 : arg5.IsWhole)
  (arg6 : Memref sig .tc .vmem S1x8192x128 .i8) (harg6 : arg6.IsWhole)
  (arg7 : Memref sig .tc .vmem S1x64x128 .f32) (harg7 : arg7.IsWhole)
  (arg8 : Memref sig .tc .vmem S512x512 .bf16) (harg8 : arg8.IsWhole)
  (x0 : Vec F S1x32x128 .bf16) (x1 x2 : Vec F S1x4x128 .bf16) (x3 : Vec F S1x8192x128 .i8)
  (x4 : Vec F S1x64x128 .f32) (x5 : Vec F S1x8192x128 .i8) (x6 : Vec F S1x64x128 .f32) (x7 : Vec F S512x512 .bf16)

/-- The key cache's significands. -/
theorem r_34_eq : (kernelRun0_A.sl.r_34 (F := F) c arg5 harg5 x4)
    = mantWords (scaleLoad0 arg5 harg5 x4) (scaleLoad1 arg5 harg5 x4) (scaleLoad2 arg5 harg5 x4) (scaleLoad3 arg5 harg5 x4) := (rfl)

/-- The key cache's powers of two. -/
theorem r_35_eq : (kernelRun0_A.sl.r_35 (F := F) c arg5 harg5 x4)
    = powRow (scaleLoad0 arg5 harg5 x4) (scaleLoad1 arg5 harg5 x4) (scaleLoad2 arg5 harg5 x4) (scaleLoad3 arg5 harg5 x4) := (rfl)

/-- The value cache's significands. -/
theorem r_62_eq : (kernelRun0_A.sl.r_62 (F := F) c arg7 harg7 x6)
    = mantWords (scaleLoad0 arg7 harg7 x6) (scaleLoad1 arg7 harg7 x6) (scaleLoad2 arg7 harg7 x6) (scaleLoad3 arg7 harg7 x6) := (rfl)

/-- The key cache's lane factors. -/
theorem r_63_eq : (kernelRun0_A.sl.r_63 (F := F) c arg5 harg5 arg7 harg7 arg8 harg8 x4 x6 x7)
    = kFactor (kernelRun0_A.sl.r_35 (F := F) c arg5 harg5 x4) (powRow (scaleLoad0 arg7 harg7 x6) (scaleLoad1 arg7 harg7 x6) (scaleLoad2 arg7 harg7 x6) (scaleLoad3 arg7 harg7 x6))
      (View.readAt (Elt F) arg8.view (Rect.unit ![0, 0] S512x512.size inb_S512x512_S512x512_0_0).toLoadRect (harg8.unread x7)) := (rfl)

/-- The value cache's lane factors. -/
theorem r_64_eq : (kernelRun0_A.sl.r_64 (F := F) c arg5 harg5 arg7 harg7 arg8 harg8 x4 x6 x7)
    = vFactor (kernelRun0_A.sl.r_35 (F := F) c arg5 harg5 x4) (powRow (scaleLoad0 arg7 harg7 x6) (scaleLoad1 arg7 harg7 x6) (scaleLoad2 arg7 harg7 x6) (scaleLoad3 arg7 harg7 x6))
      (View.readAt (Elt F) arg8.view (Rect.unit ![0, 0] S512x512.size inb_S512x512_S512x512_0_0).toLoadRect (harg8.unread x7)) := (rfl)

/-- The mask of the heads' rows. -/
theorem r_65_eq : kernelRun0_A.sl.r_65 = headMask := (rfl)

/-- The scores of chunk 0. -/
theorem r_68_eq : (kernelRun0_A.sl.r_68 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 0 slices_S128x16_o0_0_S64x1 (chunkLoad arg4 harg4 x3 0 inb_S1x8192x128_S1x256x128_0_0_0))
      (chunk (kernelRun0_A.sl.r_34 (F := F) c arg5 harg5 x4) 0 8 slices_S128x16_o0_8_S64x1 (chunkLoad arg4 harg4 x3 4096 inb_S1x8192x128_S1x256x128_0_4096_0)))) 0 slices_S64x256_o0_0_S32x256
      (kernelRun0_A.sl.r_63 (F := F) c arg5 harg5 arg7 harg7 arg8 harg8 x4 x6 x7) 0 0 slices_S16x512_o0_0_S1x256 := (rfl)

/-- The scores of chunk 16. -/
theorem r_69_eq : (kernelRun0_A.sl.r_69 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 0 slices_S128x16_o0_0_S64x1 (chunkLoad arg4 harg4 x3 0 inb_S1x8192x128_S1x256x128_0_0_0))
      (chunk (kernelRun0_A.sl.r_34 (F := F) c arg5 harg5 x4) 0 8 slices_S128x16_o0_8_S64x1 (chunkLoad arg4 harg4 x3 4096 inb_S1x8192x128_S1x256x128_0_4096_0)))) 32 slices_S64x256_o32_0_S32x256
      (kernelRun0_A.sl.r_63 (F := F) c arg5 harg5 arg7 harg7 arg8 harg8 x4 x6 x7) 8 0 slices_S16x512_o8_0_S1x256 := (rfl)

/-- The scores of chunk 1. -/
theorem r_71_eq : (kernelRun0_A.sl.r_71 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 0 slices_S128x16_o64_0_S64x1 (chunkLoad arg4 harg4 x3 256 inb_S1x8192x128_S1x256x128_0_256_0))
      (chunk (kernelRun0_A.sl.r_34 (F := F) c arg5 harg5 x4) 64 8 slices_S128x16_o64_8_S64x1 (chunkLoad arg4 harg4 x3 4352 inb_S1x8192x128_S1x256x128_0_4352_0)))) 0 slices_S64x256_o0_0_S32x256
      (kernelRun0_A.sl.r_63 (F := F) c arg5 harg5 arg7 harg7 arg8 harg8 x4 x6 x7) 0 256 slices_S16x512_o0_256_S1x256 := (rfl)

/-- The scores of chunk 17. -/
theorem r_74_eq : (kernelRun0_A.sl.r_74 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 0 slices_S128x16_o64_0_S64x1 (chunkLoad arg4 harg4 x3 256 inb_S1x8192x128_S1x256x128_0_256_0))
      (chunk (kernelRun0_A.sl.r_34 (F := F) c arg5 harg5 x4) 64 8 slices_S128x16_o64_8_S64x1 (chunkLoad arg4 harg4 x3 4352 inb_S1x8192x128_S1x256x128_0_4352_0)))) 32 slices_S64x256_o32_0_S32x256
      (kernelRun0_A.sl.r_63 (F := F) c arg5 harg5 arg7 harg7 arg8 harg8 x4 x6 x7) 8 256 slices_S16x512_o8_256_S1x256 := (rfl)

/-- The scores of chunk 2. -/
theorem r_75_eq : (kernelRun0_A.sl.r_75 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 1 slices_S128x16_o0_1_S64x1 (chunkLoad arg4 harg4 x3 512 inb_S1x8192x128_S1x256x128_0_512_0))
      (chunk (kernelRun0_A.sl.r_34 (F := F) c arg5 harg5 x4) 0 9 slices_S128x16_o0_9_S64x1 (chunkLoad arg4 harg4 x3 4608 inb_S1x8192x128_S1x256x128_0_4608_0)))) 0 slices_S64x256_o0_0_S32x256
      (kernelRun0_A.sl.r_63 (F := F) c arg5 harg5 arg7 harg7 arg8 harg8 x4 x6 x7) 1 0 slices_S16x512_o1_0_S1x256 := (rfl)

/-- The scores of chunk 18. -/
theorem r_78_eq : (kernelRun0_A.sl.r_78 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 1 slices_S128x16_o0_1_S64x1 (chunkLoad arg4 harg4 x3 512 inb_S1x8192x128_S1x256x128_0_512_0))
      (chunk (kernelRun0_A.sl.r_34 (F := F) c arg5 harg5 x4) 0 9 slices_S128x16_o0_9_S64x1 (chunkLoad arg4 harg4 x3 4608 inb_S1x8192x128_S1x256x128_0_4608_0)))) 32 slices_S64x256_o32_0_S32x256
      (kernelRun0_A.sl.r_63 (F := F) c arg5 harg5 arg7 harg7 arg8 harg8 x4 x6 x7) 9 0 slices_S16x512_o9_0_S1x256 := (rfl)

/-- The scores of chunk 3. -/
theorem r_83_eq : (kernelRun0_A.sl.r_83 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 1 slices_S128x16_o64_1_S64x1 (chunkLoad arg4 harg4 x3 768 inb_S1x8192x128_S1x256x128_0_768_0))
      (chunk (kernelRun0_A.sl.r_34 (F := F) c arg5 harg5 x4) 64 9 slices_S128x16_o64_9_S64x1 (chunkLoad arg4 harg4 x3 4864 inb_S1x8192x128_S1x256x128_0_4864_0)))) 0 slices_S64x256_o0_0_S32x256
      (kernelRun0_A.sl.r_63 (F := F) c arg5 harg5 arg7 harg7 arg8 harg8 x4 x6 x7) 1 256 slices_S16x512_o1_256_S1x256 := (rfl)

/-- The scores of chunk 19. -/
theorem r_84_eq : (kernelRun0_A.sl.r_84 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 1 slices_S128x16_o64_1_S64x1 (chunkLoad arg4 harg4 x3 768 inb_S1x8192x128_S1x256x128_0_768_0))
      (chunk (kernelRun0_A.sl.r_34 (F := F) c arg5 harg5 x4) 64 9 slices_S128x16_o64_9_S64x1 (chunkLoad arg4 harg4 x3 4864 inb_S1x8192x128_S1x256x128_0_4864_0)))) 32 slices_S64x256_o32_0_S32x256
      (kernelRun0_A.sl.r_63 (F := F) c arg5 harg5 arg7 harg7 arg8 harg8 x4 x6 x7) 9 256 slices_S16x512_o9_256_S1x256 := (rfl)

/-- The scores of chunk 4. -/
theorem r_86_eq : (kernelRun0_A.sl.r_86 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 2 slices_S128x16_o0_2_S64x1 (chunkLoad arg4 harg4 x3 1024 inb_S1x8192x128_S1x256x128_0_1024_0))
      (chunk (kernelRun0_A.sl.r_34 (F := F) c arg5 harg5 x4) 0 10 slices_S128x16_o0_10_S64x1 (chunkLoad arg4 harg4 x3 5120 inb_S1x8192x128_S1x256x128_0_5120_0)))) 0 slices_S64x256_o0_0_S32x256
      (kernelRun0_A.sl.r_63 (F := F) c arg5 harg5 arg7 harg7 arg8 harg8 x4 x6 x7) 2 0 slices_S16x512_o2_0_S1x256 := (rfl)

/-- The scores of chunk 20. -/
theorem r_87_eq : (kernelRun0_A.sl.r_87 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 2 slices_S128x16_o0_2_S64x1 (chunkLoad arg4 harg4 x3 1024 inb_S1x8192x128_S1x256x128_0_1024_0))
      (chunk (kernelRun0_A.sl.r_34 (F := F) c arg5 harg5 x4) 0 10 slices_S128x16_o0_10_S64x1 (chunkLoad arg4 harg4 x3 5120 inb_S1x8192x128_S1x256x128_0_5120_0)))) 32 slices_S64x256_o32_0_S32x256
      (kernelRun0_A.sl.r_63 (F := F) c arg5 harg5 arg7 harg7 arg8 harg8 x4 x6 x7) 10 0 slices_S16x512_o10_0_S1x256 := (rfl)

/-- The scores of chunk 5. -/
theorem r_90_eq : (kernelRun0_A.sl.r_90 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 2 slices_S128x16_o64_2_S64x1 (chunkLoad arg4 harg4 x3 1280 inb_S1x8192x128_S1x256x128_0_1280_0))
      (chunk (kernelRun0_A.sl.r_34 (F := F) c arg5 harg5 x4) 64 10 slices_S128x16_o64_10_S64x1 (chunkLoad arg4 harg4 x3 5376 inb_S1x8192x128_S1x256x128_0_5376_0)))) 0 slices_S64x256_o0_0_S32x256
      (kernelRun0_A.sl.r_63 (F := F) c arg5 harg5 arg7 harg7 arg8 harg8 x4 x6 x7) 2 256 slices_S16x512_o2_256_S1x256 := (rfl)

/-- The scores of chunk 21. -/
theorem r_91_eq : (kernelRun0_A.sl.r_91 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 2 slices_S128x16_o64_2_S64x1 (chunkLoad arg4 harg4 x3 1280 inb_S1x8192x128_S1x256x128_0_1280_0))
      (chunk (kernelRun0_A.sl.r_34 (F := F) c arg5 harg5 x4) 64 10 slices_S128x16_o64_10_S64x1 (chunkLoad arg4 harg4 x3 5376 inb_S1x8192x128_S1x256x128_0_5376_0)))) 32 slices_S64x256_o32_0_S32x256
      (kernelRun0_A.sl.r_63 (F := F) c arg5 harg5 arg7 harg7 arg8 harg8 x4 x6 x7) 10 256 slices_S16x512_o10_256_S1x256 := (rfl)

/-- The scores of chunk 6. -/
theorem r_94_eq : (kernelRun0_A.sl.r_94 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 3 slices_S128x16_o0_3_S64x1 (chunkLoad arg4 harg4 x3 1536 inb_S1x8192x128_S1x256x128_0_1536_0))
      (chunk (kernelRun0_A.sl.r_34 (F := F) c arg5 harg5 x4) 0 11 slices_S128x16_o0_11_S64x1 (chunkLoad arg4 harg4 x3 5632 inb_S1x8192x128_S1x256x128_0_5632_0)))) 0 slices_S64x256_o0_0_S32x256
      (kernelRun0_A.sl.r_63 (F := F) c arg5 harg5 arg7 harg7 arg8 harg8 x4 x6 x7) 3 0 slices_S16x512_o3_0_S1x256 := (rfl)

/-- The scores of chunk 22. -/
theorem r_97_eq : (kernelRun0_A.sl.r_97 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 3 slices_S128x16_o0_3_S64x1 (chunkLoad arg4 harg4 x3 1536 inb_S1x8192x128_S1x256x128_0_1536_0))
      (chunk (kernelRun0_A.sl.r_34 (F := F) c arg5 harg5 x4) 0 11 slices_S128x16_o0_11_S64x1 (chunkLoad arg4 harg4 x3 5632 inb_S1x8192x128_S1x256x128_0_5632_0)))) 32 slices_S64x256_o32_0_S32x256
      (kernelRun0_A.sl.r_63 (F := F) c arg5 harg5 arg7 harg7 arg8 harg8 x4 x6 x7) 11 0 slices_S16x512_o11_0_S1x256 := (rfl)

/-- The scores of chunk 7. -/
theorem r_98_eq : (kernelRun0_A.sl.r_98 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 3 slices_S128x16_o64_3_S64x1 (chunkLoad arg4 harg4 x3 1792 inb_S1x8192x128_S1x256x128_0_1792_0))
      (chunk (kernelRun0_A.sl.r_34 (F := F) c arg5 harg5 x4) 64 11 slices_S128x16_o64_11_S64x1 (chunkLoad arg4 harg4 x3 5888 inb_S1x8192x128_S1x256x128_0_5888_0)))) 0 slices_S64x256_o0_0_S32x256
      (kernelRun0_A.sl.r_63 (F := F) c arg5 harg5 arg7 harg7 arg8 harg8 x4 x6 x7) 3 256 slices_S16x512_o3_256_S1x256 := (rfl)

/-- The scores of chunk 23. -/
theorem r_101_eq : (kernelRun0_A.sl.r_101 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 3 slices_S128x16_o64_3_S64x1 (chunkLoad arg4 harg4 x3 1792 inb_S1x8192x128_S1x256x128_0_1792_0))
      (chunk (kernelRun0_A.sl.r_34 (F := F) c arg5 harg5 x4) 64 11 slices_S128x16_o64_11_S64x1 (chunkLoad arg4 harg4 x3 5888 inb_S1x8192x128_S1x256x128_0_5888_0)))) 32 slices_S64x256_o32_0_S32x256
      (kernelRun0_A.sl.r_63 (F := F) c arg5 harg5 arg7 harg7 arg8 harg8 x4 x6 x7) 11 256 slices_S16x512_o11_256_S1x256 := (rfl)

/-- The scores of chunk 8. -/
theorem r_105_eq : (kernelRun0_A.sl.r_105 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 4 slices_S128x16_o0_4_S64x1 (chunkLoad arg4 harg4 x3 2048 inb_S1x8192x128_S1x256x128_0_2048_0))
      (chunk (kernelRun0_A.sl.r_34 (F := F) c arg5 harg5 x4) 0 12 slices_S128x16_o0_12_S64x1 (chunkLoad arg4 harg4 x3 6144 inb_S1x8192x128_S1x256x128_0_6144_0)))) 0 slices_S64x256_o0_0_S32x256
      (kernelRun0_A.sl.r_63 (F := F) c arg5 harg5 arg7 harg7 arg8 harg8 x4 x6 x7) 4 0 slices_S16x512_o4_0_S1x256 := (rfl)

/-- The scores of chunk 24. -/
theorem r_106_eq : (kernelRun0_A.sl.r_106 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 4 slices_S128x16_o0_4_S64x1 (chunkLoad arg4 harg4 x3 2048 inb_S1x8192x128_S1x256x128_0_2048_0))
      (chunk (kernelRun0_A.sl.r_34 (F := F) c arg5 harg5 x4) 0 12 slices_S128x16_o0_12_S64x1 (chunkLoad arg4 harg4 x3 6144 inb_S1x8192x128_S1x256x128_0_6144_0)))) 32 slices_S64x256_o32_0_S32x256
      (kernelRun0_A.sl.r_63 (F := F) c arg5 harg5 arg7 harg7 arg8 harg8 x4 x6 x7) 12 0 slices_S16x512_o12_0_S1x256 := (rfl)

/-- The scores of chunk 9. -/
theorem r_110_eq : (kernelRun0_A.sl.r_110 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 4 slices_S128x16_o64_4_S64x1 (chunkLoad arg4 harg4 x3 2304 inb_S1x8192x128_S1x256x128_0_2304_0))
      (chunk (kernelRun0_A.sl.r_34 (F := F) c arg5 harg5 x4) 64 12 slices_S128x16_o64_12_S64x1 (chunkLoad arg4 harg4 x3 6400 inb_S1x8192x128_S1x256x128_0_6400_0)))) 0 slices_S64x256_o0_0_S32x256
      (kernelRun0_A.sl.r_63 (F := F) c arg5 harg5 arg7 harg7 arg8 harg8 x4 x6 x7) 4 256 slices_S16x512_o4_256_S1x256 := (rfl)

/-- The scores of chunk 25. -/
theorem r_111_eq : (kernelRun0_A.sl.r_111 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 4 slices_S128x16_o64_4_S64x1 (chunkLoad arg4 harg4 x3 2304 inb_S1x8192x128_S1x256x128_0_2304_0))
      (chunk (kernelRun0_A.sl.r_34 (F := F) c arg5 harg5 x4) 64 12 slices_S128x16_o64_12_S64x1 (chunkLoad arg4 harg4 x3 6400 inb_S1x8192x128_S1x256x128_0_6400_0)))) 32 slices_S64x256_o32_0_S32x256
      (kernelRun0_A.sl.r_63 (F := F) c arg5 harg5 arg7 harg7 arg8 harg8 x4 x6 x7) 12 256 slices_S16x512_o12_256_S1x256 := (rfl)

/-- The scores of chunk 10. -/
theorem r_115_eq : (kernelRun0_A.sl.r_115 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 5 slices_S128x16_o0_5_S64x1 (chunkLoad arg4 harg4 x3 2560 inb_S1x8192x128_S1x256x128_0_2560_0))
      (chunk (kernelRun0_A.sl.r_34 (F := F) c arg5 harg5 x4) 0 13 slices_S128x16_o0_13_S64x1 (chunkLoad arg4 harg4 x3 6656 inb_S1x8192x128_S1x256x128_0_6656_0)))) 0 slices_S64x256_o0_0_S32x256
      (kernelRun0_A.sl.r_63 (F := F) c arg5 harg5 arg7 harg7 arg8 harg8 x4 x6 x7) 5 0 slices_S16x512_o5_0_S1x256 := (rfl)

/-- The scores of chunk 26. -/
theorem r_116_eq : (kernelRun0_A.sl.r_116 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 5 slices_S128x16_o0_5_S64x1 (chunkLoad arg4 harg4 x3 2560 inb_S1x8192x128_S1x256x128_0_2560_0))
      (chunk (kernelRun0_A.sl.r_34 (F := F) c arg5 harg5 x4) 0 13 slices_S128x16_o0_13_S64x1 (chunkLoad arg4 harg4 x3 6656 inb_S1x8192x128_S1x256x128_0_6656_0)))) 32 slices_S64x256_o32_0_S32x256
      (kernelRun0_A.sl.r_63 (F := F) c arg5 harg5 arg7 harg7 arg8 harg8 x4 x6 x7) 13 0 slices_S16x512_o13_0_S1x256 := (rfl)

/-- The scores of chunk 11. -/
theorem r_118_eq : (kernelRun0_A.sl.r_118 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 5 slices_S128x16_o64_5_S64x1 (chunkLoad arg4 harg4 x3 2816 inb_S1x8192x128_S1x256x128_0_2816_0))
      (chunk (kernelRun0_A.sl.r_34 (F := F) c arg5 harg5 x4) 64 13 slices_S128x16_o64_13_S64x1 (chunkLoad arg4 harg4 x3 6912 inb_S1x8192x128_S1x256x128_0_6912_0)))) 0 slices_S64x256_o0_0_S32x256
      (kernelRun0_A.sl.r_63 (F := F) c arg5 harg5 arg7 harg7 arg8 harg8 x4 x6 x7) 5 256 slices_S16x512_o5_256_S1x256 := (rfl)

/-- The scores of chunk 27. -/
theorem r_119_eq : (kernelRun0_A.sl.r_119 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 5 slices_S128x16_o64_5_S64x1 (chunkLoad arg4 harg4 x3 2816 inb_S1x8192x128_S1x256x128_0_2816_0))
      (chunk (kernelRun0_A.sl.r_34 (F := F) c arg5 harg5 x4) 64 13 slices_S128x16_o64_13_S64x1 (chunkLoad arg4 harg4 x3 6912 inb_S1x8192x128_S1x256x128_0_6912_0)))) 32 slices_S64x256_o32_0_S32x256
      (kernelRun0_A.sl.r_63 (F := F) c arg5 harg5 arg7 harg7 arg8 harg8 x4 x6 x7) 13 256 slices_S16x512_o13_256_S1x256 := (rfl)

/-- The scores of chunk 12. -/
theorem r_121_eq : (kernelRun0_A.sl.r_121 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 6 slices_S128x16_o0_6_S64x1 (chunkLoad arg4 harg4 x3 3072 inb_S1x8192x128_S1x256x128_0_3072_0))
      (chunk (kernelRun0_A.sl.r_34 (F := F) c arg5 harg5 x4) 0 14 slices_S128x16_o0_14_S64x1 (chunkLoad arg4 harg4 x3 7168 inb_S1x8192x128_S1x256x128_0_7168_0)))) 0 slices_S64x256_o0_0_S32x256
      (kernelRun0_A.sl.r_63 (F := F) c arg5 harg5 arg7 harg7 arg8 harg8 x4 x6 x7) 6 0 slices_S16x512_o6_0_S1x256 := (rfl)

/-- The scores of chunk 28. -/
theorem r_124_eq : (kernelRun0_A.sl.r_124 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 6 slices_S128x16_o0_6_S64x1 (chunkLoad arg4 harg4 x3 3072 inb_S1x8192x128_S1x256x128_0_3072_0))
      (chunk (kernelRun0_A.sl.r_34 (F := F) c arg5 harg5 x4) 0 14 slices_S128x16_o0_14_S64x1 (chunkLoad arg4 harg4 x3 7168 inb_S1x8192x128_S1x256x128_0_7168_0)))) 32 slices_S64x256_o32_0_S32x256
      (kernelRun0_A.sl.r_63 (F := F) c arg5 harg5 arg7 harg7 arg8 harg8 x4 x6 x7) 14 0 slices_S16x512_o14_0_S1x256 := (rfl)

/-- The scores of chunk 13. -/
theorem r_125_eq : (kernelRun0_A.sl.r_125 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 6 slices_S128x16_o64_6_S64x1 (chunkLoad arg4 harg4 x3 3328 inb_S1x8192x128_S1x256x128_0_3328_0))
      (chunk (kernelRun0_A.sl.r_34 (F := F) c arg5 harg5 x4) 64 14 slices_S128x16_o64_14_S64x1 (chunkLoad arg4 harg4 x3 7424 inb_S1x8192x128_S1x256x128_0_7424_0)))) 0 slices_S64x256_o0_0_S32x256
      (kernelRun0_A.sl.r_63 (F := F) c arg5 harg5 arg7 harg7 arg8 harg8 x4 x6 x7) 6 256 slices_S16x512_o6_256_S1x256 := (rfl)

/-- The scores of chunk 29. -/
theorem r_127_eq : (kernelRun0_A.sl.r_127 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 6 slices_S128x16_o64_6_S64x1 (chunkLoad arg4 harg4 x3 3328 inb_S1x8192x128_S1x256x128_0_3328_0))
      (chunk (kernelRun0_A.sl.r_34 (F := F) c arg5 harg5 x4) 64 14 slices_S128x16_o64_14_S64x1 (chunkLoad arg4 harg4 x3 7424 inb_S1x8192x128_S1x256x128_0_7424_0)))) 32 slices_S64x256_o32_0_S32x256
      (kernelRun0_A.sl.r_63 (F := F) c arg5 harg5 arg7 harg7 arg8 harg8 x4 x6 x7) 14 256 slices_S16x512_o14_256_S1x256 := (rfl)

/-- The scores of chunk 14. -/
theorem r_131_eq : (kernelRun0_A.sl.r_131 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 7 slices_S128x16_o0_7_S64x1 (chunkLoad arg4 harg4 x3 3584 inb_S1x8192x128_S1x256x128_0_3584_0))
      (chunk (kernelRun0_A.sl.r_34 (F := F) c arg5 harg5 x4) 0 15 slices_S128x16_o0_15_S64x1 (chunkLoad arg4 harg4 x3 7680 inb_S1x8192x128_S1x256x128_0_7680_0)))) 0 slices_S64x256_o0_0_S32x256
      (kernelRun0_A.sl.r_63 (F := F) c arg5 harg5 arg7 harg7 arg8 harg8 x4 x6 x7) 7 0 slices_S16x512_o7_0_S1x256 := (rfl)

/-- The scores of chunk 30. -/
theorem r_132_eq : (kernelRun0_A.sl.r_132 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 0 7 slices_S128x16_o0_7_S64x1 (chunkLoad arg4 harg4 x3 3584 inb_S1x8192x128_S1x256x128_0_3584_0))
      (chunk (kernelRun0_A.sl.r_34 (F := F) c arg5 harg5 x4) 0 15 slices_S128x16_o0_15_S64x1 (chunkLoad arg4 harg4 x3 7680 inb_S1x8192x128_S1x256x128_0_7680_0)))) 32 slices_S64x256_o32_0_S32x256
      (kernelRun0_A.sl.r_63 (F := F) c arg5 harg5 arg7 harg7 arg8 harg8 x4 x6 x7) 15 0 slices_S16x512_o15_0_S1x256 := (rfl)

/-- The scores of chunk 15. -/
theorem r_134_eq : (kernelRun0_A.sl.r_134 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 7 slices_S128x16_o64_7_S64x1 (chunkLoad arg4 harg4 x3 3840 inb_S1x8192x128_S1x256x128_0_3840_0))
      (chunk (kernelRun0_A.sl.r_34 (F := F) c arg5 harg5 x4) 64 15 slices_S128x16_o64_15_S64x1 (chunkLoad arg4 harg4 x3 7936 inb_S1x8192x128_S1x256x128_0_7936_0)))) 0 slices_S64x256_o0_0_S32x256
      (kernelRun0_A.sl.r_63 (F := F) c arg5 harg5 arg7 harg7 arg8 harg8 x4 x6 x7) 7 256 slices_S16x512_o7_256_S1x256 := (rfl)

/-- The scores of chunk 31. -/
theorem r_135_eq : (kernelRun0_A.sl.r_135 (F := F) c arg1 harg1 arg4 harg4 arg5 harg5 arg7 harg7 arg8 harg8 x0 x3 x4 x6 x7)
    = scoreTile (qk (kernelRun0_A.sl.r_1 (F := F) c arg1 harg1 x0) (chunkPair
      (chunk (kernelRun0_A.sl.r_34 (F := F) c arg5 harg5 x4) 64 7 slices_S128x16_o64_7_S64x1 (chunkLoad arg4 harg4 x3 3840 inb_S1x8192x128_S1x256x128_0_3840_0))
      (chunk (kernelRun0_A.sl.r_34 (F := F) c arg5 harg5 x4) 64 15 slices_S128x16_o64_15_S64x1 (chunkLoad arg4 harg4 x3 7936 inb_S1x8192x128_S1x256x128_0_7936_0)))) 32 slices_S64x256_o32_0_S32x256
      (kernelRun0_A.sl.r_63 (F := F) c arg5 harg5 arg7 harg7 arg8 harg8 x4 x6 x7) 15 256 slices_S16x512_o15_256_S1x256 := (rfl)

/-- The new token's scores. -/
theorem r_138_eq : (kernelRun0_A.sl.r_138 (F := F) c arg1 harg1 arg2 harg2 x0 x1)
    = newScore (kernelRun0_A.sl.r (F := F) c arg1 harg1 x0) (kernelRun0_A.sl.r_3 (F := F) c arg2 harg2 x1) (kernelRun0_A.sl.r_2 (F := F) c arg2 harg2 x1) := (rfl)

/-- The maximum over the tiles, per lane. -/
theorem r_141_eq : (kernelRun0_A.sl.r_141 (F := F) c arg1 harg1 arg2 harg2 arg4 harg4 arg5 harg5 arg7 harg7 arg8 harg8 x0 x1 x3 x4 x6 x7)
    = [(kernelRun0_A.sl.r_68 (F := F) c arg1 harg1 arg4 harg4 arg5 harg5 arg7 harg7 arg8 harg8 x0 x3 x4 x6 x7), (kernelRun0_A.sl.r_69 (F := F) c arg1 harg1 arg4 harg4 arg5 harg5 arg7 harg7 arg8 harg8 x0 x3 x4 x6 x7), (kernelRun0_A.sl.r_71 (F := F) c arg1 harg1 arg4 harg4 arg5 harg5 arg7 harg7 arg8 harg8 x0 x3 x4 x6 x7), (kernelRun0_A.sl.r_74 (F := F) c arg1 harg1 arg4 harg4 arg5 harg5 arg7 harg7 arg8 harg8 x0 x3 x4 x6 x7), (kernelRun0_A.sl.r_75 (F := F) c arg1 harg1 arg4 harg4 arg5 harg5 arg7 harg7 arg8 harg8 x0 x3 x4 x6 x7), (kernelRun0_A.sl.r_78 (F := F) c arg1 harg1 arg4 harg4 arg5 harg5 arg7 harg7 arg8 harg8 x0 x3 x4 x6 x7), (kernelRun0_A.sl.r_83 (F := F) c arg1 harg1 arg4 harg4 arg5 harg5 arg7 harg7 arg8 harg8 x0 x3 x4 x6 x7), (kernelRun0_A.sl.r_84 (F := F) c arg1 harg1 arg4 harg4 arg5 harg5 arg7 harg7 arg8 harg8 x0 x3 x4 x6 x7), (kernelRun0_A.sl.r_86 (F := F) c arg1 harg1 arg4 harg4 arg5 harg5 arg7 harg7 arg8 harg8 x0 x3 x4 x6 x7), (kernelRun0_A.sl.r_87 (F := F) c arg1 harg1 arg4 harg4 arg5 harg5 arg7 harg7 arg8 harg8 x0 x3 x4 x6 x7), (kernelRun0_A.sl.r_90 (F := F) c arg1 harg1 arg4 harg4 arg5 harg5 arg7 harg7 arg8 harg8 x0 x3 x4 x6 x7), (kernelRun0_A.sl.r_91 (F := F) c arg1 harg1 arg4 harg4 arg5 harg5 arg7 harg7 arg8 harg8 x0 x3 x4 x6 x7), (kernelRun0_A.sl.r_94 (F := F) c arg1 harg1 arg4 harg4 arg5 harg5 arg7 harg7 arg8 harg8 x0 x3 x4 x6 x7), (kernelRun0_A.sl.r_97 (F := F) c arg1 harg1 arg4 harg4 arg5 harg5 arg7 harg7 arg8 harg8 x0 x3 x4 x6 x7), (kernelRun0_A.sl.r_98 (F := F) c arg1 harg1 arg4 harg4 arg5 harg5 arg7 harg7 arg8 harg8 x0 x3 x4 x6 x7), (kernelRun0_A.sl.r_101 (F := F) c arg1 harg1 arg4 harg4 arg5 harg5 arg7 harg7 arg8 harg8 x0 x3 x4 x6 x7), (kernelRun0_A.sl.r_105 (F := F) c arg1 harg1 arg4 harg4 arg5 harg5 arg7 harg7 arg8 harg8 x0 x3 x4 x6 x7), (kernelRun0_A.sl.r_106 (F := F) c arg1 harg1 arg4 harg4 arg5 harg5 arg7 harg7 arg8 harg8 x0 x3 x4 x6 x7), (kernelRun0_A.sl.r_110 (F := F) c arg1 harg1 arg4 harg4 arg5 harg5 arg7 harg7 arg8 harg8 x0 x3 x4 x6 x7), (kernelRun0_A.sl.r_111 (F := F) c arg1 harg1 arg4 harg4 arg5 harg5 arg7 harg7 arg8 harg8 x0 x3 x4 x6 x7), (kernelRun0_A.sl.r_115 (F := F) c arg1 harg1 arg4 harg4 arg5 harg5 arg7 harg7 arg8 harg8 x0 x3 x4 x6 x7), (kernelRun0_A.sl.r_116 (F := F) c arg1 harg1 arg4 harg4 arg5 harg5 arg7 harg7 arg8 harg8 x0 x3 x4 x6 x7), (kernelRun0_A.sl.r_118 (F := F) c arg1 harg1 arg4 harg4 arg5 harg5 arg7 harg7 arg8 harg8 x0 x3 x4 x6 x7), (kernelRun0_A.sl.r_119 (F := F) c arg1 harg1 arg4 harg4 arg5 harg5 arg7 harg7 arg8 harg8 x0 x3 x4 x6 x7), (kernelRun0_A.sl.r_121 (F := F) c arg1 harg1 arg4 harg4 arg5 harg5 arg7 harg7 arg8 harg8 x0 x3 x4 x6 x7), (kernelRun0_A.sl.r_124 (F := F) c arg1 harg1 arg4 harg4 arg5 harg5 arg7 harg7 arg8 harg8 x0 x3 x4 x6 x7), (kernelRun0_A.sl.r_125 (F := F) c arg1 harg1 arg4 harg4 arg5 harg5 arg7 harg7 arg8 harg8 x0 x3 x4 x6 x7), (kernelRun0_A.sl.r_127 (F := F) c arg1 harg1 arg4 harg4 arg5 harg5 arg7 harg7 arg8 harg8 x0 x3 x4 x6 x7), (kernelRun0_A.sl.r_131 (F := F) c arg1 harg1 arg4 harg4 arg5 harg5 arg7 harg7 arg8 harg8 x0 x3 x4 x6 x7), (kernelRun0_A.sl.r_132 (F := F) c arg1 harg1 arg4 harg4 arg5 harg5 arg7 harg7 arg8 harg8 x0 x3 x4 x6 x7), (kernelRun0_A.sl.r_134 (F := F) c arg1 harg1 arg4 harg4 arg5 harg5 arg7 harg7 arg8 harg8 x0 x3 x4 x6 x7), (kernelRun0_A.sl.r_135 (F := F) c arg1 harg1 arg4 harg4 arg5 harg5 arg7 harg7 arg8 harg8 x0 x3 x4 x6 x7)].foldl maxStep (kernelRun0_A.sl.r_138 (F := F) c arg1 harg1 arg2 harg2 x0 x1) := (rfl)

/-- Each lane's maximum over its head, twice. -/
theorem r_144_eq : (kernelRun0_A.sl.r_144 (F := F) c arg1 harg1 arg2 harg2 arg4 harg4 arg5 harg5 arg7 harg7 arg8 harg8 x0 x1 x3 x4 x6 x7)
    = laneMax2 (laneMax (kernelRun0_A.sl.r_141 (F := F) c arg1 harg1 arg2 harg2 arg4 harg4 arg5 harg5 arg7 harg7 arg8 harg8 x0 x1 x3 x4 x6 x7)) := (rfl)

/-- The new token's weights. -/
theorem r_145_eq : (kernelRun0_A.sl.r_145 (F := F) c arg1 harg1 arg2 harg2 arg4 harg4 arg5 harg5 arg7 harg7 arg8 harg8 x0 x1 x3 x4 x6 x7)
    = exp (subf (kernelRun0_A.sl.r_138 (F := F) c arg1 harg1 arg2 harg2 x0 x1) (laneMax (kernelRun0_A.sl.r_141 (F := F) c arg1 harg1 arg2 harg2 arg4 harg4 arg5 harg5 arg7 harg7 arg8 harg8 x0 x1 x3 x4 x6 x7))) := (rfl)

/-- The sum of the weights after 1 steps. -/
theorem r_147_eq : (kernelRun0_A.sl.r_147 (F := F) c arg1 harg1 arg2 harg2 arg4 harg4 arg5 harg5 arg7 harg7 arg8 harg8 x0 x1 x3 x4 x6 x7)
    = sumStep (kernelRun0_A.sl.r_145 (F := F) c arg1 harg1 arg2 harg2 arg4 harg4 arg5 harg5 arg7 harg7 arg8 harg8 x0 x1 x3 x4 x6 x7)
      (weight (kernelRun0_A.sl.r_68 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_69 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 2 steps. -/
theorem r_157_eq : (kernelRun0_A.sl.r_157 (F := F) c arg1 harg1 arg2 harg2 arg4 harg4 arg5 harg5 arg7 harg7 arg8 harg8 x0 x1 x3 x4 x6 x7)
    = sumStep (kernelRun0_A.sl.r_147 (F := F) c arg1 harg1 arg2 harg2 arg4 harg4 arg5 harg5 arg7 harg7 arg8 harg8 x0 x1 x3 x4 x6 x7)
      (weight (kernelRun0_A.sl.r_71 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_74 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 3 steps. -/
theorem r_162_eq : (kernelRun0_A.sl.r_162 (F := F) c arg1 harg1 arg2 harg2 arg4 harg4 arg5 harg5 arg7 harg7 arg8 harg8 x0 x1 x3 x4 x6 x7)
    = sumStep (kernelRun0_A.sl.r_157 (F := F) c arg1 harg1 arg2 harg2 arg4 harg4 arg5 harg5 arg7 harg7 arg8 harg8 x0 x1 x3 x4 x6 x7)
      (weight (kernelRun0_A.sl.r_75 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_78 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 4 steps. -/
theorem r_172_eq : (kernelRun0_A.sl.r_172 (F := F) c arg1 harg1 arg2 harg2 arg4 harg4 arg5 harg5 arg7 harg7 arg8 harg8 x0 x1 x3 x4 x6 x7)
    = sumStep (kernelRun0_A.sl.r_162 (F := F) c arg1 harg1 arg2 harg2 arg4 harg4 arg5 harg5 arg7 harg7 arg8 harg8 x0 x1 x3 x4 x6 x7)
      (weight (kernelRun0_A.sl.r_83 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_84 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 5 steps. -/
theorem r_177_eq : (kernelRun0_A.sl.r_177 (F := F) c arg1 harg1 arg2 harg2 arg4 harg4 arg5 harg5 arg7 harg7 arg8 harg8 x0 x1 x3 x4 x6 x7)
    = sumStep (kernelRun0_A.sl.r_172 (F := F) c arg1 harg1 arg2 harg2 arg4 harg4 arg5 harg5 arg7 harg7 arg8 harg8 x0 x1 x3 x4 x6 x7)
      (weight (kernelRun0_A.sl.r_86 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_87 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 6 steps. -/
theorem r_189_eq : (kernelRun0_A.sl.r_189 (F := F) c arg1 harg1 arg2 harg2 arg4 harg4 arg5 harg5 arg7 harg7 arg8 harg8 x0 x1 x3 x4 x6 x7)
    = sumStep (kernelRun0_A.sl.r_177 (F := F) c arg1 harg1 arg2 harg2 arg4 harg4 arg5 harg5 arg7 harg7 arg8 harg8 x0 x1 x3 x4 x6 x7)
      (weight (kernelRun0_A.sl.r_90 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_91 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 7 steps. -/
theorem r_194_eq : (kernelRun0_A.sl.r_194 (F := F) c arg1 harg1 arg2 harg2 arg4 harg4 arg5 harg5 arg7 harg7 arg8 harg8 x0 x1 x3 x4 x6 x7)
    = sumStep (kernelRun0_A.sl.r_189 (F := F) c arg1 harg1 arg2 harg2 arg4 harg4 arg5 harg5 arg7 harg7 arg8 harg8 x0 x1 x3 x4 x6 x7)
      (weight (kernelRun0_A.sl.r_94 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_97 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 8 steps. -/
theorem r_203_eq : (kernelRun0_A.sl.r_203 (F := F) c arg1 harg1 arg2 harg2 arg4 harg4 arg5 harg5 arg7 harg7 arg8 harg8 x0 x1 x3 x4 x6 x7)
    = sumStep (kernelRun0_A.sl.r_194 (F := F) c arg1 harg1 arg2 harg2 arg4 harg4 arg5 harg5 arg7 harg7 arg8 harg8 x0 x1 x3 x4 x6 x7)
      (weight (kernelRun0_A.sl.r_98 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_101 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 9 steps. -/
theorem r_208_eq : (kernelRun0_A.sl.r_208 (F := F) c arg1 harg1 arg2 harg2 arg4 harg4 arg5 harg5 arg7 harg7 arg8 harg8 x0 x1 x3 x4 x6 x7)
    = sumStep (kernelRun0_A.sl.r_203 (F := F) c arg1 harg1 arg2 harg2 arg4 harg4 arg5 harg5 arg7 harg7 arg8 harg8 x0 x1 x3 x4 x6 x7)
      (weight (kernelRun0_A.sl.r_105 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_106 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 10 steps. -/
theorem r_217_eq : (kernelRun0_A.sl.r_217 (F := F) c arg1 harg1 arg2 harg2 arg4 harg4 arg5 harg5 arg7 harg7 arg8 harg8 x0 x1 x3 x4 x6 x7)
    = sumStep (kernelRun0_A.sl.r_208 (F := F) c arg1 harg1 arg2 harg2 arg4 harg4 arg5 harg5 arg7 harg7 arg8 harg8 x0 x1 x3 x4 x6 x7)
      (weight (kernelRun0_A.sl.r_110 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_111 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 11 steps. -/
theorem r_223_eq : (kernelRun0_A.sl.r_223 (F := F) c arg1 harg1 arg2 harg2 arg4 harg4 arg5 harg5 arg7 harg7 arg8 harg8 x0 x1 x3 x4 x6 x7)
    = sumStep (kernelRun0_A.sl.r_217 (F := F) c arg1 harg1 arg2 harg2 arg4 harg4 arg5 harg5 arg7 harg7 arg8 harg8 x0 x1 x3 x4 x6 x7)
      (weight (kernelRun0_A.sl.r_115 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_116 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 12 steps. -/
theorem r_232_eq : (kernelRun0_A.sl.r_232 (F := F) c arg1 harg1 arg2 harg2 arg4 harg4 arg5 harg5 arg7 harg7 arg8 harg8 x0 x1 x3 x4 x6 x7)
    = sumStep (kernelRun0_A.sl.r_223 (F := F) c arg1 harg1 arg2 harg2 arg4 harg4 arg5 harg5 arg7 harg7 arg8 harg8 x0 x1 x3 x4 x6 x7)
      (weight (kernelRun0_A.sl.r_118 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_119 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 13 steps. -/
theorem r_239_eq : (kernelRun0_A.sl.r_239 (F := F) c arg1 harg1 arg2 harg2 arg4 harg4 arg5 harg5 arg7 harg7 arg8 harg8 x0 x1 x3 x4 x6 x7)
    = sumStep (kernelRun0_A.sl.r_232 (F := F) c arg1 harg1 arg2 harg2 arg4 harg4 arg5 harg5 arg7 harg7 arg8 harg8 x0 x1 x3 x4 x6 x7)
      (weight (kernelRun0_A.sl.r_121 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_124 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 14 steps. -/
theorem r_248_eq : (kernelRun0_A.sl.r_248 (F := F) c arg1 harg1 arg2 harg2 arg4 harg4 arg5 harg5 arg7 harg7 arg8 harg8 x0 x1 x3 x4 x6 x7)
    = sumStep (kernelRun0_A.sl.r_239 (F := F) c arg1 harg1 arg2 harg2 arg4 harg4 arg5 harg5 arg7 harg7 arg8 harg8 x0 x1 x3 x4 x6 x7)
      (weight (kernelRun0_A.sl.r_125 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_127 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 15 steps. -/
theorem r_255_eq : (kernelRun0_A.sl.r_255 (F := F) c arg1 harg1 arg2 harg2 arg4 harg4 arg5 harg5 arg7 harg7 arg8 harg8 x0 x1 x3 x4 x6 x7)
    = sumStep (kernelRun0_A.sl.r_248 (F := F) c arg1 harg1 arg2 harg2 arg4 harg4 arg5 harg5 arg7 harg7 arg8 harg8 x0 x1 x3 x4 x6 x7)
      (weight (kernelRun0_A.sl.r_131 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_132 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The sum of the weights after 16 steps. -/
theorem r_264_eq : (kernelRun0_A.sl.r_264 (F := F) c arg1 harg1 arg2 harg2 arg4 harg4 arg5 harg5 arg7 harg7 arg8 harg8 x0 x1 x3 x4 x6 x7)
    = sumStep (kernelRun0_A.sl.r_255 (F := F) c arg1 harg1 arg2 harg2 arg4 harg4 arg5 harg5 arg7 harg7 arg8 harg8 x0 x1 x3 x4 x6 x7)
      (weight (kernelRun0_A.sl.r_134 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7))
      (weight (kernelRun0_A.sl.r_135 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) := (rfl)

/-- The accumulators after 1 steps. -/
theorem r_152_eq : (kernelRun0_A.sl.r_152 (F := F) c arg1 harg1 arg2 harg2 arg4 harg4 arg5 harg5 arg6 harg6 arg7 harg7 arg8 harg8 x0 x1 x3 x4 x5 x6 x7)
    = accStep (broadcast S192x256 (Scalar.ofBits .f32 0x00000000#32))
      (sixRows kernelRun0_A.sl.r_65 (mulf (weight (kernelRun0_A.sl.r_68 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 0 0 slices_S16x512_o0_0_S1x256))
        (mulf (weight (kernelRun0_A.sl.r_69 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 8 0 slices_S16x512_o8_0_S1x256)))
      (chunkPair (chunk (kernelRun0_A.sl.r_62 (F := F) c arg7 harg7 x6) 0 0 slices_S128x16_o0_0_S64x1 (chunkLoad arg6 harg6 x5 0 inb_S1x8192x128_S1x256x128_0_0_0))
        (chunk (kernelRun0_A.sl.r_62 (F := F) c arg7 harg7 x6) 0 8 slices_S128x16_o0_8_S64x1 (chunkLoad arg6 harg6 x5 4096 inb_S1x8192x128_S1x256x128_0_4096_0))) := (rfl)

/-- The accumulators after 2 steps. -/
theorem r_161_eq : (kernelRun0_A.sl.r_161 (F := F) c arg1 harg1 arg2 harg2 arg4 harg4 arg5 harg5 arg6 harg6 arg7 harg7 arg8 harg8 x0 x1 x3 x4 x5 x6 x7)
    = accStep (kernelRun0_A.sl.r_152 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_71 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 0 256 slices_S16x512_o0_256_S1x256))
        (mulf (weight (kernelRun0_A.sl.r_74 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 8 256 slices_S16x512_o8_256_S1x256)))
      (chunkPair (chunk (kernelRun0_A.sl.r_62 (F := F) c arg7 harg7 x6) 64 0 slices_S128x16_o64_0_S64x1 (chunkLoad arg6 harg6 x5 256 inb_S1x8192x128_S1x256x128_0_256_0))
        (chunk (kernelRun0_A.sl.r_62 (F := F) c arg7 harg7 x6) 64 8 slices_S128x16_o64_8_S64x1 (chunkLoad arg6 harg6 x5 4352 inb_S1x8192x128_S1x256x128_0_4352_0))) := (rfl)

/-- The accumulators after 3 steps. -/
theorem r_167_eq : (kernelRun0_A.sl.r_167 (F := F) c arg1 harg1 arg2 harg2 arg4 harg4 arg5 harg5 arg6 harg6 arg7 harg7 arg8 harg8 x0 x1 x3 x4 x5 x6 x7)
    = accStep (kernelRun0_A.sl.r_161 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_75 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 1 0 slices_S16x512_o1_0_S1x256))
        (mulf (weight (kernelRun0_A.sl.r_78 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 9 0 slices_S16x512_o9_0_S1x256)))
      (chunkPair (chunk (kernelRun0_A.sl.r_62 (F := F) c arg7 harg7 x6) 0 1 slices_S128x16_o0_1_S64x1 (chunkLoad arg6 harg6 x5 512 inb_S1x8192x128_S1x256x128_0_512_0))
        (chunk (kernelRun0_A.sl.r_62 (F := F) c arg7 harg7 x6) 0 9 slices_S128x16_o0_9_S64x1 (chunkLoad arg6 harg6 x5 4608 inb_S1x8192x128_S1x256x128_0_4608_0))) := (rfl)

/-- The accumulators after 4 steps. -/
theorem r_176_eq : (kernelRun0_A.sl.r_176 (F := F) c arg1 harg1 arg2 harg2 arg4 harg4 arg5 harg5 arg6 harg6 arg7 harg7 arg8 harg8 x0 x1 x3 x4 x5 x6 x7)
    = accStep (kernelRun0_A.sl.r_167 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_83 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 1 256 slices_S16x512_o1_256_S1x256))
        (mulf (weight (kernelRun0_A.sl.r_84 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 9 256 slices_S16x512_o9_256_S1x256)))
      (chunkPair (chunk (kernelRun0_A.sl.r_62 (F := F) c arg7 harg7 x6) 64 1 slices_S128x16_o64_1_S64x1 (chunkLoad arg6 harg6 x5 768 inb_S1x8192x128_S1x256x128_0_768_0))
        (chunk (kernelRun0_A.sl.r_62 (F := F) c arg7 harg7 x6) 64 9 slices_S128x16_o64_9_S64x1 (chunkLoad arg6 harg6 x5 4864 inb_S1x8192x128_S1x256x128_0_4864_0))) := (rfl)

/-- The accumulators after 5 steps. -/
theorem r_184_eq : (kernelRun0_A.sl.r_184 (F := F) c arg1 harg1 arg2 harg2 arg4 harg4 arg5 harg5 arg6 harg6 arg7 harg7 arg8 harg8 x0 x1 x3 x4 x5 x6 x7)
    = accStep (kernelRun0_A.sl.r_176 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_86 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 2 0 slices_S16x512_o2_0_S1x256))
        (mulf (weight (kernelRun0_A.sl.r_87 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 10 0 slices_S16x512_o10_0_S1x256)))
      (chunkPair (chunk (kernelRun0_A.sl.r_62 (F := F) c arg7 harg7 x6) 0 2 slices_S128x16_o0_2_S64x1 (chunkLoad arg6 harg6 x5 1024 inb_S1x8192x128_S1x256x128_0_1024_0))
        (chunk (kernelRun0_A.sl.r_62 (F := F) c arg7 harg7 x6) 0 10 slices_S128x16_o0_10_S64x1 (chunkLoad arg6 harg6 x5 5120 inb_S1x8192x128_S1x256x128_0_5120_0))) := (rfl)

/-- The accumulators after 6 steps. -/
theorem r_193_eq : (kernelRun0_A.sl.r_193 (F := F) c arg1 harg1 arg2 harg2 arg4 harg4 arg5 harg5 arg6 harg6 arg7 harg7 arg8 harg8 x0 x1 x3 x4 x5 x6 x7)
    = accStep (kernelRun0_A.sl.r_184 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_90 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 2 256 slices_S16x512_o2_256_S1x256))
        (mulf (weight (kernelRun0_A.sl.r_91 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 10 256 slices_S16x512_o10_256_S1x256)))
      (chunkPair (chunk (kernelRun0_A.sl.r_62 (F := F) c arg7 harg7 x6) 64 2 slices_S128x16_o64_2_S64x1 (chunkLoad arg6 harg6 x5 1280 inb_S1x8192x128_S1x256x128_0_1280_0))
        (chunk (kernelRun0_A.sl.r_62 (F := F) c arg7 harg7 x6) 64 10 slices_S128x16_o64_10_S64x1 (chunkLoad arg6 harg6 x5 5376 inb_S1x8192x128_S1x256x128_0_5376_0))) := (rfl)

/-- The accumulators after 7 steps. -/
theorem r_200_eq : (kernelRun0_A.sl.r_200 (F := F) c arg1 harg1 arg2 harg2 arg4 harg4 arg5 harg5 arg6 harg6 arg7 harg7 arg8 harg8 x0 x1 x3 x4 x5 x6 x7)
    = accStep (kernelRun0_A.sl.r_193 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_94 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 3 0 slices_S16x512_o3_0_S1x256))
        (mulf (weight (kernelRun0_A.sl.r_97 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 11 0 slices_S16x512_o11_0_S1x256)))
      (chunkPair (chunk (kernelRun0_A.sl.r_62 (F := F) c arg7 harg7 x6) 0 3 slices_S128x16_o0_3_S64x1 (chunkLoad arg6 harg6 x5 1536 inb_S1x8192x128_S1x256x128_0_1536_0))
        (chunk (kernelRun0_A.sl.r_62 (F := F) c arg7 harg7 x6) 0 11 slices_S128x16_o0_11_S64x1 (chunkLoad arg6 harg6 x5 5632 inb_S1x8192x128_S1x256x128_0_5632_0))) := (rfl)

/-- The accumulators after 8 steps. -/
theorem r_207_eq : (kernelRun0_A.sl.r_207 (F := F) c arg1 harg1 arg2 harg2 arg4 harg4 arg5 harg5 arg6 harg6 arg7 harg7 arg8 harg8 x0 x1 x3 x4 x5 x6 x7)
    = accStep (kernelRun0_A.sl.r_200 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_98 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 3 256 slices_S16x512_o3_256_S1x256))
        (mulf (weight (kernelRun0_A.sl.r_101 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 11 256 slices_S16x512_o11_256_S1x256)))
      (chunkPair (chunk (kernelRun0_A.sl.r_62 (F := F) c arg7 harg7 x6) 64 3 slices_S128x16_o64_3_S64x1 (chunkLoad arg6 harg6 x5 1792 inb_S1x8192x128_S1x256x128_0_1792_0))
        (chunk (kernelRun0_A.sl.r_62 (F := F) c arg7 harg7 x6) 64 11 slices_S128x16_o64_11_S64x1 (chunkLoad arg6 harg6 x5 5888 inb_S1x8192x128_S1x256x128_0_5888_0))) := (rfl)

/-- The accumulators after 9 steps. -/
theorem r_214_eq : (kernelRun0_A.sl.r_214 (F := F) c arg1 harg1 arg2 harg2 arg4 harg4 arg5 harg5 arg6 harg6 arg7 harg7 arg8 harg8 x0 x1 x3 x4 x5 x6 x7)
    = accStep (kernelRun0_A.sl.r_207 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_105 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 4 0 slices_S16x512_o4_0_S1x256))
        (mulf (weight (kernelRun0_A.sl.r_106 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 12 0 slices_S16x512_o12_0_S1x256)))
      (chunkPair (chunk (kernelRun0_A.sl.r_62 (F := F) c arg7 harg7 x6) 0 4 slices_S128x16_o0_4_S64x1 (chunkLoad arg6 harg6 x5 2048 inb_S1x8192x128_S1x256x128_0_2048_0))
        (chunk (kernelRun0_A.sl.r_62 (F := F) c arg7 harg7 x6) 0 12 slices_S128x16_o0_12_S64x1 (chunkLoad arg6 harg6 x5 6144 inb_S1x8192x128_S1x256x128_0_6144_0))) := (rfl)

/-- The accumulators after 10 steps. -/
theorem r_222_eq : (kernelRun0_A.sl.r_222 (F := F) c arg1 harg1 arg2 harg2 arg4 harg4 arg5 harg5 arg6 harg6 arg7 harg7 arg8 harg8 x0 x1 x3 x4 x5 x6 x7)
    = accStep (kernelRun0_A.sl.r_214 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_110 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 4 256 slices_S16x512_o4_256_S1x256))
        (mulf (weight (kernelRun0_A.sl.r_111 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 12 256 slices_S16x512_o12_256_S1x256)))
      (chunkPair (chunk (kernelRun0_A.sl.r_62 (F := F) c arg7 harg7 x6) 64 4 slices_S128x16_o64_4_S64x1 (chunkLoad arg6 harg6 x5 2304 inb_S1x8192x128_S1x256x128_0_2304_0))
        (chunk (kernelRun0_A.sl.r_62 (F := F) c arg7 harg7 x6) 64 12 slices_S128x16_o64_12_S64x1 (chunkLoad arg6 harg6 x5 6400 inb_S1x8192x128_S1x256x128_0_6400_0))) := (rfl)

/-- The accumulators after 11 steps. -/
theorem r_230_eq : (kernelRun0_A.sl.r_230 (F := F) c arg1 harg1 arg2 harg2 arg4 harg4 arg5 harg5 arg6 harg6 arg7 harg7 arg8 harg8 x0 x1 x3 x4 x5 x6 x7)
    = accStep (kernelRun0_A.sl.r_222 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_115 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 5 0 slices_S16x512_o5_0_S1x256))
        (mulf (weight (kernelRun0_A.sl.r_116 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 13 0 slices_S16x512_o13_0_S1x256)))
      (chunkPair (chunk (kernelRun0_A.sl.r_62 (F := F) c arg7 harg7 x6) 0 5 slices_S128x16_o0_5_S64x1 (chunkLoad arg6 harg6 x5 2560 inb_S1x8192x128_S1x256x128_0_2560_0))
        (chunk (kernelRun0_A.sl.r_62 (F := F) c arg7 harg7 x6) 0 13 slices_S128x16_o0_13_S64x1 (chunkLoad arg6 harg6 x5 6656 inb_S1x8192x128_S1x256x128_0_6656_0))) := (rfl)

/-- The accumulators after 12 steps. -/
theorem r_238_eq : (kernelRun0_A.sl.r_238 (F := F) c arg1 harg1 arg2 harg2 arg4 harg4 arg5 harg5 arg6 harg6 arg7 harg7 arg8 harg8 x0 x1 x3 x4 x5 x6 x7)
    = accStep (kernelRun0_A.sl.r_230 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_118 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 5 256 slices_S16x512_o5_256_S1x256))
        (mulf (weight (kernelRun0_A.sl.r_119 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 13 256 slices_S16x512_o13_256_S1x256)))
      (chunkPair (chunk (kernelRun0_A.sl.r_62 (F := F) c arg7 harg7 x6) 64 5 slices_S128x16_o64_5_S64x1 (chunkLoad arg6 harg6 x5 2816 inb_S1x8192x128_S1x256x128_0_2816_0))
        (chunk (kernelRun0_A.sl.r_62 (F := F) c arg7 harg7 x6) 64 13 slices_S128x16_o64_13_S64x1 (chunkLoad arg6 harg6 x5 6912 inb_S1x8192x128_S1x256x128_0_6912_0))) := (rfl)

/-- The accumulators after 13 steps. -/
theorem r_246_eq : (kernelRun0_A.sl.r_246 (F := F) c arg1 harg1 arg2 harg2 arg4 harg4 arg5 harg5 arg6 harg6 arg7 harg7 arg8 harg8 x0 x1 x3 x4 x5 x6 x7)
    = accStep (kernelRun0_A.sl.r_238 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_121 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 6 0 slices_S16x512_o6_0_S1x256))
        (mulf (weight (kernelRun0_A.sl.r_124 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 14 0 slices_S16x512_o14_0_S1x256)))
      (chunkPair (chunk (kernelRun0_A.sl.r_62 (F := F) c arg7 harg7 x6) 0 6 slices_S128x16_o0_6_S64x1 (chunkLoad arg6 harg6 x5 3072 inb_S1x8192x128_S1x256x128_0_3072_0))
        (chunk (kernelRun0_A.sl.r_62 (F := F) c arg7 harg7 x6) 0 14 slices_S128x16_o0_14_S64x1 (chunkLoad arg6 harg6 x5 7168 inb_S1x8192x128_S1x256x128_0_7168_0))) := (rfl)

/-- The accumulators after 14 steps. -/
theorem r_254_eq : (kernelRun0_A.sl.r_254 (F := F) c arg1 harg1 arg2 harg2 arg4 harg4 arg5 harg5 arg6 harg6 arg7 harg7 arg8 harg8 x0 x1 x3 x4 x5 x6 x7)
    = accStep (kernelRun0_A.sl.r_246 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_125 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 6 256 slices_S16x512_o6_256_S1x256))
        (mulf (weight (kernelRun0_A.sl.r_127 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 14 256 slices_S16x512_o14_256_S1x256)))
      (chunkPair (chunk (kernelRun0_A.sl.r_62 (F := F) c arg7 harg7 x6) 64 6 slices_S128x16_o64_6_S64x1 (chunkLoad arg6 harg6 x5 3328 inb_S1x8192x128_S1x256x128_0_3328_0))
        (chunk (kernelRun0_A.sl.r_62 (F := F) c arg7 harg7 x6) 64 14 slices_S128x16_o64_14_S64x1 (chunkLoad arg6 harg6 x5 7424 inb_S1x8192x128_S1x256x128_0_7424_0))) := (rfl)

/-- The accumulators after 15 steps. -/
theorem r_262_eq : (kernelRun0_A.sl.r_262 (F := F) c arg1 harg1 arg2 harg2 arg4 harg4 arg5 harg5 arg6 harg6 arg7 harg7 arg8 harg8 x0 x1 x3 x4 x5 x6 x7)
    = accStep (kernelRun0_A.sl.r_254 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_131 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 7 0 slices_S16x512_o7_0_S1x256))
        (mulf (weight (kernelRun0_A.sl.r_132 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 15 0 slices_S16x512_o15_0_S1x256)))
      (chunkPair (chunk (kernelRun0_A.sl.r_62 (F := F) c arg7 harg7 x6) 0 7 slices_S128x16_o0_7_S64x1 (chunkLoad arg6 harg6 x5 3584 inb_S1x8192x128_S1x256x128_0_3584_0))
        (chunk (kernelRun0_A.sl.r_62 (F := F) c arg7 harg7 x6) 0 15 slices_S128x16_o0_15_S64x1 (chunkLoad arg6 harg6 x5 7680 inb_S1x8192x128_S1x256x128_0_7680_0))) := (rfl)

/-- The numerators. -/
theorem r_271_eq : (kernelRun0_A.sl.r_271 (F := F) c arg1 harg1 arg2 harg2 arg3 harg3 arg4 harg4 arg5 harg5 arg6 harg6 arg7 harg7 arg8 harg8 x0 x1 x2 x3 x4 x5 x6 x7)
    = numer (accNew (threeRows (extractStridedSlice S32x128 ![0, 0] kernelRun0_A.sl.r_65 slices_S32x256_o0_0_S32x128)
      (kernelRun0_A.sl.r_145 (F := F) c arg1 harg1 arg2 harg2 arg4 harg4 arg5 harg5 arg7 harg7 arg8 harg8 x0 x1 x3 x4 x6 x7)) (newRows (kernelRun0_A.sl.r_6 (F := F) c arg3 harg3 x2) (kernelRun0_A.sl.r_4 (F := F) c arg3 harg3 x2)))
      (accStep (kernelRun0_A.sl.r_262 (F := F) c arg1 harg1 arg2 harg2 arg4 harg4 arg5 harg5 arg6 harg6 arg7 harg7 arg8 harg8 x0 x1 x3 x4 x5 x6 x7)
      (sixRows kernelRun0_A.sl.r_65 (mulf (weight (kernelRun0_A.sl.r_134 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 7 256 slices_S16x512_o7_256_S1x256))
        (mulf (weight (kernelRun0_A.sl.r_135 (F := F) c arg1 harg1 arg4 harg4 arg5 harg5 arg7 harg7 arg8 harg8 x0 x3 x4 x6 x7) (kernelRun0_A.sl.r_144 (F := F) c arg1 harg1 arg2 harg2 arg4 harg4 arg5 harg5 arg7 harg7 arg8 harg8 x0 x1 x3 x4 x6 x7)) (laneFactor (kernelRun0_A.sl.r_64 (F := F) c arg5 harg5 arg7 harg7 arg8 harg8 x4 x6 x7) 15 256 slices_S16x512_o15_256_S1x256)))
      (chunkPair (chunk (kernelRun0_A.sl.r_62 (F := F) c arg7 harg7 x6) 64 7 slices_S128x16_o64_7_S64x1 (chunkLoad arg6 harg6 x5 3840 inb_S1x8192x128_S1x256x128_0_3840_0))
        (chunk (kernelRun0_A.sl.r_62 (F := F) c arg7 harg7 x6) 64 15 slices_S128x16_o64_15_S64x1 (chunkLoad arg6 harg6 x5 7936 inb_S1x8192x128_S1x256x128_0_7936_0)))) := (rfl)

end Cert.KernelIdeal.Gen

end
-- ==== Proof.Attn.Scale.lean ====
/-
  The search for the bits of a scale: at a nonnegative number that bfloat16 holds it finds exactly its bits, and the
  significand times the power of two it gives back is the scale.
-/
module

public import Idealize.ShloMosaic.PureOps.Ideal.Laws

@[expose] public section

noncomputable section

namespace Cert.KernelIdeal.Attn

open Idealize.ShloMosaic

/-- The multiple of 2^-133 that the pattern `n` (a bfloat16 pattern without its sign) denotes. -/
def units (n : Nat) : Nat := if n / 128 = 0 then n % 128 else (128 + n % 128) * 2 ^ (n / 128 - 1)

/-- The number that the pattern `n` denotes, as a float32 with zeros below. -/
def val (n : Nat) : EReal := Ideal.ofBits .f32 (BitVec.ofNat 32 (65536 * n))

theorem val_eq (n : Nat) (hn : n < 0x7F80) : val n = (((units n : ℝ) * (2 : ℝ) ^ (-133 : ℤ) : ℝ) : EReal) := by
  have h1 : ((BitVec.ofNat 32 (65536 * n)).extractLsb' 31 1 == 1#1) = false := by
    simp only [beq_eq_false_iff_ne, ne_eq]
    intro h
    have := congrArg BitVec.toNat h
    simp only [BitVec.extractLsb'_toNat, BitVec.toNat_ofNat, Nat.shiftRight_eq_div_pow] at this
    omega
  have h2 : ((BitVec.ofNat 32 (65536 * n)).extractLsb' 23 8).toNat = n / 128 := by
    simp only [BitVec.extractLsb'_toNat, BitVec.toNat_ofNat, Nat.shiftRight_eq_div_pow]
    omega
  have h3 : ((BitVec.ofNat 32 (65536 * n)).extractLsb' 0 23).toNat = 65536 * (n % 128) := by
    simp only [BitVec.extractLsb'_toNat, BitVec.toNat_ofNat, Nat.shiftRight_eq_div_pow]
    omega
  unfold val units
  show Ideal.ieee 8 23 (BitVec.ofNat 32 (65536 * n)) = _
  unfold Ideal.ieee
  simp only [show (8 + 23 : Nat) = 31 from rfl, h1, h2, h3, Bool.false_eq_true, if_false]
  rw [if_neg (by omega)]
  by_cases h0 : n / 128 = 0
  · rw [if_pos h0, if_pos h0]
    congr 1
    push_cast
    norm_num only
    ring
  · rw [if_neg h0, if_neg h0]
    congr 1
    obtain ⟨e, he⟩ : ∃ e, n / 128 = e + 1 := ⟨n / 128 - 1, by omega⟩
    rw [he]
    push_cast
    norm_num only
    rw [show ((e : ℤ) + 1 - 127 - 23 : ℤ) = (e : ℤ) + (-16 + -133) by ring]
    rw [zpow_add₀ (by norm_num), zpow_add₀ (by norm_num), zpow_natCast]
    rw [show ((2 : ℝ) ^ (-16 : ℤ)) = 1 / 65536 by norm_num [zpow_neg]]
    norm_num only
    ring

theorem val_top : val 0x7F80 = ⊤ := by
  show Ideal.ieee 8 23 (BitVec.ofNat 32 (65536 * 0x7F80)) = ⊤
  unfold Ideal.ieee
  have h1 : ((BitVec.ofNat 32 (65536 * 0x7F80)).extractLsb' (8 + 23) 1 == 1#1) = false := by decide
  have h2 : ((BitVec.ofNat 32 (65536 * 0x7F80)).extractLsb' 23 8).toNat = 255 := by decide
  have h3 : ((BitVec.ofNat 32 (65536 * 0x7F80)).extractLsb' 0 23).toNat = 0 := by decide
  simp only [h1, h2, h3]
  norm_num

theorem units_lt {n m : Nat} (h : n < m) : units n < units m := by
  unfold units
  by_cases hn : n / 128 = 0
  · rw [if_pos hn]
    by_cases hm : m / 128 = 0
    · rw [if_pos hm]; omega
    · rw [if_neg hm]
      have : 1 ≤ 2 ^ (m / 128 - 1) := Nat.one_le_two_pow
      calc n % 128 < 128 * 1 := by omega
        _ ≤ (128 + m % 128) * 2 ^ (m / 128 - 1) := Nat.mul_le_mul (by omega) this
  · have hm : ¬ m / 128 = 0 := by omega
    rw [if_neg hn, if_neg hm]
    rcases Nat.lt_or_ge (n / 128) (m / 128) with h' | h'
    · have h2 : 2 ^ (n / 128) ≤ 2 ^ (m / 128 - 1) := Nat.pow_le_pow_right (by norm_num) (by omega)
      have h3 : 2 ^ (n / 128) = 2 * 2 ^ (n / 128 - 1) := by
        rw [← pow_succ']; congr 1; omega
      have h4 : 0 < 2 ^ (n / 128 - 1) := by positivity
      calc (128 + n % 128) * 2 ^ (n / 128 - 1) < 256 * 2 ^ (n / 128 - 1) :=
            Nat.mul_lt_mul_of_pos_right (by omega) h4
        _ = 128 * 2 ^ (n / 128) := by rw [h3]; ring
        _ ≤ (128 + m % 128) * 2 ^ (m / 128 - 1) := Nat.mul_le_mul (by omega) h2
    · have : n / 128 = m / 128 := by omega
      rw [this]
      exact Nat.mul_lt_mul_of_pos_right (by omega) (by positivity)

theorem units_le_iff {n m : Nat} : units n ≤ units m ↔ n ≤ m := by
  constructor
  · intro h
    by_contra h'
    exact absurd (units_lt (Nat.lt_of_not_le h')) (by omega)
  · intro h
    rcases Nat.lt_or_eq_of_le h with h | h
    · exact (units_lt h).le
    · rw [h]

theorem val_le_iff {n m : Nat} (hn : n ≤ 0x7F80) (hm : m < 0x7F80) : val n ≤ val m ↔ n ≤ m := by
  rcases Nat.lt_or_eq_of_le hn with h | h
  · rw [val_eq n h, val_eq m hm, EReal.coe_le_coe_iff, mul_le_mul_iff_left₀ (by positivity), Nat.cast_le, units_le_iff]
  · subst h
    rw [val_top, val_eq m hm]
    constructor
    · intro h; exact absurd (top_le_iff.1 h) (EReal.coe_ne_top _)
    · intro h; omega

theorem val_nonneg {n : Nat} (hn : n < 0x7F80) : 0 ≤ val n := by
  rw [val_eq n hn]; exact EReal.coe_nonneg.2 (by positivity)

theorem val_ne_top {n : Nat} (hn : n < 0x7F80) : val n ≠ ⊤ := by
  rw [val_eq n hn]; exact EReal.coe_ne_top _

/-- A scale the claim is made for: zero or a positive normal number of bfloat16. -/
def Bf (s : EReal) : Prop := ∃ n, n < 0x7F80 ∧ (n = 0 ∨ 128 ≤ n) ∧ s = val n

/-- One step of the search. -/
def step (s : EReal) (bits k : BitVec 32) : BitVec 32 :=
  if Ideal.ofBits .f32 (bits ||| k) ≤ s then bits ||| k else bits

theorem or_pow (a j : Nat) :
    BitVec.ofNat 32 (65536 * (a * 2 ^ (j + 1))) ||| BitVec.ofNat 32 (65536 * 2 ^ j)
      = BitVec.ofNat 32 (65536 * (a * 2 ^ (j + 1) + 2 ^ j)) := by
  have h := Nat.two_pow_add_eq_or_of_lt (i := j + 1 + 16) (b := 65536 * 2 ^ j)
    (by rw [pow_add, pow_succ]; have := Nat.two_pow_pos j; norm_num; omega) a
  rw [← BitVec.ofNat_or]
  congr 1
  rw [show 65536 * (a * 2 ^ (j + 1)) = 2 ^ (j + 1 + 16) * a by rw [pow_add]; ring, ← h]
  ring

theorem step_eq {N : Nat} (hN : N < 0x7F80) (j : Nat) (hj : j < 15) (k : BitVec 32)
    (hk : k = BitVec.ofNat 32 (65536 * 2 ^ j)) :
    step (val N) (BitVec.ofNat 32 (65536 * (N / 2 ^ (j + 1) * 2 ^ (j + 1)))) k
      = BitVec.ofNat 32 (65536 * (N / 2 ^ j * 2 ^ j)) := by
  subst hk
  unfold step
  rw [or_pow]
  have hc : N / 2 ^ (j + 1) * 2 ^ (j + 1) + 2 ^ j ≤ 0x7F80 := by
    interval_cases j <;> norm_num <;> omega
  have key := val_le_iff hc hN
  unfold val at key ⊢
  simp only [key]
  split_ifs with h
  · congr 2
    interval_cases j <;> norm_num at h ⊢ <;> omega
  · congr 2
    interval_cases j <;> norm_num at h ⊢ <;> omega

/-- The search over all fifteen bits. -/
def search (s : EReal) (ks : List (BitVec 32)) : BitVec 32 := ks.foldl (step s) 0#32

/-- The search finds the bits of a number that bfloat16 holds. -/
theorem search_eq {N : Nat} (hN : N < 0x7F80) :
    search (val N) [1073741824#32, 536870912#32, 268435456#32, 134217728#32, 67108864#32, 33554432#32, 16777216#32,
      8388608#32, 4194304#32, 2097152#32, 1048576#32, 524288#32, 262144#32, 131072#32, 65536#32]
      = BitVec.ofNat 32 (65536 * N) := by
  unfold search
  simp only [List.foldl]
  have h0 : (0#32 : BitVec 32) = BitVec.ofNat 32 (65536 * (N / 2 ^ (14 + 1) * 2 ^ (14 + 1))) := by
    rw [show N / 2 ^ (14 + 1) = 0 by norm_num; omega]; rfl
  rw [h0]
  rw [step_eq hN 14 (by norm_num) 1073741824#32 rfl, step_eq hN 13 (by norm_num) 536870912#32 rfl, step_eq hN 12 (by norm_num) 268435456#32 rfl,
    step_eq hN 11 (by norm_num) 134217728#32 rfl, step_eq hN 10 (by norm_num) 67108864#32 rfl, step_eq hN 9 (by norm_num) 33554432#32 rfl,
    step_eq hN 8 (by norm_num) 16777216#32 rfl, step_eq hN 7 (by norm_num) 8388608#32 rfl, step_eq hN 6 (by norm_num) 4194304#32 rfl,
    step_eq hN 5 (by norm_num) 2097152#32 rfl, step_eq hN 4 (by norm_num) 1048576#32 rfl, step_eq hN 3 (by norm_num) 524288#32 rfl,
    step_eq hN 2 (by norm_num) 262144#32 rfl, step_eq hN 1 (by norm_num) 131072#32 rfl, step_eq hN 0 (by norm_num) 65536#32 rfl]
  simp

/-- The significand of the pattern `n`. -/
def mant (n : Nat) : Nat := n % 128 + 128

/-- The significand times the power of two of a normal pattern, over 128, is its number. -/
theorem mant_mul_val {N : Nat} (hN : N < 0x7F80) (h : N = 0 ∨ 128 ≤ N) (C K : ℝ) (hC : C * 128 = K) :
    ((mant N : ℝ) : EReal) * (val (N / 128 * 128) * (C : EReal)) = val N * (K : EReal) := by
  rw [val_eq N hN, val_eq (N / 128 * 128) (by omega), ← EReal.coe_mul, ← EReal.coe_mul, ← EReal.coe_mul, ← hC]
  congr 1
  unfold units mant
  rcases h with rfl | h
  · simp
  · have h0 : ¬ N / 128 = 0 := by omega
    have h1 : N / 128 * 128 / 128 = N / 128 := by omega
    have h2 : N / 128 * 128 % 128 = 0 := by omega
    rw [h1, h2, if_neg h0, if_neg h0]
    push_cast
    ring

theorem bits_mant {N : Nat} (hN : N < 0x7F80) :
    ((BitVec.ofNat 32 (65536 * N)).sshiftRight 16 &&& 127#32) ||| 128#32 = BitVec.ofNat 32 (mant N) := by
  have hm : (BitVec.ofNat 32 (65536 * N)).msb = false := by
    rw [BitVec.msb_eq_decide]; simp; omega
  rw [BitVec.sshiftRight_eq_of_msb_false hm]
  apply BitVec.eq_of_toNat_eq
  simp only [BitVec.toNat_or, BitVec.toNat_and, BitVec.toNat_ushiftRight, BitVec.toNat_ofNat,
    Nat.shiftRight_eq_div_pow]
  rw [show 65536 * N % 2 ^ 32 / 2 ^ 16 = N by omega, show 127 % 2 ^ 32 = 2 ^ 7 - 1 by norm_num,
    Nat.and_two_pow_sub_one_eq_mod, show 128 % 2 ^ 32 = 2 ^ 7 * 1 by norm_num, Nat.or_comm,
    ← Nat.two_pow_add_eq_or_of_lt (Nat.mod_lt _ (by norm_num))]
  unfold mant
  omega

theorem bits_pow {N : Nat} (hN : N < 0x7F80) :
    BitVec.ofNat 32 (65536 * N) &&& 4286578688#32 = BitVec.ofNat 32 (65536 * (N / 128 * 128)) := by
  apply BitVec.eq_of_getLsbD_eq
  intro i hi
  have e1 : BitVec.ofNat 32 (65536 * (N / 128 * 128)) = ((BitVec.ofNat 32 (65536 * N)) >>> 23) <<< 23 := by
    apply BitVec.eq_of_toNat_eq
    simp only [BitVec.toNat_shiftLeft, BitVec.toNat_ushiftRight, BitVec.toNat_ofNat, Nat.shiftRight_eq_div_pow,
      Nat.shiftLeft_eq]
    omega
  rw [e1]
  simp only [BitVec.getLsbD_and, BitVec.getLsbD_shiftLeft, BitVec.getLsbD_ushiftRight]
  by_cases h : i < 23
  · have : (4286578688#32 : BitVec 32).getLsbD i = false := by interval_cases i <;> rfl
    simp [h, this]
  · have : (4286578688#32 : BitVec 32).getLsbD i = true := by interval_cases i <;> rfl
    rw [this]
    simp [h, hi]
    congr 1
    omega

end Cert.KernelIdeal.Attn

end
-- ==== Proof.Attn.Bits.lean ====
/-
  A chunk of a cache and the lanes' factors, entry by entry: the codes times the eight-bit significands of their
  scales, and the powers of two of the scales brought to the order of the lanes.
-/
module

public import proofs.«01_k».proof.Proof.Attn.Model
public import proofs.«01_k».proof.Proof.Attn.Scale
public import Idealize.ShloMosaic.Lib.Pointwise
public import Idealize.ShloMosaic.Lib.BitcastPair
public import Idealize.ShloMosaic.Lib.BitcastFour

@[expose] public section

set_option synthInstance.maxSize 4096
set_option maxRecDepth 16384

noncomputable section

namespace Cert.KernelIdeal.Attn

open Idealize.ShloMosaic Idealize.SL.Sem Cert.KernelIdeal.Gen

/-- A row of words read as bytes: row `r` holds byte `r % 4` of word row `r / 4`. -/
theorem bitcast_32_8 (x : IVec S64x128 32) (h : S64x128.Bitcasts 32 S256x128 8) (r : Fin 256) (d : Fin 128) :
    bitcast S256x128 8 x h (ix2 r d)
      = (x (ix2 ⟨r.val / 4, by omega⟩ d)).extractLsb' (8 * (r.val % 4)) 8 := by
  apply BitVec.eq_of_getLsbD_eq
  intro i hi
  rw [ix2_eq_valueIdx, bitcast_getLsbD x h _ i hi (by decide), BitVec.getLsbD_extractLsb']
  have hrow : S256x128.row (ValueIdx.ix2 r d) = r.val := rfl
  have e1 : (S256x128.row (ValueIdx.ix2 r d) * 8 + i) / 32 = r.val / 4 := by rw [hrow]; omega
  have e2 : (S256x128.row (ValueIdx.ix2 r d) * 8 + i) % 32 = 8 * (r.val % 4) + i := by rw [hrow]; omega
  rw [e2]
  simp only [hi, decide_true, Bool.true_and]
  congr 2
  rw [ix2_eq_valueIdx]
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words and back are the bytes. -/
theorem bytes_back (x : IVec S256x128 8) (h : S256x128.Bitcasts 8 S64x128 32) (h' : S64x128.Bitcasts 32 S256x128 8)
    (r : Fin 256) (d : Fin 128) :
    bitcast S256x128 8 (bitcast S64x128 32 x h) h' (ix2 r d) = x (ix2 r d) := by
  rw [bitcast_32_8]
  apply BitVec.eq_of_getLsbD_eq
  intro i hi
  rw [BitVec.getLsbD_extractLsb', ix2_eq_valueIdx,
    bitcast_8_32_getLsbD_ix2 x h ⟨r.val / 4, by omega⟩ d (8 * (r.val % 4) + i) (by omega) r (by simp only; omega)]
  have : (8 * (r.val % 4) + i) % 8 = i := by omega
  rw [this, ix2_eq_valueIdx]
  simp [hi]

/-- Four bytes joined to a word. -/
def word (n : Fin 4 → Nat) : BitVec 32 :=
  ((BitVec.ofNat 8 (n 0)).setWidth 32 ||| ((BitVec.ofNat 8 (n 1)).setWidth 32 <<< 8)
    ||| ((BitVec.ofNat 8 (n 2)).setWidth 32 <<< 16) ||| ((BitVec.ofNat 8 (n 3)).setWidth 32 <<< 24))

/-- The bytes of a joined word. -/
theorem word_byte (n : Fin 4 → Nat) (k : Nat) (hk : k < 4) :
    (word n).extractLsb' (8 * k) 8 = BitVec.ofNat 8 (n ⟨k, hk⟩) := by
  apply BitVec.eq_of_getLsbD_eq
  intro i hi
  rw [BitVec.getLsbD_extractLsb', word, four_bytes_getLsbD (fun i => BitVec.ofNat 8 (n i)) (8 * k + i) (by omega)]
  have e1 : (8 * k + i) / 8 = k := by omega
  have e2 : (8 * k + i) % 8 = i := by omega
  simp only [e1, e2, hi, decide_true, Bool.true_and]

theorem mant_lt (n : Nat) : mant n < 256 := by unfold mant; omega

/-- A choice on a decided proposition. -/
theorem select_decide {α : Type} (p : Prop) [Decidable p] (a b : α) :
    Scalar.select (BitVec.ofBool (decide p)) a b = if p then a else b := by
  by_cases h : p <;> simp [h, Scalar.select]

/-- The bits found of a scale. -/
theorem scaleBits_apply (v : Vec Ideal S1x16x128 .f32) (a : Fin 16) (l : Fin 128) (n : Nat) (hn : n < 0x7F80)
    (h : v (ix3 0 a l) = val n) : scaleBits v (ix2 a l) = BitVec.ofNat 32 (65536 * n) := by
  have hrow : scaleRow v (ix2 a l) = val n := by
    pointwise [scaleRow]
    exact h
  have hmag : absf (scaleRow v) (ix2 a l) = val n := by
    show max (scaleRow v (ix2 a l)) (-scaleRow v (ix2 a l)) = _
    rw [hrow]
    exact max_eq_left (le_trans (EReal.neg_le.mpr (by rw [neg_zero]; exact val_nonneg hn)) (val_nonneg hn))
  have hs : ∀ (ks : List (BitVec 32)) (b : IVec S16x128 32),
      ks.foldl (searchStep (absf (scaleRow v))) b (ix2 a l) = ks.foldl (step (val n)) (b (ix2 a l)) := by
    intro ks
    induction ks with
    | nil => intro b; rfl
    | cons k ks ih =>
      intro b
      rw [List.foldl_cons, List.foldl_cons, ih]
      congr 1
      rw [← hmag]
      exact select_decide _ _ _
  have hneg : ¬ (val n < 0) := not_lt.mpr (val_nonneg hn)
  have hz : (Ideal.ofBits .f32 0x00000000#32 : EReal) = 0 := Ideal.ofBits_zero_f32
  unfold scaleBits
  show Scalar.select (Ideal.cmp .olt (scaleRow v (ix2 a l)) (Ideal.ofBits .f32 0x00000000#32)) _ _ = _
  rw [hrow, hz]
  have hc : Ideal.cmp .olt (val n) (0 : EReal) = 0#1 := by
    simp [Ideal.cmp, hneg]
  rw [hc]
  show searchBits.foldl (searchStep (absf (scaleRow v))) (broadcast S16x128 0#32) (ix2 a l) = _
  rw [hs]
  exact search_eq hn

/-- The significand found of a scale. -/
theorem scaleMant_apply (v : Vec Ideal S1x16x128 .f32) (a : Fin 16) (l : Fin 128) (n : Nat) (hn : n < 0x7F80)
    (h : v (ix3 0 a l) = val n) : scaleMant v (ix2 a l) = (BitVec.ofNat 8 (mant n)).setWidth 32 := by
  show ((IntOp.shrsi .vector (scaleBits v (ix2 a l)) 16#32) &&& 127#32) ||| 128#32 = _
  rw [scaleBits_apply v a l n hn h]
  refine (bits_mant hn).trans ?_
  have := mant_lt n
  apply BitVec.eq_of_toNat_eq
  simp only [BitVec.toNat_ofNat, BitVec.toNat_setWidth]
  omega

/-- The power of two of a scale. -/
theorem scalePow_apply (v : Vec Ideal S1x16x128 .f32) (a : Fin 16) (l : Fin 128) (n : Nat) (hn : n < 0x7F80)
    (h : v (ix3 0 a l) = val n) : scalePow v (ix2 a l) = val (n / 128 * 128) := by
  show Ideal.ofBits .f32 (scaleBits v (ix2 a l) &&& 4286578688#32) = _
  rw [scaleBits_apply v a l n hn h, bits_pow hn]
  rfl

section Cache

attribute [local irreducible] val mant scalePow

/-- The four heads' scales of a cache are the numbers of `N`. -/
structure Scales (v : Fin 4 → Vec Ideal S1x16x128 .f32) (N : Nat → Nat → Nat) : Prop where
  lt : ∀ h t, N h t < 0x7F80
  normal : ∀ h t, N h t = 0 ∨ 128 ≤ N h t
  eq : ∀ (h : Fin 4) (a : Fin 16) (l : Fin 128), v h (ix3 0 a l) = val (N h.val (128 * a.val + l.val))

variable {v : Fin 4 → Vec Ideal S1x16x128 .f32} {N : Nat → Nat → Nat}

/-- The words of significands. -/
theorem mantWords_apply (S : Scales v N) (l : Fin 128) (a : Fin 16) :
    mantWords (v 0) (v 1) (v 2) (v 3) (ix2 l a) = word (fun h => mant (N h.val (128 * a.val + l.val))) := by
  pointwise [mantWords]
  rw [scaleMant_apply _ a l _ (S.lt _ _) (S.eq 0 a l), scaleMant_apply _ a l _ (S.lt _ _) (S.eq 1 a l),
    scaleMant_apply _ a l _ (S.lt _ _) (S.eq 2 a l), scaleMant_apply _ a l _ (S.lt _ _) (S.eq 3 a l)]
  rfl

/-- A chunk's entry: the code times the significand of its token's scale. -/
theorem chunk_apply (S : Scales v N) (l c : Nat) (hs : S128x16.Slices ![l, c] S64x1)
    (C : Vec Ideal S1x256x128 .i8) (r : Fin 256) (d : Fin 128) (hl : l + 64 ≤ 128) (hc : c < 16) :
    chunk (mantWords (v 0) (v 1) (v 2) (v 3)) l c hs C (ix2 r d)
      = (((C (ix3 0 r d)).toInt : ℝ) : EReal)
        * ((mant (N (r.val % 4) (128 * c + l + r.val / 4)) : ℝ) : EReal) := by
  pointwise [chunk]
  rw [bytes_back, bitcast_32_8]
  have e : broadcastTo S64x128 (extractStridedSlice S64x1 ![l, c] (mantWords (v 0) (v 1) (v 2) (v 3)) hs)
      broadcasts_S64x1_S64x128 (ix2 ⟨r.val / 4, by omega⟩ d)
      = word (fun h => mant (N h.val (128 * c + (l + r.val / 4)))) := by
    have := mantWords_apply S ⟨l + r.val / 4, by omega⟩ ⟨c, hc⟩
    rw [← this]
    pointwise []
  have e0 : shapeCast S256x128 C shapeCasts_S1x256x128_S256x128 (ix2 r d) = C (ix3 0 r d) := by
    pointwise []
  have e1 : ∀ b : BitVec 8, (FloatOps.uitofp .bf16 b : Ideal .bf16) = ((b.toNat : ℝ) : EReal) := fun _ => rfl
  have e2 : ∀ b : BitVec 8, (FloatOps.sitofp .bf16 b : Ideal .bf16) = ((b.toInt : ℝ) : EReal) := fun _ => rfl
  rw [e0, e1, e2, e, word_byte _ _ (by omega)]
  have := mant_lt (N (r.val % 4) (128 * c + (l + r.val / 4)))
  simp only [BitVec.toNat_ofNat, Nat.mod_eq_of_lt this, Nat.add_assoc]

/-- The powers of two side by side. -/
theorem powRow_apply (S : Scales v N) (a : Fin 16) (x : Fin 512) :
    powRow (v 0) (v 1) (v 2) (v 3) (ix2 a x)
      = val (N (x.val / 128) (128 * a.val + x.val % 128) / 128 * 128) := by
  have key : ∀ (h : Fin 4) (l : Fin 128) (k m : Nat), h.val = k → l.val = m → k = x.val / 128 → m = x.val % 128 →
      scalePow (v h) (ix2 a l) = val (N (x.val / 128) (128 * a.val + x.val % 128) / 128 * 128) := by
    intro h l k m ek em eh el
    rw [scalePow_apply _ a l _ (S.lt _ _) (S.eq h a l), ek, em, eh, el]
  pointwise [powRow]
  split_ifs
  all_goals first
    | refine key 0 ⟨x.val, by omega⟩ 0 x.val rfl rfl ?_ ?_
    | refine key 1 ⟨x.val - 128, by omega⟩ 1 (x.val - 128) rfl rfl ?_ ?_
    | refine key 2 ⟨x.val - 128 - 128, by omega⟩ 2 (x.val - 128 - 128) rfl rfl ?_ ?_
    | refine key 3 ⟨x.val - 128 - 128 - 128, by omega⟩ 3 (x.val - 128 - 128 - 128) rfl rfl ?_ ?_
  all_goals omega

/-- The matrix that brings lane `128 h + l` to lane `4 l + h`. -/
def Interleaves (il : Vec Ideal S512x512 .bf16) : Prop :=
  ∀ x j : Fin 512, il (ix2 x j) = if j.val = 4 * (x.val % 128) + x.val / 128 then (1 : EReal) else 0

/-- A row times the interleaving matrix. -/
theorem sum_interleave {il : Vec Ideal S512x512 .bf16} (hil : Interleaves il) (f : Fin 512 → EReal) (j : Fin 512) :
    (∑ x, f x * il (ix2 x j)) = f ⟨128 * (j.val % 4) + j.val / 4, by omega⟩ := by
  rw [Finset.sum_eq_single (⟨128 * (j.val % 4) + j.val / 4, by omega⟩ : Fin 512)]
  · rw [hil, if_pos (by simp only; omega), mul_one]
  · intro x _ hx
    rw [hil, if_neg, mul_zero]
    intro h
    exact hx (Fin.ext (by simp only; omega))
  · intro h; exact absurd (Finset.mem_univ _) h

variable {v' : Fin 4 → Vec Ideal S1x16x128 .f32} {N' : Nat → Nat → Nat}

/-- The key cache's lane factors. -/
theorem kFactor_apply (S : Scales v N) {il : Vec Ideal S512x512 .bf16} (hil : Interleaves il) (vp : FVec Ideal S16x512 .f32)
    (a : Fin 16) (j : Fin 512) :
    kFactor (powRow (v 0) (v 1) (v 2) (v 3)) vp il (ix2 a j)
      = val (N (j.val % 4) (128 * a.val + j.val / 4) / 128 * 128)
        * Ideal.ofBits .f32 0x3A3504F3#32 := by
  pointwise [kFactor, interleaved]
  refine congrArg₂ (· * ·) ?_ rfl
  refine (sum_interleave hil (fun x => powRow (v 0) (v 1) (v 2) (v 3) (ix2 a x)) j).trans ?_
  rw [powRow_apply S]
  have e1 : (128 * (j.val % 4) + j.val / 4) / 128 = j.val % 4 := by omega
  have e2 : (128 * (j.val % 4) + j.val / 4) % 128 = j.val / 4 := by omega
  simp only [e1, e2]

/-- The value cache's lane factors. -/
theorem vFactor_apply (S : Scales v N) {il : Vec Ideal S512x512 .bf16} (hil : Interleaves il) (kp : FVec Ideal S16x512 .f32)
    (a : Fin 16) (j : Fin 512) :
    vFactor kp (powRow (v 0) (v 1) (v 2) (v 3)) il (ix2 a j)
      = val (N (j.val % 4) (128 * a.val + j.val / 4) / 128 * 128)
        * Ideal.ofBits .f32 0x3C000000#32 := by
  pointwise [vFactor, interleaved]
  refine congrArg₂ (· * ·) ?_ rfl
  refine (sum_interleave hil (fun x => powRow (v 0) (v 1) (v 2) (v 3) (ix2 a x)) j).trans ?_
  rw [powRow_apply S]
  have e1 : (128 * (j.val % 4) + j.val / 4) / 128 = j.val % 4 := by omega
  have e2 : (128 * (j.val % 4) + j.val / 4) % 128 = j.val / 4 := by omega
  simp only [e1, e2]

end Cache

end Cert.KernelIdeal.Attn

end
-- ==== Proof.Attn.Scores.lean ====
/-
  The scores of one grid point, entry by entry: the query row times the dequantised key, scaled.
-/
module

public import proofs.«01_k».proof.Proof.Attn.Bits
public import Idealize.ShloMosaic.Lib.IdealHost

@[expose] public section

set_option synthInstance.maxSize 4096
set_option maxRecDepth 16384

noncomputable section

namespace Cert.KernelIdeal.Attn

open Idealize.ShloMosaic Idealize.SL.Sem Cert.KernelIdeal.Gen

/-- The constant the scores are scaled by, `1/√128` as an f32 number. -/
def smR : ℝ := 11863283 * 2 ^ (-27 : ℤ)

theorem ofBits_sm : Ideal.ofBits .f32 0x3DB504F3#32 = ((smR : ℝ) : EReal) := by
  unfold smR
  simp [Ideal.ofBits, Ideal.ieee, -EReal.coe_mul]

theorem ofBits_sm128 : Ideal.ofBits .f32 0x3A3504F3#32 = ((smR / 128 : ℝ) : EReal) := by
  unfold smR
  simp [Ideal.ofBits, Ideal.ieee, -EReal.coe_mul]; norm_num

theorem ofBits_128 : Ideal.ofBits .f32 0x3C000000#32 = ((1 / 128 : ℝ) : EReal) := by
  simp [Ideal.ofBits, Ideal.ieee, -EReal.coe_mul]; norm_num

theorem smR_nonneg : 0 ≤ smR := by unfold smR; norm_num

/-- A sum times a nonnegative finite number. -/
theorem sum_mul_fin {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The score of a query row and a key of int8 codes at a scale. -/
def cacheScore (q : Fin 128 → EReal) (code : Fin 128 → BitVec 8) (s : EReal) : EReal :=
  (∑ d, q d * ((((code d).toInt : ℝ) : EReal) * s)) * ((smR : ℝ) : EReal)

/-- The significand first and the power of two with the constant afterwards give the score. -/
theorem score_parts {N : Nat} (hN : N < 0x7F80) (h : N = 0 ∨ 128 ≤ N) (q : Fin 128 → EReal)
    (code : Fin 128 → BitVec 8) :
    (∑ d, q d * ((((code d).toInt : ℝ) : EReal) * ((mant N : ℝ) : EReal)))
        * (val (N / 128 * 128) * Ideal.ofBits .f32 0x3A3504F3#32)
      = cacheScore q code (val N) := by
  have hp : N / 128 * 128 < 0x7F80 := by omega
  rw [ofBits_sm128, cacheScore,
    sum_mul_fin _ _ (mul_nonneg (val_nonneg hp) (EReal.coe_nonneg.mpr (div_nonneg smR_nonneg (by norm_num)))),
    sum_mul_fin _ _ (EReal.coe_nonneg.mpr smR_nonneg) (EReal.coe_ne_top _)]
  · refine Finset.sum_congr rfl fun d _ => ?_
    rw [mul_assoc, mul_assoc, mul_assoc, mul_assoc, mant_mul_val hN h (smR / 128) smR (by ring)]
  · rw [val_eq _ hp, ← EReal.coe_mul]
    exact EReal.coe_ne_top _

/-- The head of a lane. -/
theorem cls_apply (g : Fin 8) (j : Fin 256) : k0_pay82 (ix2 g j) = BitVec.ofNat 32 (j.val % 4) := by
  pointwise [k0_pay82]
  obtain ⟨n, hn⟩ := j
  revert n
  decide +kernel

/-- The head of one of the first 128 lanes. -/
theorem cls1_apply (g : Fin 8) (j : Fin 128) : k0_pay83 (ix2 g j) = BitVec.ofNat 32 (j.val % 4) := by
  pointwise [k0_pay83]
  exact (cls_apply _ _).trans (by simp)

/-- Comparing small words. -/
theorem cmpi_ofNat (a b : Nat) (ha : a < 4) (hb : b < 4) :
    IntOp.cmpi .eq (BitVec.ofNat 32 a) (BitVec.ofNat 32 b) = BitVec.ofBool (decide (a = b)) := by
  interval_cases a <;> interval_cases b <;> rfl

/-- Of four values the one of the lane's head. -/
theorem select_head {α : Type} (k : Nat) (hk : k < 4) (f : Nat → α) :
    Scalar.select (IntOp.cmpi .eq (BitVec.ofNat 32 k) 0#32) (f 0)
      (Scalar.select (IntOp.cmpi .eq (BitVec.ofNat 32 k) 1#32) (f 1)
        (Scalar.select (IntOp.cmpi .eq (BitVec.ofNat 32 k) 2#32) (f 2) (f 3))) = f k := by
  interval_cases k <;> rfl

/-- The rows of the four heads, at each lane the row of the lane's head. -/
theorem ownHead_apply (s : FVec Ideal S32x256 .f32) (g : Fin 8) (j : Fin 256) :
    ownHead k0_pay82 s (ix2 g j) = s (ix2 ⟨8 * (j.val % 4) + g.val, by omega⟩ j) := by
  pointwise [ownHead]
  rw [cls_apply]
  have e : ∀ (k m : Nat) (hm : m < 32), m = 8 * k + g.val →
      s (ix2 ⟨m, hm⟩ j) = s (ix2 ⟨(8 * k + g.val) % 32, by omega⟩ j) := by
    intro k m hm h
    subst h
    congr 2
    exact Fin.ext (Nat.mod_eq_of_lt hm).symm
  have := select_head (j.val % 4) (by omega) (fun k => s (ix2 ⟨(8 * k + g.val) % 32, by omega⟩ j))
  refine Eq.trans ?_ (this.trans (e _ _ (by omega) rfl).symm)
  rw [← e 0 _ (by omega) rfl, ← e 1 _ (by omega) rfl, ← e 2 _ (by omega) rfl, ← e 3 _ (by omega) rfl]
  simp only [Nat.mul_zero, Nat.zero_add, Nat.mul_one, Nat.reduceMul]

/-- The same for the first 128 lanes. -/
theorem ownHead1_apply (s : FVec Ideal S32x128 .f32) (g : Fin 8) (j : Fin 128) :
    ownHead1 k0_pay83 s (ix2 g j) = s (ix2 ⟨8 * (j.val % 4) + g.val, by omega⟩ j) := by
  pointwise [ownHead1]
  rw [cls1_apply]
  have e : ∀ (k m : Nat) (hm : m < 32), m = 8 * k + g.val →
      s (ix2 ⟨m, hm⟩ j) = s (ix2 ⟨(8 * k + g.val) % 32, by omega⟩ j) := by
    intro k m hm h
    subst h
    congr 2
    exact Fin.ext (Nat.mod_eq_of_lt hm).symm
  have := select_head (j.val % 4) (by omega) (fun k => s (ix2 ⟨(8 * k + g.val) % 32, by omega⟩ j))
  refine Eq.trans ?_ (this.trans (e _ _ (by omega) rfl).symm)
  rw [← e 0 _ (by omega) rfl, ← e 1 _ (by omega) rfl, ← e 2 _ (by omega) rfl, ← e 3 _ (by omega) rfl]
  simp only [Nat.mul_zero, Nat.zero_add, Nat.mul_one, Nat.reduceMul]

/-- A sum over 256 columns, the second half of whose terms are zero. -/
theorem sum_first (f : Fin 256 → EReal) (g : Fin 128 → EReal) (h1 : ∀ d : Fin 128, f ⟨d.val, by omega⟩ = g d)
    (h2 : ∀ d : Fin 256, 128 ≤ d.val → f d = 0) : ∑ x, f x = ∑ d, g d := by
  rw [show (∑ x, f x) = ∑ x : Fin (128 + 128), f x from rfl, Fin.sum_univ_add]
  rw [show (∑ i : Fin 128, f (Fin.natAdd 128 i)) = 0 from
    Finset.sum_eq_zero fun i _ => h2 _ (by simp [Fin.natAdd]), add_zero]
  exact Finset.sum_congr rfl fun d _ => h1 d

/-- A sum over 256 columns, the first half of whose terms are zero. -/
theorem sum_second (f : Fin 256 → EReal) (g : Fin 128 → EReal)
    (h1 : ∀ d : Fin 128, f ⟨128 + d.val, by omega⟩ = g d)
    (h2 : ∀ d : Fin 256, d.val < 128 → f d = 0) : ∑ x, f x = ∑ d, g d := by
  rw [show (∑ x, f x) = ∑ x : Fin (128 + 128), f x from rfl, Fin.sum_univ_add]
  rw [show (∑ i : Fin 128, f (Fin.castAdd 128 i)) = 0 from
    Finset.sum_eq_zero fun i _ => h2 _ (by simp [Fin.castAdd]), zero_add]
  exact Finset.sum_congr rfl fun d _ => h1 d

/-- The first half of the rows of the product: queries times the first chunk. -/
theorem qk_first (x0 : Vec Ideal S1x32x128 .bf16) (A B : FVec Ideal S256x128 .bf16) (r : Fin 32) (j : Fin 256) :
    qk (k0_pay2 x0) (chunkPair A B) (ix2 ⟨r.val, by omega⟩ j) = ∑ d : Fin 128, x0 (ix3 0 r d) * A (ix2 j d) := by
  have hz : (Ideal.ofBits .bf16 0x0000#16 : EReal) = 0 := Ideal.ofBits_zero_bf16
  pointwise [qk]
  refine sum_first _ _ (fun d => ?_) (fun d hd => ?_)
  · pointwise [k0_pay2, k0_pay1, chunkPair]
  · pointwise [k0_pay2, k0_pay1, chunkPair]
    rw [dif_neg (show ¬ d.val < 128 by omega)]
    exact zero_mul (_ : EReal)

/-- The second half of the rows of the product: queries times the second chunk. -/
theorem qk_second (x0 : Vec Ideal S1x32x128 .bf16) (A B : FVec Ideal S256x128 .bf16) (r : Fin 32) (j : Fin 256) :
    qk (k0_pay2 x0) (chunkPair A B) (ix2 ⟨32 + r.val, by omega⟩ j) = ∑ d : Fin 128, x0 (ix3 0 r d) * B (ix2 j d) := by
  have hz : (Ideal.ofBits .bf16 0x0000#16 : EReal) = 0 := Ideal.ofBits_zero_bf16
  pointwise [qk]
  refine sum_second _ _ (fun d => ?_) (fun d hd => ?_)
  · pointwise [k0_pay2, k0_pay1, chunkPair]
  · pointwise [k0_pay2, k0_pay1, chunkPair]
    rw [dif_pos hd, zero_mul]

/-- A score tile from the first half of the rows. -/
theorem tile_first (x0 : Vec Ideal S1x32x128 .bf16) (A B : FVec Ideal S256x128 .bf16) (ho : S64x256.Slices ![0, 0] S32x256)
    (f : FVec Ideal S16x512 .f32) (c l : Nat) (hs : S16x512.Slices ![c, l] S1x256) (hc : c < 16) (hl : l + 256 ≤ 512)
    (g : Fin 8) (j : Fin 256) :
    scoreTile (qk (k0_pay2 x0) (chunkPair A B)) 0 ho f c l hs (ix2 g j)
      = (∑ d : Fin 128, x0 (ix3 0 ⟨8 * (j.val % 4) + g.val, by omega⟩ d) * A (ix2 j d))
        * f (ix2 ⟨c, hc⟩ ⟨l + j.val, by omega⟩) := by
  rw [← qk_first x0 A B]
  show ownHead k0_pay82 _ (ix2 g j) * laneFactor f c l hs (ix2 g j) = _
  rw [ownHead_apply]
  pointwise [laneFactor]

/-- A score tile from the second half of the rows. -/
theorem tile_second (x0 : Vec Ideal S1x32x128 .bf16) (A B : FVec Ideal S256x128 .bf16) (ho : S64x256.Slices ![32, 0] S32x256)
    (f : FVec Ideal S16x512 .f32) (c l : Nat) (hs : S16x512.Slices ![c, l] S1x256) (hc : c < 16) (hl : l + 256 ≤ 512)
    (g : Fin 8) (j : Fin 256) :
    scoreTile (qk (k0_pay2 x0) (chunkPair A B)) 32 ho f c l hs (ix2 g j)
      = (∑ d : Fin 128, x0 (ix3 0 ⟨8 * (j.val % 4) + g.val, by omega⟩ d) * B (ix2 j d))
        * f (ix2 ⟨c, hc⟩ ⟨l + j.val, by omega⟩) := by
  rw [← qk_second x0 A B]
  show ownHead k0_pay82 _ (ix2 g j) * laneFactor f c l hs (ix2 g j) = _
  rw [ownHead_apply]
  pointwise [laneFactor]

section Cache

variable {v : Fin 4 → Vec Ideal S1x16x128 .f32} {N : Nat → Nat → Nat}

/-- The score tile of a chunk in the first half: at each lane the score of the lane's head and token. -/
theorem score_first (S : Scales v N) {il : Vec Ideal S512x512 .bf16} (hil : Interleaves il) (vp : FVec Ideal S16x512 .f32)
    (x0 : Vec Ideal S1x32x128 .bf16) (l c : Nat) (hw : S128x16.Slices ![l, c] S64x1)
    (C : Vec Ideal S1x256x128 .i8) (B : FVec Ideal S256x128 .bf16) (ho : S64x256.Slices ![0, 0] S32x256)
    (l' : Nat) (hs : S16x512.Slices ![c, l'] S1x256) (hc : c < 16) (hl : l + 64 ≤ 128) (hl' : l' = 4 * l)
    (g : Fin 8) (j : Fin 256) :
    scoreTile (qk (k0_pay2 x0) (chunkPair (chunk (mantWords (v 0) (v 1) (v 2) (v 3)) l c hw C) B)) 0 ho
        (kFactor (powRow (v 0) (v 1) (v 2) (v 3)) vp il) c l' hs (ix2 g j)
      = cacheScore (fun d => x0 (ix3 0 ⟨8 * (j.val % 4) + g.val, by omega⟩ d)) (fun d => C (ix3 0 j d))
          (val (N (j.val % 4) (128 * c + l + j.val / 4))) := by
  rw [tile_first _ _ _ _ _ _ _ _ hc (by omega), kFactor_apply S hil]
  have e1 : (l' + j.val) % 4 = j.val % 4 := by omega
  have e2 : 128 * c + (l' + j.val) / 4 = 128 * c + l + j.val / 4 := by omega
  simp only [chunk_apply S _ _ _ _ _ _ hl hc, e1, e2]
  exact score_parts (S.lt _ _) (S.normal _ _) _ _

/-- The score tile of a chunk in the second half. -/
theorem score_second (S : Scales v N) {il : Vec Ideal S512x512 .bf16} (hil : Interleaves il) (vp : FVec Ideal S16x512 .f32)
    (x0 : Vec Ideal S1x32x128 .bf16) (l c : Nat) (hw : S128x16.Slices ![l, c] S64x1)
    (C : Vec Ideal S1x256x128 .i8) (A : FVec Ideal S256x128 .bf16) (ho : S64x256.Slices ![32, 0] S32x256)
    (l' : Nat) (hs : S16x512.Slices ![c, l'] S1x256) (hc : c < 16) (hl : l + 64 ≤ 128) (hl' : l' = 4 * l)
    (g : Fin 8) (j : Fin 256) :
    scoreTile (qk (k0_pay2 x0) (chunkPair A (chunk (mantWords (v 0) (v 1) (v 2) (v 3)) l c hw C))) 32 ho
        (kFactor (powRow (v 0) (v 1) (v 2) (v 3)) vp il) c l' hs (ix2 g j)
      = cacheScore (fun d => x0 (ix3 0 ⟨8 * (j.val % 4) + g.val, by omega⟩ d)) (fun d => C (ix3 0 j d))
          (val (N (j.val % 4) (128 * c + l + j.val / 4))) := by
  rw [tile_second _ _ _ _ _ _ _ _ hc (by omega), kFactor_apply S hil]
  have e1 : (l' + j.val) % 4 = j.val % 4 := by omega
  have e2 : 128 * c + (l' + j.val) / 4 = 128 * c + l + j.val / 4 := by omega
  simp only [chunk_apply S _ _ _ _ _ _ hl hc, e1, e2]
  exact score_parts (S.lt _ _) (S.normal _ _) _ _

end Cache

/-- The new token's rows: codes times scale on four rows, zero below. -/
theorem newRows_apply (codes : FVec Ideal S4x128 .f32) (scale : FVec Ideal S4x1 .f32) (h : Fin 4) (r : Fin 128)
    (hr : r.val = h.val) (d : Fin 128) :
    newRows codes scale (ix2 r d) = codes (ix2 h d) * scale (ix2 h 0) := by
  pointwise [newRows]
  rw [dif_pos (by omega)]
  congr 3 <;> first | rfl | (exact Fin.ext hr)

theorem newRows_zero (codes : FVec Ideal S4x128 .f32) (scale : FVec Ideal S4x1 .f32) (r : Fin 128)
    (hr : 4 ≤ r.val) (d : Fin 128) :
    newRows codes scale (ix2 r d) = (0 : EReal) := by
  pointwise [newRows]
  exact dif_neg (by omega)

/-- The new token's scores. -/
theorem newScore_apply (x0 : Vec Ideal S1x32x128 .bf16) (codes : FVec Ideal S4x128 .f32) (scale : FVec Ideal S4x1 .f32)
    (g : Fin 8) (j : Fin 128) :
    newScore (k0_pay1 x0) codes scale (ix2 g j)
      = if h : j.val < 4 then
          (∑ d : Fin 128, x0 (ix3 0 ⟨8 * j.val + g.val, by omega⟩ d)
            * (codes (ix2 ⟨j.val, h⟩ d) * scale (ix2 ⟨j.val, h⟩ 0))) * ((smR : ℝ) : EReal)
        else ⊥ := by
  unfold newScore
  show Scalar.select (k0_pay174 (ix2 g j)) (ownHead1 k0_pay83 _ (ix2 g j) * Ideal.ofBits .f32 0x3DB504F3#32)
    (Ideal.ofBits .f32 0xFF800000#32) = _
  rw [ownHead1_apply]
  pointwise [k0_pay174]
  have hc : IntOp.cmpi .slt (BitVec.ofNat 32 j.val) 4#32 = BitVec.ofBool (decide (j.val < 4)) := by
    obtain ⟨n, hn⟩ := j
    revert n
    decide +kernel
  rw [hc, select_decide, ofBits_sm]
  by_cases h : j.val < 4
  · rw [if_pos h, dif_pos h]
    congr 1
    refine Finset.sum_congr rfl fun d _ => ?_
    rw [newRows_apply codes scale ⟨j.val, h⟩ j rfl d]
    congr 1
    pointwise [k0_pay1]
    congr 3
    omega
  · rw [if_neg h, dif_neg h]
    simp [Ideal.ofBits, Ideal.ieee]

end Cert.KernelIdeal.Attn

end
-- ==== Proof.Attn.Load.lean ====
/-
  What one grid point's loads read of its blocks, index by index.
-/
module

public import proofs.«01_k».proof.Proof.Attn.Link
public import proofs.«01_k».proof.Proof.Attn.Scores
public import Idealize.ShloMosaic.Lib.WholeRead

@[expose] public section

set_option synthInstance.maxSize 4096
set_option maxRecDepth 16384

noncomputable section

namespace Cert.KernelIdeal.Attn

open Idealize.ShloMosaic Idealize.ShloMosaic.TcCoe Idealize.SL.Sem Cert.KernelIdeal.Gen

variable {F : FTy → Type} [FloatOps F]

theorem chunkLoad_apply (arg : Memref sig .tc .vmem S1x8192x128 .i8) (harg : arg.IsWhole) (x : Vec F S1x8192x128 .i8)
    (o : Nat) (inb) (r : Fin 256) (d : Fin 128) (k : Fin 8192) (hk : k.val = o + r.val) :
    chunkLoad (F := F) arg harg x o inb (ix3 0 r d) = x (ix3 0 k d) := by
  unfold chunkLoad
  rw [Memref.IsWhole.readAt_unread]
  congr 1
  funext a
  fin_cases a <;> apply Fin.ext
  · simp [ix3]
  · simp [ix3, hk]
  · simp [ix3]

theorem scaleLoad0_apply (arg : Memref sig .tc .vmem S1x64x128 .f32) (harg : arg.IsWhole) (x : Vec F S1x64x128 .f32)
    (a : Fin 16) (l : Fin 128) : scaleLoad0 (F := F) arg harg x (ix3 0 a l) = x (ix3 0 ⟨4 * a.val, by omega⟩ l) := by
  unfold scaleLoad0
  rw [Memref.IsWhole.readAt_unread]
  congr 1
  funext b
  fin_cases b <;> apply Fin.ext
  · simp [ix3]
  · simp [ix3]
  · simp [ix3]

theorem scaleLoad1_apply (arg : Memref sig .tc .vmem S1x64x128 .f32) (harg : arg.IsWhole) (x : Vec F S1x64x128 .f32)
    (a : Fin 16) (l : Fin 128) : scaleLoad1 (F := F) arg harg x (ix3 0 a l) = x (ix3 0 ⟨4 * a.val + 1, by omega⟩ l) := by
  unfold scaleLoad1
  rw [Memref.IsWhole.readAt_unread]
  congr 1
  funext b
  fin_cases b <;> apply Fin.ext
  · simp [ix3]
  · simp [ix3]; omega
  · simp [ix3]

theorem scaleLoad2_apply (arg : Memref sig .tc .vmem S1x64x128 .f32) (harg : arg.IsWhole) (x : Vec F S1x64x128 .f32)
    (a : Fin 16) (l : Fin 128) : scaleLoad2 (F := F) arg harg x (ix3 0 a l) = x (ix3 0 ⟨4 * a.val + 2, by omega⟩ l) := by
  unfold scaleLoad2
  rw [Memref.IsWhole.readAt_unread]
  congr 1
  funext b
  fin_cases b <;> apply Fin.ext
  · simp [ix3]
  · simp [ix3]; omega
  · simp [ix3]

theorem scaleLoad3_apply (arg : Memref sig .tc .vmem S1x64x128 .f32) (harg : arg.IsWhole) (x : Vec F S1x64x128 .f32)
    (a : Fin 16) (l : Fin 128) : scaleLoad3 (F := F) arg harg x (ix3 0 a l) = x (ix3 0 ⟨4 * a.val + 3, by omega⟩ l) := by
  unfold scaleLoad3
  rw [Memref.IsWhole.readAt_unread]
  congr 1
  funext b
  fin_cases b <;> apply Fin.ext
  · simp [ix3]
  · simp [ix3]; omega
  · simp [ix3]

theorem whole_q (arg : Memref sig .tc .vmem S1x32x128 .bf16) (harg : arg.IsWhole) (x : Vec F S1x32x128 .bf16) (inb) :
    View.readAt (Elt F) arg.view (Rect.unit (s := S1x32x128) ![0, 0, 0] S1x32x128.size inb).toLoadRect (harg.unread x) = x := by
  funext i
  rw [Memref.IsWhole.readAt_unread]
  congr 1
  funext b
  fin_cases b <;> apply Fin.ext <;> simp

theorem whole_new (arg : Memref sig .tc .vmem S1x4x128 .bf16) (harg : arg.IsWhole) (x : Vec F S1x4x128 .bf16) (inb) :
    View.readAt (Elt F) arg.view (Rect.unit (s := S1x4x128) ![0, 0, 0] S1x4x128.size inb).toLoadRect (harg.unread x) = x := by
  funext i
  rw [Memref.IsWhole.readAt_unread]
  congr 1
  funext b
  fin_cases b <;> apply Fin.ext <;> simp

theorem whole_il (arg : Memref sig .tc .vmem S512x512 .bf16) (harg : arg.IsWhole) (x : Vec F S512x512 .bf16) (inb) :
    View.readAt (Elt F) arg.view (Rect.unit (s := S512x512) ![0, 0] S512x512.size inb).toLoadRect (harg.unread x) = x := by
  funext i
  rw [Memref.IsWhole.readAt_unread]
  congr 1
  funext b
  fin_cases b <;> apply Fin.ext <;> simp

end Cert.KernelIdeal.Attn

end
-- ==== Proof.Attn.Sums.lean ====
/-
  Sums over tokens and lanes, and exponentials of differences from a maximum, on the extended reals.
-/
module

public import Idealize.ShloMosaic.PureOps.Ideal
public import Idealize.ShloMosaic.Lib.Pointwise

@[expose] public section

namespace Cert.KernelIdeal.Attn

open Idealize.ShloMosaic

section Sums

variable {M : Type*} [AddCommMonoid M]

/-- A sum over `a * b` terms in `a` blocks of `b`. -/
theorem sum_blocks (F : Nat → M) (a b : Nat) :
    ∑ t ∈ Finset.range (a * b), F t = ∑ i ∈ Finset.range a, ∑ m ∈ Finset.range b, F (b * i + m) := by
  induction a with
  | zero => simp
  | succ a ih => rw [Nat.succ_mul, Finset.sum_range_add, ih, Finset.sum_range_succ, Nat.mul_comm a b]

/-- A sum over 2048 tokens, in 16 pairs of 64 tokens of both halves. -/
theorem sum_tokens (F : Nat → M) :
    ∑ t ∈ Finset.range 2048, F t
      = ∑ i ∈ Finset.range 16, ((∑ m ∈ Finset.range 64, F (64 * i + m)) + ∑ m ∈ Finset.range 64, F (1024 + 64 * i + m)) := by
  rw [show 2048 = 1024 + 1024 from rfl, Finset.sum_range_add, Finset.sum_add_distrib]
  congr 1
  · exact sum_blocks F 16 64
  · rw [show 1024 = 16 * 64 from rfl, sum_blocks (fun t => F (16 * 64 + t)) 16 64]
    simp only [Nat.add_assoc]

/-- A sum over the lanes of one head. -/
theorem sum_lanes (G : Nat → M) (n h : Nat) (hh : h < 4) :
    ∑ j ∈ Finset.range (n * 4), (if j % 4 = h then G (j / 4) else 0) = ∑ m ∈ Finset.range n, G m := by
  rw [sum_blocks (fun j => if j % 4 = h then G (j / 4) else 0) n 4]
  refine Finset.sum_congr rfl fun m _ => ?_
  rw [Finset.sum_eq_single h]
  · rw [if_pos (by omega)]
    congr 1
    omega
  · intro j hj hne
    rw [Finset.mem_range] at hj
    exact if_neg (by omega)
  · intro hne
    exact absurd (Finset.mem_range.mpr hh) hne

/-- The lanes of one head, 128 at a time. -/
theorem sum_lanes_two (G : Nat → M) (h : Nat) (hh : h < 4) :
    ∑ j ∈ Finset.range 128, (if j % 4 = h then G (j / 4) + G ((128 + j) / 4) else 0) = ∑ m ∈ Finset.range 64, G m := by
  have e := sum_lanes G 64 h hh
  rw [show 64 * 4 = 128 + 128 from rfl, Finset.sum_range_add, ← Finset.sum_add_distrib] at e
  rw [← e]
  refine Finset.sum_congr rfl fun j _ => ?_
  have : (128 + j) % 4 = j % 4 := by omega
  rw [this]
  split_ifs
  · rfl
  · exact (add_zero 0).symm

end Sums

theorem exp_bot : Ideal.exp ⊥ = 0 := (rfl)

/-- The exponential of the difference from an upper bound is a nonnegative real. -/
theorem exp_sub_le {s m : EReal} (h : s ≤ m) : ∃ r : ℝ, 0 ≤ r ∧ Ideal.exp (s - m) = ((r : ℝ) : EReal) := by
  induction m with
  | bot =>
    rw [le_bot_iff.mp h]
    exact ⟨0, le_refl _, by simp [exp_bot]⟩
  | top => exact ⟨0, le_refl _, by simp [sub_eq_add_neg, exp_bot]⟩
  | coe m =>
    induction s with
    | bot => exact ⟨0, le_refl _, by simp [sub_eq_add_neg, exp_bot]⟩
    | top => exact absurd h (by simp)
    | coe s => exact ⟨Real.exp (s - m), (Real.exp_pos _).le, by rw [← EReal.coe_sub]; rfl⟩

/-- The exponentials of two differences multiply. -/
theorem exp_split {s m1 m2 : EReal} (h1 : s ≤ m1) (h2 : m1 ≤ m2) :
    Ideal.exp (s - m1) * Ideal.exp (m1 - m2) = Ideal.exp (s - m2) := by
  have zero_of_bot : ∀ x : EReal, Ideal.exp (⊥ - x) = 0 := fun x => by simp [sub_eq_add_neg, exp_bot]
  have zero_of_top : ∀ x : EReal, Ideal.exp (x - ⊤) = 0 := fun x => by simp [sub_eq_add_neg, exp_bot]
  induction m2 with
  | bot =>
    have e1 := le_bot_iff.mp h2
    subst e1
    have e2 := le_bot_iff.mp h1
    subst e2
    rw [zero_of_bot, zero_mul]
  | top => rw [zero_of_top, zero_of_top, mul_zero]
  | coe m2 =>
    induction m1 with
    | bot =>
      have e2 := le_bot_iff.mp h1
      subst e2
      rw [zero_of_bot, zero_of_bot, zero_mul]
    | top => exact absurd h2 (by simp)
    | coe m1 =>
      induction s with
      | bot => rw [zero_of_bot, zero_of_bot, zero_mul]
      | top => exact absurd h1 (by simp)
      | coe s =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2
        ring

end Cert.KernelIdeal.Attn
-- ==== Proof.Attn.Softmax.lean ====
/-
  The softmax of one grid point, entry by entry: the maximum over the tokens, the weights' sum and the weighted sum of
  the values, from score tiles that hold one token and head per lane.
-/
module

public import proofs.«01_k».proof.Proof.Attn.Scores
public import proofs.«01_k».proof.Proof.Attn.Sums

@[expose] public section

set_option synthInstance.maxSize 4096
set_option maxRecDepth 16384

noncomputable section

namespace Cert.KernelIdeal.Attn

open Idealize.ShloMosaic Idealize.SL.Sem Cert.KernelIdeal.Gen

/-- The largest of the 2048 scores of `S` and of the new token's `n`. -/
def peak (S : Nat → EReal) (n : EReal) : EReal := (Finset.range 2048).sup S ⊔ n

theorem peak_le_iff (S : Nat → EReal) (n z : EReal) : peak S n ≤ z ↔ (∀ t, t < 2048 → S t ≤ z) ∧ n ≤ z := by
  unfold peak
  rw [sup_le_iff, Finset.sup_le_iff]
  simp only [Finset.mem_range]

theorem le_peak {S : Nat → EReal} {n : EReal} {t : Nat} (ht : t < 2048) : S t ≤ peak S n :=
  ((peak_le_iff S n _).mp (le_refl _)).1 t ht

theorem le_peak_new {S : Nat → EReal} {n : EReal} : n ≤ peak S n := ((peak_le_iff S n _).mp (le_refl _)).2

/-- The sum of the weights. -/
def total (S : Nat → EReal) (n : EReal) : EReal :=
  Ideal.exp (n - peak S n) + ∑ t ∈ Finset.range 2048, Ideal.exp (S t - peak S n)

/-- The weighted sum of the values `V` and of the new token's value `v`. -/
def mix (S : Nat → EReal) (n : EReal) (V : Nat → EReal) (v : EReal) : EReal :=
  Ideal.exp (n - peak S n) * v + ∑ t ∈ Finset.range 2048, Ideal.exp (S t - peak S n) * V t

/-- The score tiles hold the scores: chunk `i` of the first half in `A i`, of the second half in `B i`, the new token's
    in `X`. -/
structure Tiles (A B : Fin 16 → FVec Ideal S8x256 .f32) (X : FVec Ideal S8x128 .f32) (S : Nat → Nat → Nat → EReal)
    (n : Nat → Nat → EReal) : Prop where
  first : ∀ i g j, A i (ix2 g j) = S (j.val % 4) g.val (64 * i.val + j.val / 4)
  second : ∀ i g j, B i (ix2 g j) = S (j.val % 4) g.val (1024 + 64 * i.val + j.val / 4)
  new : ∀ g j, X (ix2 g j) = if j.val < 4 then n j.val g.val else ⊥

variable {A B : Fin 16 → FVec Ideal S8x256 .f32} {X : FVec Ideal S8x128 .f32} {S : Nat → Nat → Nat → EReal}
  {n : Nat → Nat → EReal}

/-- The tiles in the order the maximum takes them. -/
def inOrder (A B : Fin 16 → FVec Ideal S8x256 .f32) : List (FVec Ideal S8x256 .f32) :=
  (List.finRange 16).flatMap fun i => [A i, B i]

theorem foldl_maxStep_le (L : List (FVec Ideal S8x256 .f32)) (m : FVec Ideal S8x128 .f32) (g : Fin 8) (j : Fin 128)
    (z : EReal) :
    (L.foldl maxStep m (ix2 g j) : EReal) ≤ z
      ↔ m (ix2 g j) ≤ z ∧ ∀ s ∈ L, s (ix2 g ⟨j.val, by omega⟩) ≤ z ∧ s (ix2 g ⟨128 + j.val, by omega⟩) ≤ z := by
  induction L generalizing m with
  | nil => simp
  | cons s L ih =>
    rw [List.foldl_cons, ih, List.forall_mem_cons]
    have e : maxStep m s (ix2 g j)
        = max (m (ix2 g j)) (max (s (ix2 g ⟨j.val, by omega⟩)) (s (ix2 g ⟨128 + j.val, by omega⟩))) := by
      pointwise [maxStep]
    rw [e, max_le_iff, max_le_iff]
    tauto

theorem headMax_le (mx : FVec Ideal S8x128 .f32) (h : Nat) (hh : h < 4) (g : Fin 8) (z : EReal) :
    (headMax mx (BitVec.ofNat 32 h) (ix2 g 0) : EReal) ≤ z ↔ ∀ l : Fin 128, l.val % 4 = h → mx (ix2 g l) ≤ z := by
  pointwise [headMax]
  rw [Finset.fold_max_le]
  have hb : (Ideal.ofBits .f32 0xFF800000#32 : EReal) = ⊥ := by simp [Ideal.ofBits, Ideal.ieee]
  simp only [cls1_apply, cmpi_ofNat _ _ (Nat.mod_lt _ (by decide : 0 < 4)) hh, select_decide, hb, bot_le, true_and,
    Finset.mem_univ, forall_true_left]
  refine forall_congr' fun l => ?_
  by_cases hl : l.val % 4 = h
  · simp [hl]
  · simp [hl]

theorem headSum_apply (l : FVec Ideal S8x128 .f32) (h : Nat) (hh : h < 4) (g : Fin 8) (j : Fin 128) :
    headSum l (BitVec.ofNat 32 h) (ix2 g j) = ∑ x : Fin 128, if x.val % 4 = h then l (ix2 g x) else 0 := by
  pointwise [headSum]
  refine Finset.sum_congr rfl fun x _ => ?_
  rw [cls1_apply, cmpi_ofNat _ _ (by omega) hh, select_decide]

theorem headMask_apply (r : Fin 32) (j : Fin 256) : headMask (ix2 r j) = BitVec.ofBool (decide (j.val % 4 = r.val / 8)) := by
  pointwise [headMask, k0_pay84, k0_pay85, k0_pay86, k0_pay87]
  obtain ⟨r, hr⟩ := r
  obtain ⟨j, hj⟩ := j
  simp only
  revert j
  revert r
  decide +kernel

theorem laneMax_apply (T : Tiles A B X S n) (g : Fin 8) (j : Fin 128) :
    laneMax ((inOrder A B).foldl maxStep X) (ix2 g j) = peak (S (j.val % 4) g.val) (n (j.val % 4) g.val) := by
  pointwise [laneMax, toLanes]
  rw [cls1_apply]
  have key : ∀ h, h < 4 → headMax ((inOrder A B).foldl maxStep X) (BitVec.ofNat 32 h) (ix2 g 0)
      = peak (S h g.val) (n h g.val) := by
    intro h hh
    refine eq_of_forall_ge_iff fun z => ?_
    rw [headMax_le _ h hh, peak_le_iff]
    simp only [foldl_maxStep_le, inOrder, List.mem_flatMap, List.mem_finRange, true_and, List.mem_cons, List.not_mem_nil,
      or_false, T.new]
    constructor
    · intro H
      refine ⟨fun t ht => ?_, ?_⟩
      · by_cases h1 : t < 1024
        · have h2 := H ⟨4 * (t % 64) % 128 + h, by omega⟩ (by simp only; omega)
          have h3 := h2.2 (A ⟨t / 64, by omega⟩) ⟨_, Or.inl rfl⟩
          simp only [T.first] at h3
          by_cases h4 : t % 64 < 32
          · have := h3.1
            rwa [show (4 * (t % 64) % 128 + h) % 4 = h by omega,
              show 64 * (t / 64) + (4 * (t % 64) % 128 + h) / 4 = t by omega] at this
          · have := h3.2
            rwa [show (128 + (4 * (t % 64) % 128 + h)) % 4 = h by omega,
              show 64 * (t / 64) + (128 + (4 * (t % 64) % 128 + h)) / 4 = t by omega] at this
        · have h2 := H ⟨4 * (t % 64) % 128 + h, by omega⟩ (by simp only; omega)
          have h3 := h2.2 (B ⟨(t - 1024) / 64, by omega⟩) ⟨_, Or.inr rfl⟩
          simp only [T.second] at h3
          by_cases h4 : t % 64 < 32
          · have := h3.1
            rwa [show (4 * (t % 64) % 128 + h) % 4 = h by omega,
              show 1024 + 64 * ((t - 1024) / 64) + (4 * (t % 64) % 128 + h) / 4 = t by omega] at this
          · have := h3.2
            rwa [show (128 + (4 * (t % 64) % 128 + h)) % 4 = h by omega,
              show 1024 + 64 * ((t - 1024) / 64) + (128 + (4 * (t % 64) % 128 + h)) / 4 = t by omega] at this
      · have h2 := (H ⟨h, by omega⟩ (by simp only; omega)).1
        rwa [if_pos hh] at h2
    · rintro ⟨H, Hn⟩ l hl
      refine ⟨?_, ?_⟩
      · split_ifs with h1
        · rwa [show l.val = h by omega]
        · exact bot_le
      · rintro s ⟨i, rfl | rfl⟩
        · rw [T.first, T.first]
          constructor
          · simp only [hl]
            exact H _ (by omega)
          · simp only [show (128 + l.val) % 4 = h by omega]
            exact H _ (by omega)
        · rw [T.second, T.second]
          constructor
          · simp only [hl]
            exact H _ (by omega)
          · simp only [show (128 + l.val) % 4 = h by omega]
            exact H _ (by omega)
  have h4 : j.val % 4 < 4 := by omega
  rw [← key _ h4]
  generalize j.val % 4 = k at h4
  interval_cases k <;> rfl

/-- The lane maximum copied to 256 lanes. -/
theorem laneMax2_apply (T : Tiles A B X S n) (g : Fin 8) (j : Fin 256) :
    laneMax2 (laneMax ((inOrder A B).foldl maxStep X)) (ix2 g j)
      = peak (S (j.val % 4) g.val) (n (j.val % 4) g.val) := by
  pointwise [laneMax2]
  by_cases h : j.val < 128
  · rw [dif_pos h, laneMax_apply T]
  · rw [dif_neg h, laneMax_apply T]
    simp only [show (j.val - 128) % 4 = j.val % 4 by omega]

/-- The weights of the first half's chunk `i`. -/
theorem weight_first (T : Tiles A B X S n) (i : Fin 16) (g : Fin 8) (j : Fin 256) :
    weight (A i) (laneMax2 (laneMax ((inOrder A B).foldl maxStep X))) (ix2 g j)
      = Ideal.exp (S (j.val % 4) g.val (64 * i.val + j.val / 4) - peak (S (j.val % 4) g.val) (n (j.val % 4) g.val)) := by
  show Ideal.exp (A i (ix2 g j) - laneMax2 (laneMax ((inOrder A B).foldl maxStep X)) (ix2 g j)) = _
  rw [laneMax2_apply T, T.first]

/-- The weights of the second half's chunk `i`. -/
theorem weight_second (T : Tiles A B X S n) (i : Fin 16) (g : Fin 8) (j : Fin 256) :
    weight (B i) (laneMax2 (laneMax ((inOrder A B).foldl maxStep X))) (ix2 g j)
      = Ideal.exp (S (j.val % 4) g.val (1024 + 64 * i.val + j.val / 4)
          - peak (S (j.val % 4) g.val) (n (j.val % 4) g.val)) := by
  show Ideal.exp (B i (ix2 g j) - laneMax2 (laneMax ((inOrder A B).foldl maxStep X)) (ix2 g j)) = _
  rw [laneMax2_apply T, T.second]

/-- The new token's weights. -/
def newWeight (A B : Fin 16 → FVec Ideal S8x256 .f32) (X : FVec Ideal S8x128 .f32) : FVec Ideal S8x128 .f32 :=
  exp (subf X (laneMax ((inOrder A B).foldl maxStep X)))

theorem newWeight_apply (T : Tiles A B X S n) (g : Fin 8) (j : Fin 128) :
    newWeight A B X (ix2 g j)
      = if j.val < 4 then Ideal.exp (n j.val g.val - peak (S j.val g.val) (n j.val g.val)) else 0 := by
  show Ideal.exp (X (ix2 g j) - laneMax ((inOrder A B).foldl maxStep X) (ix2 g j)) = _
  rw [laneMax_apply T, T.new]
  by_cases h : j.val < 4
  · rw [if_pos h, if_pos h, show j.val % 4 = j.val by omega]
  · rw [if_neg h, if_neg h, sub_eq_add_neg, EReal.bot_add, exp_bot]

/-- A weight is a real number. -/
theorem newWeight_real (T : Tiles A B X S n) (g : Fin 8) (j : Fin 128) :
    ∃ r : ℝ, newWeight A B X (ix2 g j) = ((r : ℝ) : EReal) := by
  rw [newWeight_apply T]
  split_ifs
  · obtain ⟨r, _, h⟩ := exp_sub_le (le_peak_new (S := S j.val g.val) (n := n j.val g.val))
    exact ⟨r, h⟩
  · exact ⟨0, rfl⟩

/-- The weights' sums per lane, over the sixteen steps. -/
def laneSums (A B : Fin 16 → FVec Ideal S8x256 .f32) (X : FVec Ideal S8x128 .f32) : FVec Ideal S8x128 .f32 :=
  (List.finRange 16).foldl
    (fun l i => sumStep l (weight (A i) (laneMax2 (laneMax ((inOrder A B).foldl maxStep X))))
      (weight (B i) (laneMax2 (laneMax ((inOrder A B).foldl maxStep X))))) (newWeight A B X)

theorem foldl_sumStep (PA PB : Fin 16 → FVec Ideal S8x256 .f32) (L : List (Fin 16)) (l : FVec Ideal S8x128 .f32)
    (g : Fin 8) (j : Fin 128) :
    (L.foldl (fun l i => sumStep l (PA i) (PB i)) l (ix2 g j) : EReal)
      = l (ix2 g j) + (L.map fun i =>
          (PA i (ix2 g ⟨j.val, by omega⟩) + PA i (ix2 g ⟨128 + j.val, by omega⟩)
            + (PB i (ix2 g ⟨j.val, by omega⟩) + PB i (ix2 g ⟨128 + j.val, by omega⟩)) : EReal)).sum := by
  induction L generalizing l with
  | nil => simp
  | cons i L ih =>
    rw [List.foldl_cons, ih, List.map_cons, List.sum_cons, ← add_assoc]
    congr 1
    pointwise [sumStep]

/-- The sum of the weights of a head. -/
theorem headSum_laneSums (T : Tiles A B X S n) (h : Nat) (hh : h < 4) (g : Fin 8) (j : Fin 128) :
    headSum (laneSums A B X) (BitVec.ofNat 32 h) (ix2 g j) = total (S h g.val) (n h g.val) := by
  rw [headSum_apply _ _ hh]
  set W : Nat → EReal := fun t => Ideal.exp (S h g.val t - peak (S h g.val) (n h g.val)) with hW
  have e : ∀ x : Fin 128, (if x.val % 4 = h then (laneSums A B X (ix2 g x) : EReal) else 0)
      = (if x.val = h then Ideal.exp (n h g.val - peak (S h g.val) (n h g.val)) else 0)
        + ∑ i : Fin 16, ((if x.val % 4 = h then W (64 * i.val + x.val / 4) + W (64 * i.val + (128 + x.val) / 4) else 0)
            + (if x.val % 4 = h then W (1024 + 64 * i.val + x.val / 4) + W (1024 + 64 * i.val + (128 + x.val) / 4) else 0)) := by
    intro x
    by_cases hx : x.val % 4 = h
    · rw [if_pos hx, laneSums, foldl_sumStep, newWeight_apply T, ← Fin.sum_univ_def]
      simp only [weight_first T, weight_second T, hx, show (128 + x.val) % 4 = h by omega, hW, ↓reduceIte]
      congr 1
      by_cases h4 : x.val < 4
      · rw [if_pos h4, show x.val = h by omega, if_pos rfl]
      · rw [if_neg h4, if_neg (by omega)]
    · have : x.val ≠ h := by omega
      simp [hx, this]
  rw [Finset.sum_congr rfl fun x _ => e x, Finset.sum_add_distrib, Finset.sum_comm]
  unfold total
  congr 1
  · rw [Finset.sum_eq_single (⟨h, by omega⟩ : Fin 128)]
    · simp
    · intro b _ hb
      exact if_neg fun hc => hb (Fin.ext hc)
    · intro hc
      exact absurd (Finset.mem_univ _) hc
  · rw [sum_tokens, Finset.sum_range]
    refine Finset.sum_congr rfl fun i _ => ?_
    rw [Finset.sum_add_distrib]
    congr 1
    · have := sum_lanes_two (fun m => W (64 * i.val + m)) h hh
      rw [Finset.sum_range] at this
      exact this
    · have := sum_lanes_two (fun m => W (1024 + 64 * i.val + m)) h hh
      rw [Finset.sum_range] at this
      exact this

end Cert.KernelIdeal.Attn

end
-- ==== Proof.Attn.Mix.lean ====
/-
  The weighted sum of the values of one grid point, entry by entry: of each weight's three parts the first is the weight
  and the others are zero, and the rows of a head add up its own lanes.
-/
module

public import proofs.«01_k».proof.Proof.Attn.Softmax

@[expose] public section

set_option synthInstance.maxSize 4096
set_option maxRecDepth 16384

noncomputable section

namespace Cert.KernelIdeal.Attn

open Idealize.ShloMosaic Idealize.SL.Sem Cert.KernelIdeal.Gen

/-- What is left of a real number after its rounding, which is the identity here, is zero. -/
theorem leftOver_zero {s : Shape} (r : FVec Ideal s .f32) (h : ∀ i, ∃ x : ℝ, r i = ((x : ℝ) : EReal)) (i : s.Idx) :
    leftOver r i = (0 : EReal) := by
  show (r i : EReal) - r i = 0
  obtain ⟨x, hx⟩ := h i
  rw [hx, ← EReal.coe_sub, sub_self]
  rfl

/-- Twice. -/
theorem leftOver_leftOver {s : Shape} (r : FVec Ideal s .f32) (h : ∀ i, ∃ x : ℝ, r i = ((x : ℝ) : EReal)) (i : s.Idx) :
    leftOver (leftOver r) i = (0 : EReal) :=
  leftOver_zero _ (fun k => ⟨0, leftOver_zero r h k⟩) i

/-- A head's rows hold the weights of its own lanes. -/
theorem headRows_apply (r : FVec Ideal S8x256 .f32) (k : Fin 32) (j : Fin 256) :
    headRows headMask r (ix2 k j) = if j.val % 4 = k.val / 8 then r (ix2 ⟨k.val % 8, by omega⟩ j) else (0 : EReal) := by
  pointwise [headRows]
  rw [headMask_apply, select_decide]
  congr 1
  split_ifs <;> (congr 2; exact Fin.ext (by simp only []; omega))

theorem headRows1_apply (r : FVec Ideal S8x128 .f32) (k : Fin 32) (j : Fin 128) :
    headRows1 (extractStridedSlice S32x128 ![0, 0] headMask slices_S32x256_o0_0_S32x128) r (ix2 k j)
      = if j.val % 4 = k.val / 8 then r (ix2 ⟨k.val % 8, by omega⟩ j) else (0 : EReal) := by
  pointwise [headRows1]
  rw [headMask_apply, select_decide]
  congr 1
  split_ifs <;> (congr 2; exact Fin.ext (by simp only []; omega))

theorem headRows1_own (r : FVec Ideal S8x128 .f32) (k : Fin 32) (j : Fin 128) (m : Fin 8) (hm : m.val = k.val % 8)
    (hk : j.val % 4 = k.val / 8) :
    headRows1 (extractStridedSlice S32x128 ![0, 0] headMask slices_S32x256_o0_0_S32x128) r (ix2 k j) = r (ix2 m j) := by
  rw [headRows1_apply, if_pos hk]
  congr 2
  exact Fin.ext hm.symm

theorem headRows_zero (r : FVec Ideal S8x256 .f32) (h : ∀ i, r i = (0 : EReal)) (k : Fin 32) (j : Fin 256) :
    headRows headMask r (ix2 k j) = (0 : EReal) := by
  rw [headRows_apply, h, ite_self]

theorem headRows1_zero (r : FVec Ideal S8x128 .f32) (h : ∀ i, r i = (0 : EReal)) (k : Fin 32) (j : Fin 128) :
    headRows1 (extractStridedSlice S32x128 ![0, 0] headMask slices_S32x256_o0_0_S32x128) r (ix2 k j) = (0 : EReal) := by
  rw [headRows1_apply, h, ite_self]

section Rows

variable (ra rb : FVec Ideal S8x256 .f32) (ha : ∀ i, ∃ x : ℝ, ra i = ((x : ℝ) : EReal))
  (hb : ∀ i, ∃ x : ℝ, rb i = ((x : ℝ) : EReal)) (k : Fin 32) (j : Fin 256)

theorem sixRows_first : sixRows headMask ra rb (ix2 ⟨k.val, by omega⟩ j) = headRows headMask ra (ix2 k j) := by
  pointwise [sixRows]

theorem sixRows_second : sixRows headMask ra rb (ix2 ⟨96 + k.val, by omega⟩ j) = headRows headMask rb (ix2 k j) := by
  pointwise [sixRows]
  rw [dif_neg (by omega), dif_neg (by omega), dif_neg (by omega), dif_pos (by omega)]
  congr 2
  exact Fin.ext (by simp only []; omega)

include ha hb in
theorem sixRows_rest (p : Fin 192) (hp : ¬ p.val < 32) (hp' : ¬ (96 ≤ p.val ∧ p.val < 128)) :
    sixRows headMask ra rb (ix2 p j) = (0 : EReal) := by
  pointwise [sixRows]
  split_ifs
  all_goals first
    | (exfalso; omega)
    | exact headRows_zero _ (leftOver_zero ra ha) _ _
    | exact headRows_zero _ (leftOver_leftOver ra ha) _ _
    | exact headRows_zero _ (leftOver_zero rb hb) _ _
    | exact headRows_zero _ (leftOver_leftOver rb hb) _ _

end Rows

/-- A sum of products over the accumulators' steps. -/
theorem foldl_accStep (LH : Fin 16 → FVec Ideal S192x256 .bf16) (VC : Fin 16 → FVec Ideal S256x256 .bf16)
    (L : List (Fin 16)) (acc : FVec Ideal S192x256 .f32) (r : Fin 192) (c : Fin 256) :
    (L.foldl (fun acc i => accStep acc (LH i) (VC i)) acc (ix2 r c) : EReal)
      = acc (ix2 r c) + (L.map fun i => (∑ x : Fin 256, LH i (ix2 r x) * VC i (ix2 x c) : EReal)).sum := by
  induction L generalizing acc with
  | nil => simp
  | cons i L ih =>
    rw [List.foldl_cons, ih, List.map_cons, List.sum_cons, ← add_assoc]
    congr 1
    pointwise [accStep]

variable {A B : Fin 16 → FVec Ideal S8x256 .f32} {X : FVec Ideal S8x128 .f32} {S : Nat → Nat → Nat → EReal}
  {n : Nat → Nat → EReal}

/-- The accumulators after the sixteen steps. -/
def accs (A B : Fin 16 → FVec Ideal S8x256 .f32) (X : FVec Ideal S8x128 .f32) (FA FB : Fin 16 → FVec Ideal S8x256 .f32)
    (CA CB : Fin 16 → FVec Ideal S256x128 .bf16) : FVec Ideal S192x256 .f32 :=
  (List.finRange 16).foldl
    (fun acc i => accStep acc
      (sixRows headMask (mulf (weight (A i) (laneMax2 (laneMax ((inOrder A B).foldl maxStep X)))) (FA i))
        (mulf (weight (B i) (laneMax2 (laneMax ((inOrder A B).foldl maxStep X)))) (FB i)))
      (chunkPair (CA i) (CB i))) (broadcast S192x256 (Scalar.ofBits .f32 0x00000000#32))

/-- What the values' chunks and lane factors hold: each lane's factor is real, and times the chunk's row it is the value. -/
structure Values (FA FB : Fin 16 → FVec Ideal S8x256 .f32) (CA CB : Fin 16 → FVec Ideal S256x128 .bf16)
    (V : Nat → Nat → Fin 128 → EReal) : Prop where
  realA : ∀ i g j, ∃ x : ℝ, FA i (ix2 g j) = ((x : ℝ) : EReal)
  realB : ∀ i g j, ∃ x : ℝ, FB i (ix2 g j) = ((x : ℝ) : EReal)
  first : ∀ i g j d, (FA i (ix2 g j) * CA i (ix2 j d) : EReal) = V (j.val % 4) (64 * i.val + j.val / 4) d
  second : ∀ i g j d, (FB i (ix2 g j) * CB i (ix2 j d) : EReal) = V (j.val % 4) (1024 + 64 * i.val + j.val / 4) d

variable {FA FB : Fin 16 → FVec Ideal S8x256 .f32} {CA CB : Fin 16 → FVec Ideal S256x128 .bf16}
  {V : Nat → Nat → Fin 128 → EReal}

theorem weighted_first_real (T : Tiles A B X S n) (W : Values FA FB CA CB V) (i : Fin 16) (p : S8x256.Idx) :
    ∃ x : ℝ, mulf (weight (A i) (laneMax2 (laneMax ((inOrder A B).foldl maxStep X)))) (FA i) p = ((x : ℝ) : EReal) := by
  obtain ⟨g, j, rfl⟩ : ∃ g j, p = ix2 g j := ⟨p 0, p 1, by funext a; match a with | ⟨0, _⟩ => rfl | ⟨1, _⟩ => rfl⟩
  obtain ⟨x, hx⟩ := W.realA i g j
  obtain ⟨y, _, hy⟩ := exp_sub_le (le_peak (S := S (j.val % 4) g.val) (n := n (j.val % 4) g.val)
    (t := 64 * i.val + j.val / 4) (by omega))
  refine ⟨y * x, ?_⟩
  show (weight (A i) (laneMax2 (laneMax ((inOrder A B).foldl maxStep X))) (ix2 g j) * FA i (ix2 g j) : EReal) = _
  rw [weight_first T, hx, hy, EReal.coe_mul]

theorem weighted_second_real (T : Tiles A B X S n) (W : Values FA FB CA CB V) (i : Fin 16) (p : S8x256.Idx) :
    ∃ x : ℝ, mulf (weight (B i) (laneMax2 (laneMax ((inOrder A B).foldl maxStep X)))) (FB i) p = ((x : ℝ) : EReal) := by
  obtain ⟨g, j, rfl⟩ : ∃ g j, p = ix2 g j := ⟨p 0, p 1, by funext a; match a with | ⟨0, _⟩ => rfl | ⟨1, _⟩ => rfl⟩
  obtain ⟨x, hx⟩ := W.realB i g j
  obtain ⟨y, _, hy⟩ := exp_sub_le (le_peak (S := S (j.val % 4) g.val) (n := n (j.val % 4) g.val)
    (t := 1024 + 64 * i.val + j.val / 4) (by omega))
  refine ⟨y * x, ?_⟩
  show (weight (B i) (laneMax2 (laneMax ((inOrder A B).foldl maxStep X))) (ix2 g j) * FB i (ix2 g j) : EReal) = _
  rw [weight_second T, hx, hy, EReal.coe_mul]

/-- A sum over the lanes of one head, over the numbers below 256. -/
theorem sum_head (G : Nat → EReal) (h : Nat) (hh : h < 4) :
    (∑ x : Fin 256, if x.val % 4 = h then G (x.val / 4) else 0) = ∑ m ∈ Finset.range 64, G m := by
  rw [← sum_lanes G 64 h hh, Finset.sum_range]

/-- The first part of the first half. -/
theorem accs_first (T : Tiles A B X S n) (W : Values FA FB CA CB V) (h : Nat) (hh : h < 4) (g : Fin 8) (d : Fin 128) :
    accs A B X FA FB CA CB (ix2 ⟨8 * h + g.val, by omega⟩ ⟨d.val, by omega⟩)
      = ∑ i : Fin 16, ∑ m ∈ Finset.range 64,
          Ideal.exp (S h g.val (64 * i.val + m) - peak (S h g.val) (n h g.val)) * V h (64 * i.val + m) d := by
  have hz : (broadcast S192x256 (Scalar.ofBits .f32 0x00000000#32) : FVec Ideal S192x256 .f32)
      (ix2 ⟨8 * h + g.val, by omega⟩ ⟨d.val, by omega⟩) = (0 : EReal) := Ideal.ofBits_zero_f32
  rw [accs, foldl_accStep, ← Fin.sum_univ_def, hz, zero_add]
  refine Finset.sum_congr rfl fun i _ => ?_
  rw [← sum_head (fun m => Ideal.exp (S h g.val (64 * i.val + m) - peak (S h g.val) (n h g.val)) * V h (64 * i.val + m) d) h hh]
  refine Finset.sum_congr rfl fun x _ => ?_
  rw [sixRows_first _ _ ⟨8 * h + g.val, by omega⟩, headRows_apply]
  have e1 : (8 * h + g.val) / 8 = h := by omega
  have e2 : (8 * h + g.val) % 8 = g.val := by omega
  simp only [e1, e2]
  have e3 : chunkPair (CA i) (CB i) (ix2 x ⟨d.val, by omega⟩) = CA i (ix2 x d) := by
    pointwise [chunkPair]
  rw [e3]
  split_ifs with hx
  · show (weight (A i) (laneMax2 (laneMax ((inOrder A B).foldl maxStep X))) (ix2 g x) * FA i (ix2 g x) : EReal) * CA i (ix2 x d) = _
    rw [weight_first T, mul_assoc, W.first, hx]
  · exact zero_mul _

/-- The first part of the second half. -/
theorem accs_second (T : Tiles A B X S n) (W : Values FA FB CA CB V) (h : Nat) (hh : h < 4) (g : Fin 8) (d : Fin 128) :
    accs A B X FA FB CA CB (ix2 ⟨96 + (8 * h + g.val), by omega⟩ ⟨128 + d.val, by omega⟩)
      = ∑ i : Fin 16, ∑ m ∈ Finset.range 64,
          Ideal.exp (S h g.val (1024 + 64 * i.val + m) - peak (S h g.val) (n h g.val)) * V h (1024 + 64 * i.val + m) d := by
  have hz : (broadcast S192x256 (Scalar.ofBits .f32 0x00000000#32) : FVec Ideal S192x256 .f32)
      (ix2 ⟨96 + (8 * h + g.val), by omega⟩ ⟨128 + d.val, by omega⟩) = (0 : EReal) := Ideal.ofBits_zero_f32
  rw [accs, foldl_accStep, ← Fin.sum_univ_def, hz, zero_add]
  refine Finset.sum_congr rfl fun i _ => ?_
  rw [← sum_head (fun m => Ideal.exp (S h g.val (1024 + 64 * i.val + m) - peak (S h g.val) (n h g.val))
    * V h (1024 + 64 * i.val + m) d) h hh]
  refine Finset.sum_congr rfl fun x _ => ?_
  rw [sixRows_second _ _ ⟨8 * h + g.val, by omega⟩, headRows_apply]
  have e1 : (8 * h + g.val) / 8 = h := by omega
  have e2 : (8 * h + g.val) % 8 = g.val := by omega
  simp only [e1, e2]
  have e3 : chunkPair (CA i) (CB i) (ix2 x ⟨128 + d.val, by omega⟩) = CB i (ix2 x d) := by
    pointwise [chunkPair]
  rw [e3]
  split_ifs with hx
  · show (weight (B i) (laneMax2 (laneMax ((inOrder A B).foldl maxStep X))) (ix2 g x) * FB i (ix2 g x) : EReal) * CB i (ix2 x d) = _
    rw [weight_second T, mul_assoc, W.second, hx]
  · exact zero_mul _

/-- The other parts are zero. -/
theorem accs_rest (T : Tiles A B X S n) (W : Values FA FB CA CB V) (p : Fin 192) (hp : ¬ p.val < 32)
    (hp' : ¬ (96 ≤ p.val ∧ p.val < 128)) (c : Fin 256) : accs A B X FA FB CA CB (ix2 p c) = (0 : EReal) := by
  have hz : (broadcast S192x256 (Scalar.ofBits .f32 0x00000000#32) : FVec Ideal S192x256 .f32)
      (ix2 p c) = (0 : EReal) := Ideal.ofBits_zero_f32
  rw [accs, foldl_accStep, ← Fin.sum_univ_def, hz, zero_add]
  refine Finset.sum_eq_zero fun i _ => Finset.sum_eq_zero fun x _ => ?_
  rw [sixRows_rest _ _ (weighted_first_real T W i) (weighted_second_real T W i) _ _ hp hp']
  exact zero_mul _

/-- The new token's rows: nonzero at its four lanes. -/
structure NewValues (NV : FVec Ideal S128x128 .bf16) (vn : Nat → Fin 128 → EReal) : Prop where
  eq : ∀ (x d : Fin 128), NV (ix2 x d) = if x.val < 4 then vn x.val d else 0

variable {NV : FVec Ideal S128x128 .bf16} {vn : Nat → Fin 128 → EReal}

theorem accNew_first (T : Tiles A B X S n) (N : NewValues NV vn) (h : Nat) (hh : h < 4) (g : Fin 8) (d : Fin 128) :
    accNew (threeRows (extractStridedSlice S32x128 ![0, 0] headMask slices_S32x256_o0_0_S32x128) (newWeight A B X)) NV
        (ix2 ⟨8 * h + g.val, by omega⟩ d)
      = Ideal.exp (n h g.val - peak (S h g.val) (n h g.val)) * vn h d := by
  pointwise [accNew, threeRows]
  rw [Finset.sum_eq_single (⟨h, by omega⟩ : Fin 128)]
  · rw [dif_pos (by omega), headRows1_own _ _ _ g (by simp only; omega) (by simp only; omega), N.eq,
      if_pos (by simp only; omega), newWeight_apply T, if_pos (by simp only; omega)]
  · intro x _ hx
    have hx' : x.val ≠ h := fun e => hx (Fin.ext e)
    rw [dif_pos (by omega), headRows1_apply, N.eq]
    by_cases h2 : x.val < 4
    · rw [if_neg (by simp only; omega)]
      exact zero_mul _
    · rw [if_neg h2]
      exact mul_zero _
  · intro hc
    exact absurd (Finset.mem_univ _) hc

theorem accNew_rest (T : Tiles A B X S n) (p : Fin 96) (hp : 32 ≤ p.val) (d : Fin 128) :
    accNew (threeRows (extractStridedSlice S32x128 ![0, 0] headMask slices_S32x256_o0_0_S32x128) (newWeight A B X)) NV
        (ix2 p d) = (0 : EReal) := by
  have hr : ∀ i, ∃ x : ℝ, newWeight A B X i = ((x : ℝ) : EReal) := by
    intro p
    obtain ⟨g, j, rfl⟩ : ∃ g j, p = ix2 g j := ⟨p 0, p 1, by funext a; match a with | ⟨0, _⟩ => rfl | ⟨1, _⟩ => rfl⟩
    exact newWeight_real T g j
  pointwise [accNew, threeRows]
  refine Finset.sum_eq_zero fun x _ => ?_
  rw [dif_neg (by omega)]
  by_cases hq : p.val - 32 < 32
  · rw [dif_pos hq, headRows1_zero _ (leftOver_zero _ hr)]
    exact zero_mul _
  · rw [dif_neg hq, headRows1_zero _ (leftOver_leftOver _ hr)]
    exact zero_mul _

/-- The numerators: the weighted sum of the values. -/
theorem numer_apply (T : Tiles A B X S n) (W : Values FA FB CA CB V) (N : NewValues NV vn) (h : Nat) (hh : h < 4)
    (g : Fin 8) (d : Fin 128) :
    numer (accNew (threeRows (extractStridedSlice S32x128 ![0, 0] headMask slices_S32x256_o0_0_S32x128)
        (newWeight A B X)) NV) (accs A B X FA FB CA CB) (ix2 ⟨8 * h + g.val, by omega⟩ d)
      = mix (S h g.val) (n h g.val) (fun t => V h t d) (vn h d) := by
  pointwise [numer]
  rw [accNew_first T N h hh, accNew_rest T _ (by simp only; omega), accNew_rest T _ (by simp only; omega),
    accs_first T W h hh, accs_second T W h hh, accs_rest T W _ (by simp only; omega) (by simp only; omega),
    accs_rest T W _ (by simp only; omega) (by simp only; omega), accs_rest T W _ (by simp only; omega) (by simp only; omega),
    accs_rest T W _ (by simp only; omega) (by simp only; omega)]
  unfold mix
  rw [sum_tokens, Finset.sum_add_distrib, Finset.sum_range, Finset.sum_range]
  simp only [add_zero, add_assoc]

theorem quotient_at (l : FVec Ideal S8x128 .f32) (o : FVec Ideal S32x128 .f32) (h : Nat) (hh : h < 4) (g : Fin 8)
    (d : Fin 128) :
    quotient l o (ix2 ⟨8 * h + g.val, by omega⟩ d)
      = Ideal.div (o (ix2 ⟨8 * h + g.val, by omega⟩ d)) (headSum l (BitVec.ofNat 32 h) (ix2 g d)) := by
  have eo : ∀ (m : Nat) (hm : m < 32) (m' : Nat) (hm' : m' < 32), m = m' → o (ix2 ⟨m, hm⟩ d) = o (ix2 ⟨m', hm'⟩ d) := by
    intro m hm m' hm' e
    subst e
    rfl
  have es : ∀ (w : BitVec 32) (m : Nat) (hm : m < 8), m = g.val → headSum l w (ix2 ⟨m, hm⟩ d) = headSum l w (ix2 g d) := by
    intro w m hm e
    subst e
    rfl
  pointwise [quotient]
  interval_cases h
  · rw [dif_pos (by omega), es _ _ _ (by omega)]
  · rw [dif_neg (by omega), dif_pos (by omega), es _ _ _ (by omega), eo _ _ (8 * 1 + g.val) (by omega) (by omega)]
  · rw [dif_neg (by omega), dif_neg (by omega), dif_pos (by omega), es _ _ _ (by omega),
      eo _ _ (8 * 2 + g.val) (by omega) (by omega)]
  · rw [dif_neg (by omega), dif_neg (by omega), dif_neg (by omega), es _ _ _ (by omega),
      eo _ _ (8 * 3 + g.val) (by omega) (by omega)]

/-- The quotient. -/
theorem quotient_apply (T : Tiles A B X S n) (W : Values FA FB CA CB V) (N : NewValues NV vn) (h : Nat) (hh : h < 4)
    (g : Fin 8) (d : Fin 128) :
    quotient (laneSums A B X)
        (numer (accNew (threeRows (extractStridedSlice S32x128 ![0, 0] headMask slices_S32x256_o0_0_S32x128)
          (newWeight A B X)) NV) (accs A B X FA FB CA CB)) (ix2 ⟨8 * h + g.val, by omega⟩ d)
      = Ideal.div (mix (S h g.val) (n h g.val) (fun t => V h t d) (vn h d)) (total (S h g.val) (n h g.val)) := by
  rw [← numer_apply T W N h hh g d, ← headSum_laneSums T h hh g d]
  exact quotient_at _ _ h hh g d

end Cert.KernelIdeal.Attn

end
-- ==== Proof.Attn.Block.lean ====
/-
  One grid point's score tiles and value tiles, put together: the entry of its block of outputs at a head, a query and a
  coordinate is the weighted mean of the values.
-/
module

public import proofs.«01_k».proof.Proof.Attn.Load
public import proofs.«01_k».proof.Proof.Attn.Mix

@[expose] public section

set_option synthInstance.maxSize 4096
set_option maxRecDepth 16384

noncomputable section

namespace Cert.KernelIdeal.Attn

open Idealize.ShloMosaic Idealize.ShloMosaic.TcCoe Idealize.SL.Sem Cert.KernelIdeal.Gen

/-- A row of the queries, by its number. -/
def rowQ (x : Vec Ideal S1x32x128 .bf16) (r : Nat) (d : Fin 128) : EReal := x (ix3 0 (Fin.ofNat 32 r) d)

/-- A row of a cache, by its number. -/
def rowC (x : Vec Ideal S1x8192x128 .i8) (r : Nat) (d : Fin 128) : BitVec 8 := x (ix3 0 (Fin.ofNat 8192 r) d)

theorem rowQ_eq (x : Vec Ideal S1x32x128 .bf16) (r : Nat) (h : r < 32) (d : Fin 128) : x (ix3 0 ⟨r, h⟩ d) = rowQ x r d := by
  unfold rowQ
  congr 2
  exact Fin.ext (Nat.mod_eq_of_lt h).symm

theorem rowC_eq (x : Vec Ideal S1x8192x128 .i8) (r : Fin 8192) (d : Fin 128) : x (ix3 0 r d) = rowC x r.val d := by
  unfold rowC
  congr 2
  exact Fin.ext (Nat.mod_eq_of_lt r.isLt).symm

/-- The score of a head's query `g` against token `t` of the cache. -/
def scoreAt (xq : Vec Ideal S1x32x128 .bf16) (xk : Vec Ideal S1x8192x128 .i8) (N : Nat → Nat → Nat) (h g t : Nat) : EReal :=
  cacheScore (rowQ xq (8 * h + g)) (rowC xk (4 * t + h)) (val (N h t))

/-- The value of token `t` of the cache at a head and a coordinate. -/
def valueAt (xv : Vec Ideal S1x8192x128 .i8) (N : Nat → Nat → Nat) (h t : Nat) (d : Fin 128) : EReal :=
  (((rowC xv (4 * t + h) d).toInt : ℝ) : EReal) * val (N h t)

variable {v : Fin 4 → Vec Ideal S1x16x128 .f32} {N : Nat → Nat → Nat}

theorem chunk_row (arg : Memref sig .tc .vmem S1x8192x128 .i8) (harg : arg.IsWhole) (x : Vec Ideal S1x8192x128 .i8)
    (o : Nat) (inb) (r : Fin 256) (d : Fin 128) (ho : o + 256 ≤ 8192) (k : Nat) (hk : k = o + r.val) :
    chunkLoad (F := Ideal) arg harg x o inb (ix3 0 r d) = rowC x k d := by
  exact (chunkLoad_apply arg harg x o inb r d ⟨k, by omega⟩ hk).trans (rowC_eq x _ d)

theorem tile_of_first (S : Scales v N) {il : Vec Ideal S512x512 .bf16} (hil : Interleaves il) (vp : FVec Ideal S16x512 .f32)
    (xq : Vec Ideal S1x32x128 .bf16) (arg : Memref sig .tc .vmem S1x8192x128 .i8) (harg : arg.IsWhole)
    (x : Vec Ideal S1x8192x128 .i8) (l c : Nat) (hw : S128x16.Slices ![l, c] S64x1) (o : Nat) (inb)
    (B : FVec Ideal S256x128 .bf16) (ho : S64x256.Slices ![0, 0] S32x256)
    (l' : Nat) (hs : S16x512.Slices ![c, l'] S1x256) (hc : c < 16) (hl : l + 64 ≤ 128) (hl' : l' = 4 * l)
    (n : Nat) (hn : 128 * c + l = n) (hr : o = 4 * n) (g : Fin 8) (j : Fin 256) :
    scoreTile (qk (k0_pay2 xq) (chunkPair (chunk (mantWords (v 0) (v 1) (v 2) (v 3)) l c hw (chunkLoad arg harg x o inb)) B)) 0 ho
        (kFactor (powRow (v 0) (v 1) (v 2) (v 3)) vp il) c l' hs (ix2 g j)
      = scoreAt xq x N (j.val % 4) g.val (n + j.val / 4) := by
  rw [score_first S hil vp xq l c hw _ B ho l' hs hc hl hl', hn]
  unfold scoreAt
  congr 1
  · funext d
    exact rowQ_eq _ _ _ d
  · funext d
    exact chunk_row arg harg x o inb j d (by omega) _ (by omega)

theorem tile_of_second (S : Scales v N) {il : Vec Ideal S512x512 .bf16} (hil : Interleaves il) (vp : FVec Ideal S16x512 .f32)
    (xq : Vec Ideal S1x32x128 .bf16) (arg : Memref sig .tc .vmem S1x8192x128 .i8) (harg : arg.IsWhole)
    (x : Vec Ideal S1x8192x128 .i8) (l c : Nat) (hw : S128x16.Slices ![l, c] S64x1) (o : Nat) (inb)
    (A : FVec Ideal S256x128 .bf16) (ho : S64x256.Slices ![32, 0] S32x256)
    (l' : Nat) (hs : S16x512.Slices ![c, l'] S1x256) (hc : c < 16) (hl : l + 64 ≤ 128) (hl' : l' = 4 * l)
    (n : Nat) (hn : 128 * c + l = n) (hr : o = 4 * n) (g : Fin 8) (j : Fin 256) :
    scoreTile (qk (k0_pay2 xq) (chunkPair A (chunk (mantWords (v 0) (v 1) (v 2) (v 3)) l c hw (chunkLoad arg harg x o inb)))) 32 ho
        (kFactor (powRow (v 0) (v 1) (v 2) (v 3)) vp il) c l' hs (ix2 g j)
      = scoreAt xq x N (j.val % 4) g.val (n + j.val / 4) := by
  rw [score_second S hil vp xq l c hw _ A ho l' hs hc hl hl', hn]
  unfold scoreAt
  congr 1
  · funext d
    exact rowQ_eq _ _ _ d
  · funext d
    exact chunk_row arg harg x o inb j d (by omega) _ (by omega)

theorem inv128_real : ∃ r : ℝ, Ideal.ofBits .f32 0x3C000000#32 = ((r : ℝ) : EReal) ∧ r * 128 = 1 :=
  ⟨1 / 128, ofBits_128, by norm_num⟩

theorem laneFactor_apply (f : FVec Ideal S16x512 .f32) (c l : Nat) (hs : S16x512.Slices ![c, l] S1x256)
    (hc : c < 16) (hl : l + 256 ≤ 512) (g : Fin 8) (j : Fin 256) :
    laneFactor f c l hs (ix2 g j) = f (ix2 ⟨c, hc⟩ ⟨l + j.val, by omega⟩) := by
  pointwise [laneFactor]

theorem factor_real (S : Scales v N) {il : Vec Ideal S512x512 .bf16} (hil : Interleaves il) (kp : FVec Ideal S16x512 .f32)
    (c l' : Nat) (hs : S16x512.Slices ![c, l'] S1x256) (hc : c < 16) (hl : l' + 256 ≤ 512) (g : Fin 8) (j : Fin 256) :
    ∃ r : ℝ, laneFactor (vFactor kp (powRow (v 0) (v 1) (v 2) (v 3)) il) c l' hs (ix2 g j) = ((r : ℝ) : EReal) := by
  rw [laneFactor_apply _ c l' hs hc hl, vFactor_apply S hil]
  obtain ⟨r, hr, _⟩ := inv128_real
  rw [hr, val_eq _ (by have := S.lt ((l' + j.val) % 4) (128 * c + (l' + j.val) / 4); simp only; omega), ← EReal.coe_mul]
  exact ⟨_, rfl⟩

theorem factor_value (S : Scales v N) {il : Vec Ideal S512x512 .bf16} (hil : Interleaves il) (kp : FVec Ideal S16x512 .f32)
    (arg : Memref sig .tc .vmem S1x8192x128 .i8) (harg : arg.IsWhole)
    (x : Vec Ideal S1x8192x128 .i8) (l c : Nat) (hw : S128x16.Slices ![l, c] S64x1) (o : Nat) (inb)
    (l' : Nat) (hs : S16x512.Slices ![c, l'] S1x256) (hc : c < 16) (hl : l + 64 ≤ 128) (hl' : l' = 4 * l)
    (n : Nat) (hn : 128 * c + l = n) (hr : o = 4 * n) (g : Fin 8) (j : Fin 256) (d : Fin 128) :
    (laneFactor (vFactor kp (powRow (v 0) (v 1) (v 2) (v 3)) il) c l' hs (ix2 g j)
        * chunk (mantWords (v 0) (v 1) (v 2) (v 3)) l c hw (chunkLoad arg harg x o inb) (ix2 j d) : EReal)
      = valueAt x N (j.val % 4) (n + j.val / 4) d := by
  rw [laneFactor_apply _ c l' hs hc (by omega), vFactor_apply S hil, chunk_apply S _ _ _ _ _ _ hl hc,
    chunk_row arg harg x o inb j d (by omega) (4 * (n + j.val / 4) + j.val % 4) (by omega)]
  have e1 : (l' + j.val) % 4 = j.val % 4 := by omega
  have e2 : 128 * c + (l' + j.val) / 4 = n + j.val / 4 := by omega
  have e3 : 128 * c + l + j.val / 4 = n + j.val / 4 := by omega
  simp only [e1, e2, e3]
  obtain ⟨r, hr, h1⟩ := inv128_real
  rw [hr, mul_comm, mul_assoc, mant_mul_val (S.lt _ _) (S.normal _ _) r 1 h1, EReal.coe_one, mul_one]
  rfl

variable (c : Dev nD) (arg1 : Memref sig .tc .vmem S1x32x128 .bf16) (harg1 : arg1.IsWhole)
  (arg2 : Memref sig .tc .vmem S1x4x128 .bf16) (harg2 : arg2.IsWhole)
  (arg3 : Memref sig .tc .vmem S1x4x128 .bf16) (harg3 : arg3.IsWhole)
  (arg4 : Memref sig .tc .vmem S1x8192x128 .i8) (harg4 : arg4.IsWhole)
  (arg5 : Memref sig .tc .vmem S1x64x128 .f32) (harg5 : arg5.IsWhole)
  (arg6 : Memref sig .tc .vmem S1x8192x128 .i8) (harg6 : arg6.IsWhole)
  (arg7 : Memref sig .tc .vmem S1x64x128 .f32) (harg7 : arg7.IsWhole)
  (arg8 : Memref sig .tc .vmem S512x512 .bf16) (harg8 : arg8.IsWhole)
  (x0 : Vec Ideal S1x32x128 .bf16) (x1 x2 : Vec Ideal S1x4x128 .bf16) (x3 : Vec Ideal S1x8192x128 .i8)
  (x4 : Vec Ideal S1x64x128 .f32) (x5 : Vec Ideal S1x8192x128 .i8) (x6 : Vec Ideal S1x64x128 .f32) (x7 : Vec Ideal S512x512 .bf16)

/-- The queries as loaded. -/
def loadQ : Vec Ideal S1x32x128 .bf16 :=
  View.readAt (Elt Ideal) arg1.view (Rect.unit (s := S1x32x128) ![0, 0, 0] S1x32x128.size inb_S1x32x128_S1x32x128_0_0_0).toLoadRect (harg1.unread x0)

/-- The interleaving matrix as loaded. -/
def loadIl : Vec Ideal S512x512 .bf16 :=
  View.readAt (Elt Ideal) arg8.view (Rect.unit (s := S512x512) ![0, 0] S512x512.size inb_S512x512_S512x512_0_0).toLoadRect (harg8.unread x7)

/-- The scales of the four heads as loaded. -/
def loadS (arg : Memref sig .tc .vmem S1x64x128 .f32) (harg : arg.IsWhole) (x : Vec Ideal S1x64x128 .f32) :
    Fin 4 → Vec Ideal S1x16x128 .f32 :=
  ![scaleLoad0 arg harg x, scaleLoad1 arg harg x, scaleLoad2 arg harg x, scaleLoad3 arg harg x]

/-- The score tiles of the first half of the tokens. -/
def keysA : Fin 16 → FVec Ideal S8x256 .f32 :=
  ![(kernelRun0_A.sl.r_68 (F := Ideal) c arg1 harg1 arg4 harg4 arg5 harg5 arg7 harg7 arg8 harg8 x0 x3 x4 x6 x7),
    (kernelRun0_A.sl.r_71 (F := Ideal) c arg1 harg1 arg4 harg4 arg5 harg5 arg7 harg7 arg8 harg8 x0 x3 x4 x6 x7),
    (kernelRun0_A.sl.r_75 (F := Ideal) c arg1 harg1 arg4 harg4 arg5 harg5 arg7 harg7 arg8 harg8 x0 x3 x4 x6 x7),
    (kernelRun0_A.sl.r_83 (F := Ideal) c arg1 harg1 arg4 harg4 arg5 harg5 arg7 harg7 arg8 harg8 x0 x3 x4 x6 x7),
    (kernelRun0_A.sl.r_86 (F := Ideal) c arg1 harg1 arg4 harg4 arg5 harg5 arg7 harg7 arg8 harg8 x0 x3 x4 x6 x7),
    (kernelRun0_A.sl.r_90 (F := Ideal) c arg1 harg1 arg4 harg4 arg5 harg5 arg7 harg7 arg8 harg8 x0 x3 x4 x6 x7),
    (kernelRun0_A.sl.r_94 (F := Ideal) c arg1 harg1 arg4 harg4 arg5 harg5 arg7 harg7 arg8 harg8 x0 x3 x4 x6 x7),
    (kernelRun0_A.sl.r_98 (F := Ideal) c arg1 harg1 arg4 harg4 arg5 harg5 arg7 harg7 arg8 harg8 x0 x3 x4 x6 x7),
    (kernelRun0_A.sl.r_105 (F := Ideal) c arg1 harg1 arg4 harg4 arg5 harg5 arg7 harg7 arg8 harg8 x0 x3 x4 x6 x7),
    (kernelRun0_A.sl.r_110 (F := Ideal) c arg1 harg1 arg4 harg4 arg5 harg5 arg7 harg7 arg8 harg8 x0 x3 x4 x6 x7),
    (kernelRun0_A.sl.r_115 (F := Ideal) c arg1 harg1 arg4 harg4 arg5 harg5 arg7 harg7 arg8 harg8 x0 x3 x4 x6 x7),
    (kernelRun0_A.sl.r_118 (F := Ideal) c arg1 harg1 arg4 harg4 arg5 harg5 arg7 harg7 arg8 harg8 x0 x3 x4 x6 x7),
    (kernelRun0_A.sl.r_121 (F := Ideal) c arg1 harg1 arg4 harg4 arg5 harg5 arg7 harg7 arg8 harg8 x0 x3 x4 x6 x7),
    (kernelRun0_A.sl.r_125 (F := Ideal) c arg1 harg1 arg4 harg4 arg5 harg5 arg7 harg7 arg8 harg8 x0 x3 x4 x6 x7),
    (kernelRun0_A.sl.r_131 (F := Ideal) c arg1 harg1 arg4 harg4 arg5 harg5 arg7 harg7 arg8 harg8 x0 x3 x4 x6 x7),
    (kernelRun0_A.sl.r_134 (F := Ideal) c arg1 harg1 arg4 harg4 arg5 harg5 arg7 harg7 arg8 harg8 x0 x3 x4 x6 x7)]

/-- The score tiles of the second half of the tokens. -/
def keysB : Fin 16 → FVec Ideal S8x256 .f32 :=
  ![(kernelRun0_A.sl.r_69 (F := Ideal) c arg1 harg1 arg4 harg4 arg5 harg5 arg7 harg7 arg8 harg8 x0 x3 x4 x6 x7),
    (kernelRun0_A.sl.r_74 (F := Ideal) c arg1 harg1 arg4 harg4 arg5 harg5 arg7 harg7 arg8 harg8 x0 x3 x4 x6 x7),
    (kernelRun0_A.sl.r_78 (F := Ideal) c arg1 harg1 arg4 harg4 arg5 harg5 arg7 harg7 arg8 harg8 x0 x3 x4 x6 x7),
    (kernelRun0_A.sl.r_84 (F := Ideal) c arg1 harg1 arg4 harg4 arg5 harg5 arg7 harg7 arg8 harg8 x0 x3 x4 x6 x7),
    (kernelRun0_A.sl.r_87 (F := Ideal) c arg1 harg1 arg4 harg4 arg5 harg5 arg7 harg7 arg8 harg8 x0 x3 x4 x6 x7),
    (kernelRun0_A.sl.r_91 (F := Ideal) c arg1 harg1 arg4 harg4 arg5 harg5 arg7 harg7 arg8 harg8 x0 x3 x4 x6 x7),
    (kernelRun0_A.sl.r_97 (F := Ideal) c arg1 harg1 arg4 harg4 arg5 harg5 arg7 harg7 arg8 harg8 x0 x3 x4 x6 x7),
    (kernelRun0_A.sl.r_101 (F := Ideal) c arg1 harg1 arg4 harg4 arg5 harg5 arg7 harg7 arg8 harg8 x0 x3 x4 x6 x7),
    (kernelRun0_A.sl.r_106 (F := Ideal) c arg1 harg1 arg4 harg4 arg5 harg5 arg7 harg7 arg8 harg8 x0 x3 x4 x6 x7),
    (kernelRun0_A.sl.r_111 (F := Ideal) c arg1 harg1 arg4 harg4 arg5 harg5 arg7 harg7 arg8 harg8 x0 x3 x4 x6 x7),
    (kernelRun0_A.sl.r_116 (F := Ideal) c arg1 harg1 arg4 harg4 arg5 harg5 arg7 harg7 arg8 harg8 x0 x3 x4 x6 x7),
    (kernelRun0_A.sl.r_119 (F := Ideal) c arg1 harg1 arg4 harg4 arg5 harg5 arg7 harg7 arg8 harg8 x0 x3 x4 x6 x7),
    (kernelRun0_A.sl.r_124 (F := Ideal) c arg1 harg1 arg4 harg4 arg5 harg5 arg7 harg7 arg8 harg8 x0 x3 x4 x6 x7),
    (kernelRun0_A.sl.r_127 (F := Ideal) c arg1 harg1 arg4 harg4 arg5 harg5 arg7 harg7 arg8 harg8 x0 x3 x4 x6 x7),
    (kernelRun0_A.sl.r_132 (F := Ideal) c arg1 harg1 arg4 harg4 arg5 harg5 arg7 harg7 arg8 harg8 x0 x3 x4 x6 x7),
    (kernelRun0_A.sl.r_135 (F := Ideal) c arg1 harg1 arg4 harg4 arg5 harg5 arg7 harg7 arg8 harg8 x0 x3 x4 x6 x7)]

/-- The lane factors and the cached values of the tiles. -/
def facA : Fin 16 → FVec Ideal S8x256 .f32 :=
  ![laneFactor (kernelRun0_A.sl.r_64 (F := Ideal) c arg5 harg5 arg7 harg7 arg8 harg8 x4 x6 x7) 0 0 slices_S16x512_o0_0_S1x256,
    laneFactor (kernelRun0_A.sl.r_64 (F := Ideal) c arg5 harg5 arg7 harg7 arg8 harg8 x4 x6 x7) 0 256 slices_S16x512_o0_256_S1x256,
    laneFactor (kernelRun0_A.sl.r_64 (F := Ideal) c arg5 harg5 arg7 harg7 arg8 harg8 x4 x6 x7) 1 0 slices_S16x512_o1_0_S1x256,
    laneFactor (kernelRun0_A.sl.r_64 (F := Ideal) c arg5 harg5 arg7 harg7 arg8 harg8 x4 x6 x7) 1 256 slices_S16x512_o1_256_S1x256,
    laneFactor (kernelRun0_A.sl.r_64 (F := Ideal) c arg5 harg5 arg7 harg7 arg8 harg8 x4 x6 x7) 2 0 slices_S16x512_o2_0_S1x256,
    laneFactor (kernelRun0_A.sl.r_64 (F := Ideal) c arg5 harg5 arg7 harg7 arg8 harg8 x4 x6 x7) 2 256 slices_S16x512_o2_256_S1x256,
    laneFactor (kernelRun0_A.sl.r_64 (F := Ideal) c arg5 harg5 arg7 harg7 arg8 harg8 x4 x6 x7) 3 0 slices_S16x512_o3_0_S1x256,
    laneFactor (kernelRun0_A.sl.r_64 (F := Ideal) c arg5 harg5 arg7 harg7 arg8 harg8 x4 x6 x7) 3 256 slices_S16x512_o3_256_S1x256,
    laneFactor (kernelRun0_A.sl.r_64 (F := Ideal) c arg5 harg5 arg7 harg7 arg8 harg8 x4 x6 x7) 4 0 slices_S16x512_o4_0_S1x256,
    laneFactor (kernelRun0_A.sl.r_64 (F := Ideal) c arg5 harg5 arg7 harg7 arg8 harg8 x4 x6 x7) 4 256 slices_S16x512_o4_256_S1x256,
    laneFactor (kernelRun0_A.sl.r_64 (F := Ideal) c arg5 harg5 arg7 harg7 arg8 harg8 x4 x6 x7) 5 0 slices_S16x512_o5_0_S1x256,
    laneFactor (kernelRun0_A.sl.r_64 (F := Ideal) c arg5 harg5 arg7 harg7 arg8 harg8 x4 x6 x7) 5 256 slices_S16x512_o5_256_S1x256,
    laneFactor (kernelRun0_A.sl.r_64 (F := Ideal) c arg5 harg5 arg7 harg7 arg8 harg8 x4 x6 x7) 6 0 slices_S16x512_o6_0_S1x256,
    laneFactor (kernelRun0_A.sl.r_64 (F := Ideal) c arg5 harg5 arg7 harg7 arg8 harg8 x4 x6 x7) 6 256 slices_S16x512_o6_256_S1x256,
    laneFactor (kernelRun0_A.sl.r_64 (F := Ideal) c arg5 harg5 arg7 harg7 arg8 harg8 x4 x6 x7) 7 0 slices_S16x512_o7_0_S1x256,
    laneFactor (kernelRun0_A.sl.r_64 (F := Ideal) c arg5 harg5 arg7 harg7 arg8 harg8 x4 x6 x7) 7 256 slices_S16x512_o7_256_S1x256]

def facB : Fin 16 → FVec Ideal S8x256 .f32 :=
  ![laneFactor (kernelRun0_A.sl.r_64 (F := Ideal) c arg5 harg5 arg7 harg7 arg8 harg8 x4 x6 x7) 8 0 slices_S16x512_o8_0_S1x256,
    laneFactor (kernelRun0_A.sl.r_64 (F := Ideal) c arg5 harg5 arg7 harg7 arg8 harg8 x4 x6 x7) 8 256 slices_S16x512_o8_256_S1x256,
    laneFactor (kernelRun0_A.sl.r_64 (F := Ideal) c arg5 harg5 arg7 harg7 arg8 harg8 x4 x6 x7) 9 0 slices_S16x512_o9_0_S1x256,
    laneFactor (kernelRun0_A.sl.r_64 (F := Ideal) c arg5 harg5 arg7 harg7 arg8 harg8 x4 x6 x7) 9 256 slices_S16x512_o9_256_S1x256,
    laneFactor (kernelRun0_A.sl.r_64 (F := Ideal) c arg5 harg5 arg7 harg7 arg8 harg8 x4 x6 x7) 10 0 slices_S16x512_o10_0_S1x256,
    laneFactor (kernelRun0_A.sl.r_64 (F := Ideal) c arg5 harg5 arg7 harg7 arg8 harg8 x4 x6 x7) 10 256 slices_S16x512_o10_256_S1x256,
    laneFactor (kernelRun0_A.sl.r_64 (F := Ideal) c arg5 harg5 arg7 harg7 arg8 harg8 x4 x6 x7) 11 0 slices_S16x512_o11_0_S1x256,
    laneFactor (kernelRun0_A.sl.r_64 (F := Ideal) c arg5 harg5 arg7 harg7 arg8 harg8 x4 x6 x7) 11 256 slices_S16x512_o11_256_S1x256,
    laneFactor (kernelRun0_A.sl.r_64 (F := Ideal) c arg5 harg5 arg7 harg7 arg8 harg8 x4 x6 x7) 12 0 slices_S16x512_o12_0_S1x256,
    laneFactor (kernelRun0_A.sl.r_64 (F := Ideal) c arg5 harg5 arg7 harg7 arg8 harg8 x4 x6 x7) 12 256 slices_S16x512_o12_256_S1x256,
    laneFactor (kernelRun0_A.sl.r_64 (F := Ideal) c arg5 harg5 arg7 harg7 arg8 harg8 x4 x6 x7) 13 0 slices_S16x512_o13_0_S1x256,
    laneFactor (kernelRun0_A.sl.r_64 (F := Ideal) c arg5 harg5 arg7 harg7 arg8 harg8 x4 x6 x7) 13 256 slices_S16x512_o13_256_S1x256,
    laneFactor (kernelRun0_A.sl.r_64 (F := Ideal) c arg5 harg5 arg7 harg7 arg8 harg8 x4 x6 x7) 14 0 slices_S16x512_o14_0_S1x256,
    laneFactor (kernelRun0_A.sl.r_64 (F := Ideal) c arg5 harg5 arg7 harg7 arg8 harg8 x4 x6 x7) 14 256 slices_S16x512_o14_256_S1x256,
    laneFactor (kernelRun0_A.sl.r_64 (F := Ideal) c arg5 harg5 arg7 harg7 arg8 harg8 x4 x6 x7) 15 0 slices_S16x512_o15_0_S1x256,
    laneFactor (kernelRun0_A.sl.r_64 (F := Ideal) c arg5 harg5 arg7 harg7 arg8 harg8 x4 x6 x7) 15 256 slices_S16x512_o15_256_S1x256]

def valA : Fin 16 → FVec Ideal S256x128 .bf16 :=
  ![chunk (kernelRun0_A.sl.r_62 (F := Ideal) c arg7 harg7 x6) 0 0 slices_S128x16_o0_0_S64x1 (chunkLoad arg6 harg6 x5 0 inb_S1x8192x128_S1x256x128_0_0_0),
    chunk (kernelRun0_A.sl.r_62 (F := Ideal) c arg7 harg7 x6) 64 0 slices_S128x16_o64_0_S64x1 (chunkLoad arg6 harg6 x5 256 inb_S1x8192x128_S1x256x128_0_256_0),
    chunk (kernelRun0_A.sl.r_62 (F := Ideal) c arg7 harg7 x6) 0 1 slices_S128x16_o0_1_S64x1 (chunkLoad arg6 harg6 x5 512 inb_S1x8192x128_S1x256x128_0_512_0),
    chunk (kernelRun0_A.sl.r_62 (F := Ideal) c arg7 harg7 x6) 64 1 slices_S128x16_o64_1_S64x1 (chunkLoad arg6 harg6 x5 768 inb_S1x8192x128_S1x256x128_0_768_0),
    chunk (kernelRun0_A.sl.r_62 (F := Ideal) c arg7 harg7 x6) 0 2 slices_S128x16_o0_2_S64x1 (chunkLoad arg6 harg6 x5 1024 inb_S1x8192x128_S1x256x128_0_1024_0),
    chunk (kernelRun0_A.sl.r_62 (F := Ideal) c arg7 harg7 x6) 64 2 slices_S128x16_o64_2_S64x1 (chunkLoad arg6 harg6 x5 1280 inb_S1x8192x128_S1x256x128_0_1280_0),
    chunk (kernelRun0_A.sl.r_62 (F := Ideal) c arg7 harg7 x6) 0 3 slices_S128x16_o0_3_S64x1 (chunkLoad arg6 harg6 x5 1536 inb_S1x8192x128_S1x256x128_0_1536_0),
    chunk (kernelRun0_A.sl.r_62 (F := Ideal) c arg7 harg7 x6) 64 3 slices_S128x16_o64_3_S64x1 (chunkLoad arg6 harg6 x5 1792 inb_S1x8192x128_S1x256x128_0_1792_0),
    chunk (kernelRun0_A.sl.r_62 (F := Ideal) c arg7 harg7 x6) 0 4 slices_S128x16_o0_4_S64x1 (chunkLoad arg6 harg6 x5 2048 inb_S1x8192x128_S1x256x128_0_2048_0),
    chunk (kernelRun0_A.sl.r_62 (F := Ideal) c arg7 harg7 x6) 64 4 slices_S128x16_o64_4_S64x1 (chunkLoad arg6 harg6 x5 2304 inb_S1x8192x128_S1x256x128_0_2304_0),
    chunk (kernelRun0_A.sl.r_62 (F := Ideal) c arg7 harg7 x6) 0 5 slices_S128x16_o0_5_S64x1 (chunkLoad arg6 harg6 x5 2560 inb_S1x8192x128_S1x256x128_0_2560_0),
    chunk (kernelRun0_A.sl.r_62 (F := Ideal) c arg7 harg7 x6) 64 5 slices_S128x16_o64_5_S64x1 (chunkLoad arg6 harg6 x5 2816 inb_S1x8192x128_S1x256x128_0_2816_0),
    chunk (kernelRun0_A.sl.r_62 (F := Ideal) c arg7 harg7 x6) 0 6 slices_S128x16_o0_6_S64x1 (chunkLoad arg6 harg6 x5 3072 inb_S1x8192x128_S1x256x128_0_3072_0),
    chunk (kernelRun0_A.sl.r_62 (F := Ideal) c arg7 harg7 x6) 64 6 slices_S128x16_o64_6_S64x1 (chunkLoad arg6 harg6 x5 3328 inb_S1x8192x128_S1x256x128_0_3328_0),
    chunk (kernelRun0_A.sl.r_62 (F := Ideal) c arg7 harg7 x6) 0 7 slices_S128x16_o0_7_S64x1 (chunkLoad arg6 harg6 x5 3584 inb_S1x8192x128_S1x256x128_0_3584_0),
    chunk (kernelRun0_A.sl.r_62 (F := Ideal) c arg7 harg7 x6) 64 7 slices_S128x16_o64_7_S64x1 (chunkLoad arg6 harg6 x5 3840 inb_S1x8192x128_S1x256x128_0_3840_0)]

def valB : Fin 16 → FVec Ideal S256x128 .bf16 :=
  ![chunk (kernelRun0_A.sl.r_62 (F := Ideal) c arg7 harg7 x6) 0 8 slices_S128x16_o0_8_S64x1 (chunkLoad arg6 harg6 x5 4096 inb_S1x8192x128_S1x256x128_0_4096_0),
    chunk (kernelRun0_A.sl.r_62 (F := Ideal) c arg7 harg7 x6) 64 8 slices_S128x16_o64_8_S64x1 (chunkLoad arg6 harg6 x5 4352 inb_S1x8192x128_S1x256x128_0_4352_0),
    chunk (kernelRun0_A.sl.r_62 (F := Ideal) c arg7 harg7 x6) 0 9 slices_S128x16_o0_9_S64x1 (chunkLoad arg6 harg6 x5 4608 inb_S1x8192x128_S1x256x128_0_4608_0),
    chunk (kernelRun0_A.sl.r_62 (F := Ideal) c arg7 harg7 x6) 64 9 slices_S128x16_o64_9_S64x1 (chunkLoad arg6 harg6 x5 4864 inb_S1x8192x128_S1x256x128_0_4864_0),
    chunk (kernelRun0_A.sl.r_62 (F := Ideal) c arg7 harg7 x6) 0 10 slices_S128x16_o0_10_S64x1 (chunkLoad arg6 harg6 x5 5120 inb_S1x8192x128_S1x256x128_0_5120_0),
    chunk (kernelRun0_A.sl.r_62 (F := Ideal) c arg7 harg7 x6) 64 10 slices_S128x16_o64_10_S64x1 (chunkLoad arg6 harg6 x5 5376 inb_S1x8192x128_S1x256x128_0_5376_0),
    chunk (kernelRun0_A.sl.r_62 (F := Ideal) c arg7 harg7 x6) 0 11 slices_S128x16_o0_11_S64x1 (chunkLoad arg6 harg6 x5 5632 inb_S1x8192x128_S1x256x128_0_5632_0),
    chunk (kernelRun0_A.sl.r_62 (F := Ideal) c arg7 harg7 x6) 64 11 slices_S128x16_o64_11_S64x1 (chunkLoad arg6 harg6 x5 5888 inb_S1x8192x128_S1x256x128_0_5888_0),
    chunk (kernelRun0_A.sl.r_62 (F := Ideal) c arg7 harg7 x6) 0 12 slices_S128x16_o0_12_S64x1 (chunkLoad arg6 harg6 x5 6144 inb_S1x8192x128_S1x256x128_0_6144_0),
    chunk (kernelRun0_A.sl.r_62 (F := Ideal) c arg7 harg7 x6) 64 12 slices_S128x16_o64_12_S64x1 (chunkLoad arg6 harg6 x5 6400 inb_S1x8192x128_S1x256x128_0_6400_0),
    chunk (kernelRun0_A.sl.r_62 (F := Ideal) c arg7 harg7 x6) 0 13 slices_S128x16_o0_13_S64x1 (chunkLoad arg6 harg6 x5 6656 inb_S1x8192x128_S1x256x128_0_6656_0),
    chunk (kernelRun0_A.sl.r_62 (F := Ideal) c arg7 harg7 x6) 64 13 slices_S128x16_o64_13_S64x1 (chunkLoad arg6 harg6 x5 6912 inb_S1x8192x128_S1x256x128_0_6912_0),
    chunk (kernelRun0_A.sl.r_62 (F := Ideal) c arg7 harg7 x6) 0 14 slices_S128x16_o0_14_S64x1 (chunkLoad arg6 harg6 x5 7168 inb_S1x8192x128_S1x256x128_0_7168_0),
    chunk (kernelRun0_A.sl.r_62 (F := Ideal) c arg7 harg7 x6) 64 14 slices_S128x16_o64_14_S64x1 (chunkLoad arg6 harg6 x5 7424 inb_S1x8192x128_S1x256x128_0_7424_0),
    chunk (kernelRun0_A.sl.r_62 (F := Ideal) c arg7 harg7 x6) 0 15 slices_S128x16_o0_15_S64x1 (chunkLoad arg6 harg6 x5 7680 inb_S1x8192x128_S1x256x128_0_7680_0),
    chunk (kernelRun0_A.sl.r_62 (F := Ideal) c arg7 harg7 x6) 64 15 slices_S128x16_o64_15_S64x1 (chunkLoad arg6 harg6 x5 7936 inb_S1x8192x128_S1x256x128_0_7936_0)]

variable {NK NV : Nat → Nat → Nat}

theorem r1_eq : (kernelRun0_A.sl.r_1 (F := Ideal) c arg1 harg1 x0) = k0_pay2 (loadQ arg1 harg1 x0) := (rfl)

theorem r63_eq : (kernelRun0_A.sl.r_63 (F := Ideal) c arg5 harg5 arg7 harg7 arg8 harg8 x4 x6 x7)
    = kFactor (powRow (scaleLoad0 arg5 harg5 x4) (scaleLoad1 arg5 harg5 x4) (scaleLoad2 arg5 harg5 x4) (scaleLoad3 arg5 harg5 x4))
        (powRow (scaleLoad0 arg7 harg7 x6) (scaleLoad1 arg7 harg7 x6) (scaleLoad2 arg7 harg7 x6) (scaleLoad3 arg7 harg7 x6))
        (loadIl arg8 harg8 x7) := by
  rw [r_63_eq, r_35_eq]
  rfl

theorem r64_eq : (kernelRun0_A.sl.r_64 (F := Ideal) c arg5 harg5 arg7 harg7 arg8 harg8 x4 x6 x7)
    = vFactor (powRow (scaleLoad0 arg5 harg5 x4) (scaleLoad1 arg5 harg5 x4) (scaleLoad2 arg5 harg5 x4) (scaleLoad3 arg5 harg5 x4))
        (powRow (scaleLoad0 arg7 harg7 x6) (scaleLoad1 arg7 harg7 x6) (scaleLoad2 arg7 harg7 x6) (scaleLoad3 arg7 harg7 x6))
        (loadIl arg8 harg8 x7) := by
  rw [r_64_eq, r_35_eq]
  rfl

theorem tile_68 (hil : Interleaves (loadIl arg8 harg8 x7)) (SK : Scales (loadS arg5 harg5 x4) NK) (g : Fin 8) (j : Fin 256) :
    (kernelRun0_A.sl.r_68 (F := Ideal) c arg1 harg1 arg4 harg4 arg5 harg5 arg7 harg7 arg8 harg8 x0 x3 x4 x6 x7) (ix2 g j)
      = scoreAt (loadQ arg1 harg1 x0) x3 NK (j.val % 4) g.val (0 + j.val / 4) := by
  rw [r_68_eq, r_34_eq, r63_eq, r1_eq]
  exact tile_of_first SK hil _ (loadQ arg1 harg1 x0) arg4 harg4 x3 0 0 slices_S128x16_o0_0_S64x1 0 inb_S1x8192x128_S1x256x128_0_0_0 _ slices_S64x256_o0_0_S32x256 0 slices_S16x512_o0_0_S1x256 (by omega) (by omega) rfl 0 rfl rfl g j

theorem tile_71 (hil : Interleaves (loadIl arg8 harg8 x7)) (SK : Scales (loadS arg5 harg5 x4) NK) (g : Fin 8) (j : Fin 256) :
    (kernelRun0_A.sl.r_71 (F := Ideal) c arg1 harg1 arg4 harg4 arg5 harg5 arg7 harg7 arg8 harg8 x0 x3 x4 x6 x7) (ix2 g j)
      = scoreAt (loadQ arg1 harg1 x0) x3 NK (j.val % 4) g.val (64 + j.val / 4) := by
  rw [r_71_eq, r_34_eq, r63_eq, r1_eq]
  exact tile_of_first SK hil _ (loadQ arg1 harg1 x0) arg4 harg4 x3 64 0 slices_S128x16_o64_0_S64x1 256 inb_S1x8192x128_S1x256x128_0_256_0 _ slices_S64x256_o0_0_S32x256 256 slices_S16x512_o0_256_S1x256 (by omega) (by omega) rfl 64 rfl rfl g j

theorem tile_75 (hil : Interleaves (loadIl arg8 harg8 x7)) (SK : Scales (loadS arg5 harg5 x4) NK) (g : Fin 8) (j : Fin 256) :
    (kernelRun0_A.sl.r_75 (F := Ideal) c arg1 harg1 arg4 harg4 arg5 harg5 arg7 harg7 arg8 harg8 x0 x3 x4 x6 x7) (ix2 g j)
      = scoreAt (loadQ arg1 harg1 x0) x3 NK (j.val % 4) g.val (128 + j.val / 4) := by
  rw [r_75_eq, r_34_eq, r63_eq, r1_eq]
  exact tile_of_first SK hil _ (loadQ arg1 harg1 x0) arg4 harg4 x3 0 1 slices_S128x16_o0_1_S64x1 512 inb_S1x8192x128_S1x256x128_0_512_0 _ slices_S64x256_o0_0_S32x256 0 slices_S16x512_o1_0_S1x256 (by omega) (by omega) rfl 128 rfl rfl g j

theorem tile_83 (hil : Interleaves (loadIl arg8 harg8 x7)) (SK : Scales (loadS arg5 harg5 x4) NK) (g : Fin 8) (j : Fin 256) :
    (kernelRun0_A.sl.r_83 (F := Ideal) c arg1 harg1 arg4 harg4 arg5 harg5 arg7 harg7 arg8 harg8 x0 x3 x4 x6 x7) (ix2 g j)
      = scoreAt (loadQ arg1 harg1 x0) x3 NK (j.val % 4) g.val (192 + j.val / 4) := by
  rw [r_83_eq, r_34_eq, r63_eq, r1_eq]
  exact tile_of_first SK hil _ (loadQ arg1 harg1 x0) arg4 harg4 x3 64 1 slices_S128x16_o64_1_S64x1 768 inb_S1x8192x128_S1x256x128_0_768_0 _ slices_S64x256_o0_0_S32x256 256 slices_S16x512_o1_256_S1x256 (by omega) (by omega) rfl 192 rfl rfl g j

theorem tile_86 (hil : Interleaves (loadIl arg8 harg8 x7)) (SK : Scales (loadS arg5 harg5 x4) NK) (g : Fin 8) (j : Fin 256) :
    (kernelRun0_A.sl.r_86 (F := Ideal) c arg1 harg1 arg4 harg4 arg5 harg5 arg7 harg7 arg8 harg8 x0 x3 x4 x6 x7) (ix2 g j)
      = scoreAt (loadQ arg1 harg1 x0) x3 NK (j.val % 4) g.val (256 + j.val / 4) := by
  rw [r_86_eq, r_34_eq, r63_eq, r1_eq]
  exact tile_of_first SK hil _ (loadQ arg1 harg1 x0) arg4 harg4 x3 0 2 slices_S128x16_o0_2_S64x1 1024 inb_S1x8192x128_S1x256x128_0_1024_0 _ slices_S64x256_o0_0_S32x256 0 slices_S16x512_o2_0_S1x256 (by omega) (by omega) rfl 256 rfl rfl g j

theorem tile_90 (hil : Interleaves (loadIl arg8 harg8 x7)) (SK : Scales (loadS arg5 harg5 x4) NK) (g : Fin 8) (j : Fin 256) :
    (kernelRun0_A.sl.r_90 (F := Ideal) c arg1 harg1 arg4 harg4 arg5 harg5 arg7 harg7 arg8 harg8 x0 x3 x4 x6 x7) (ix2 g j)
      = scoreAt (loadQ arg1 harg1 x0) x3 NK (j.val % 4) g.val (320 + j.val / 4) := by
  rw [r_90_eq, r_34_eq, r63_eq, r1_eq]
  exact tile_of_first SK hil _ (loadQ arg1 harg1 x0) arg4 harg4 x3 64 2 slices_S128x16_o64_2_S64x1 1280 inb_S1x8192x128_S1x256x128_0_1280_0 _ slices_S64x256_o0_0_S32x256 256 slices_S16x512_o2_256_S1x256 (by omega) (by omega) rfl 320 rfl rfl g j

theorem tile_94 (hil : Interleaves (loadIl arg8 harg8 x7)) (SK : Scales (loadS arg5 harg5 x4) NK) (g : Fin 8) (j : Fin 256) :
    (kernelRun0_A.sl.r_94 (F := Ideal) c arg1 harg1 arg4 harg4 arg5 harg5 arg7 harg7 arg8 harg8 x0 x3 x4 x6 x7) (ix2 g j)
      = scoreAt (loadQ arg1 harg1 x0) x3 NK (j.val % 4) g.val (384 + j.val / 4) := by
  rw [r_94_eq, r_34_eq, r63_eq, r1_eq]
  exact tile_of_first SK hil _ (loadQ arg1 harg1 x0) arg4 harg4 x3 0 3 slices_S128x16_o0_3_S64x1 1536 inb_S1x8192x128_S1x256x128_0_1536_0 _ slices_S64x256_o0_0_S32x256 0 slices_S16x512_o3_0_S1x256 (by omega) (by omega) rfl 384 rfl rfl g j

theorem tile_98 (hil : Interleaves (loadIl arg8 harg8 x7)) (SK : Scales (loadS arg5 harg5 x4) NK) (g : Fin 8) (j : Fin 256) :
    (kernelRun0_A.sl.r_98 (F := Ideal) c arg1 harg1 arg4 harg4 arg5 harg5 arg7 harg7 arg8 harg8 x0 x3 x4 x6 x7) (ix2 g j)
      = scoreAt (loadQ arg1 harg1 x0) x3 NK (j.val % 4) g.val (448 + j.val / 4) := by
  rw [r_98_eq, r_34_eq, r63_eq, r1_eq]
  exact tile_of_first SK hil _ (loadQ arg1 harg1 x0) arg4 harg4 x3 64 3 slices_S128x16_o64_3_S64x1 1792 inb_S1x8192x128_S1x256x128_0_1792_0 _ slices_S64x256_o0_0_S32x256 256 slices_S16x512_o3_256_S1x256 (by omega) (by omega) rfl 448 rfl rfl g j

theorem tile_105 (hil : Interleaves (loadIl arg8 harg8 x7)) (SK : Scales (loadS arg5 harg5 x4) NK) (g : Fin 8) (j : Fin 256) :
    (kernelRun0_A.sl.r_105 (F := Ideal) c arg1 harg1 arg4 harg4 arg5 harg5 arg7 harg7 arg8 harg8 x0 x3 x4 x6 x7) (ix2 g j)
      = scoreAt (loadQ arg1 harg1 x0) x3 NK (j.val % 4) g.val (512 + j.val / 4) := by
  rw [r_105_eq, r_34_eq, r63_eq, r1_eq]
  exact tile_of_first SK hil _ (loadQ arg1 harg1 x0) arg4 harg4 x3 0 4 slices_S128x16_o0_4_S64x1 2048 inb_S1x8192x128_S1x256x128_0_2048_0 _ slices_S64x256_o0_0_S32x256 0 slices_S16x512_o4_0_S1x256 (by omega) (by omega) rfl 512 rfl rfl g j

theorem tile_110 (hil : Interleaves (loadIl arg8 harg8 x7)) (SK : Scales (loadS arg5 harg5 x4) NK) (g : Fin 8) (j : Fin 256) :
    (kernelRun0_A.sl.r_110 (F := Ideal) c arg1 harg1 arg4 harg4 arg5 harg5 arg7 harg7 arg8 harg8 x0 x3 x4 x6 x7) (ix2 g j)
      = scoreAt (loadQ arg1 harg1 x0) x3 NK (j.val % 4) g.val (576 + j.val / 4) := by
  rw [r_110_eq, r_34_eq, r63_eq, r1_eq]
  exact tile_of_first SK hil _ (loadQ arg1 harg1 x0) arg4 harg4 x3 64 4 slices_S128x16_o64_4_S64x1 2304 inb_S1x8192x128_S1x256x128_0_2304_0 _ slices_S64x256_o0_0_S32x256 256 slices_S16x512_o4_256_S1x256 (by omega) (by omega) rfl 576 rfl rfl g j

theorem tile_115 (hil : Interleaves (loadIl arg8 harg8 x7)) (SK : Scales (loadS arg5 harg5 x4) NK) (g : Fin 8) (j : Fin 256) :
    (kernelRun0_A.sl.r_115 (F := Ideal) c arg1 harg1 arg4 harg4 arg5 harg5 arg7 harg7 arg8 harg8 x0 x3 x4 x6 x7) (ix2 g j)
      = scoreAt (loadQ arg1 harg1 x0) x3 NK (j.val % 4) g.val (640 + j.val / 4) := by
  rw [r_115_eq, r_34_eq, r63_eq, r1_eq]
  exact tile_of_first SK hil _ (loadQ arg1 harg1 x0) arg4 harg4 x3 0 5 slices_S128x16_o0_5_S64x1 2560 inb_S1x8192x128_S1x256x128_0_2560_0 _ slices_S64x256_o0_0_S32x256 0 slices_S16x512_o5_0_S1x256 (by omega) (by omega) rfl 640 rfl rfl g j

theorem tile_118 (hil : Interleaves (loadIl arg8 harg8 x7)) (SK : Scales (loadS arg5 harg5 x4) NK) (g : Fin 8) (j : Fin 256) :
    (kernelRun0_A.sl.r_118 (F := Ideal) c arg1 harg1 arg4 harg4 arg5 harg5 arg7 harg7 arg8 harg8 x0 x3 x4 x6 x7) (ix2 g j)
      = scoreAt (loadQ arg1 harg1 x0) x3 NK (j.val % 4) g.val (704 + j.val / 4) := by
  rw [r_118_eq, r_34_eq, r63_eq, r1_eq]
  exact tile_of_first SK hil _ (loadQ arg1 harg1 x0) arg4 harg4 x3 64 5 slices_S128x16_o64_5_S64x1 2816 inb_S1x8192x128_S1x256x128_0_2816_0 _ slices_S64x256_o0_0_S32x256 256 slices_S16x512_o5_256_S1x256 (by omega) (by omega) rfl 704 rfl rfl g j

theorem tile_121 (hil : Interleaves (loadIl arg8 harg8 x7)) (SK : Scales (loadS arg5 harg5 x4) NK) (g : Fin 8) (j : Fin 256) :
    (kernelRun0_A.sl.r_121 (F := Ideal) c arg1 harg1 arg4 harg4 arg5 harg5 arg7 harg7 arg8 harg8 x0 x3 x4 x6 x7) (ix2 g j)
      = scoreAt (loadQ arg1 harg1 x0) x3 NK (j.val % 4) g.val (768 + j.val / 4) := by
  rw [r_121_eq, r_34_eq, r63_eq, r1_eq]
  exact tile_of_first SK hil _ (loadQ arg1 harg1 x0) arg4 harg4 x3 0 6 slices_S128x16_o0_6_S64x1 3072 inb_S1x8192x128_S1x256x128_0_3072_0 _ slices_S64x256_o0_0_S32x256 0 slices_S16x512_o6_0_S1x256 (by omega) (by omega) rfl 768 rfl rfl g j

theorem tile_125 (hil : Interleaves (loadIl arg8 harg8 x7)) (SK : Scales (loadS arg5 harg5 x4) NK) (g : Fin 8) (j : Fin 256) :
    (kernelRun0_A.sl.r_125 (F := Ideal) c arg1 harg1 arg4 harg4 arg5 harg5 arg7 harg7 arg8 harg8 x0 x3 x4 x6 x7) (ix2 g j)
      = scoreAt (loadQ arg1 harg1 x0) x3 NK (j.val % 4) g.val (832 + j.val / 4) := by
  rw [r_125_eq, r_34_eq, r63_eq, r1_eq]
  exact tile_of_first SK hil _ (loadQ arg1 harg1 x0) arg4 harg4 x3 64 6 slices_S128x16_o64_6_S64x1 3328 inb_S1x8192x128_S1x256x128_0_3328_0 _ slices_S64x256_o0_0_S32x256 256 slices_S16x512_o6_256_S1x256 (by omega) (by omega) rfl 832 rfl rfl g j

theorem tile_131 (hil : Interleaves (loadIl arg8 harg8 x7)) (SK : Scales (loadS arg5 harg5 x4) NK) (g : Fin 8) (j : Fin 256) :
    (kernelRun0_A.sl.r_131 (F := Ideal) c arg1 harg1 arg4 harg4 arg5 harg5 arg7 harg7 arg8 harg8 x0 x3 x4 x6 x7) (ix2 g j)
      = scoreAt (loadQ arg1 harg1 x0) x3 NK (j.val % 4) g.val (896 + j.val / 4) := by
  rw [r_131_eq, r_34_eq, r63_eq, r1_eq]
  exact tile_of_first SK hil _ (loadQ arg1 harg1 x0) arg4 harg4 x3 0 7 slices_S128x16_o0_7_S64x1 3584 inb_S1x8192x128_S1x256x128_0_3584_0 _ slices_S64x256_o0_0_S32x256 0 slices_S16x512_o7_0_S1x256 (by omega) (by omega) rfl 896 rfl rfl g j

theorem tile_134 (hil : Interleaves (loadIl arg8 harg8 x7)) (SK : Scales (loadS arg5 harg5 x4) NK) (g : Fin 8) (j : Fin 256) :
    (kernelRun0_A.sl.r_134 (F := Ideal) c arg1 harg1 arg4 harg4 arg5 harg5 arg7 harg7 arg8 harg8 x0 x3 x4 x6 x7) (ix2 g j)
      = scoreAt (loadQ arg1 harg1 x0) x3 NK (j.val % 4) g.val (960 + j.val / 4) := by
  rw [r_134_eq, r_34_eq, r63_eq, r1_eq]
  exact tile_of_first SK hil _ (loadQ arg1 harg1 x0) arg4 harg4 x3 64 7 slices_S128x16_o64_7_S64x1 3840 inb_S1x8192x128_S1x256x128_0_3840_0 _ slices_S64x256_o0_0_S32x256 256 slices_S16x512_o7_256_S1x256 (by omega) (by omega) rfl 960 rfl rfl g j

theorem tile_69 (hil : Interleaves (loadIl arg8 harg8 x7)) (SK : Scales (loadS arg5 harg5 x4) NK) (g : Fin 8) (j : Fin 256) :
    (kernelRun0_A.sl.r_69 (F := Ideal) c arg1 harg1 arg4 harg4 arg5 harg5 arg7 harg7 arg8 harg8 x0 x3 x4 x6 x7) (ix2 g j)
      = scoreAt (loadQ arg1 harg1 x0) x3 NK (j.val % 4) g.val (1024 + j.val / 4) := by
  rw [r_69_eq, r_34_eq, r63_eq, r1_eq]
  exact tile_of_second SK hil _ (loadQ arg1 harg1 x0) arg4 harg4 x3 0 8 slices_S128x16_o0_8_S64x1 4096 inb_S1x8192x128_S1x256x128_0_4096_0 _ slices_S64x256_o32_0_S32x256 0 slices_S16x512_o8_0_S1x256 (by omega) (by omega) rfl 1024 rfl rfl g j

theorem tile_74 (hil : Interleaves (loadIl arg8 harg8 x7)) (SK : Scales (loadS arg5 harg5 x4) NK) (g : Fin 8) (j : Fin 256) :
    (kernelRun0_A.sl.r_74 (F := Ideal) c arg1 harg1 arg4 harg4 arg5 harg5 arg7 harg7 arg8 harg8 x0 x3 x4 x6 x7) (ix2 g j)
      = scoreAt (loadQ arg1 harg1 x0) x3 NK (j.val % 4) g.val (1088 + j.val / 4) := by
  rw [r_74_eq, r_34_eq, r63_eq, r1_eq]
  exact tile_of_second SK hil _ (loadQ arg1 harg1 x0) arg4 harg4 x3 64 8 slices_S128x16_o64_8_S64x1 4352 inb_S1x8192x128_S1x256x128_0_4352_0 _ slices_S64x256_o32_0_S32x256 256 slices_S16x512_o8_256_S1x256 (by omega) (by omega) rfl 1088 rfl rfl g j

theorem tile_78 (hil : Interleaves (loadIl arg8 harg8 x7)) (SK : Scales (loadS arg5 harg5 x4) NK) (g : Fin 8) (j : Fin 256) :
    (kernelRun0_A.sl.r_78 (F := Ideal) c arg1 harg1 arg4 harg4 arg5 harg5 arg7 harg7 arg8 harg8 x0 x3 x4 x6 x7) (ix2 g j)
      = scoreAt (loadQ arg1 harg1 x0) x3 NK (j.val % 4) g.val (1152 + j.val / 4) := by
  rw [r_78_eq, r_34_eq, r63_eq, r1_eq]
  exact tile_of_second SK hil _ (loadQ arg1 harg1 x0) arg4 harg4 x3 0 9 slices_S128x16_o0_9_S64x1 4608 inb_S1x8192x128_S1x256x128_0_4608_0 _ slices_S64x256_o32_0_S32x256 0 slices_S16x512_o9_0_S1x256 (by omega) (by omega) rfl 1152 rfl rfl g j

theorem tile_84 (hil : Interleaves (loadIl arg8 harg8 x7)) (SK : Scales (loadS arg5 harg5 x4) NK) (g : Fin 8) (j : Fin 256) :
    (kernelRun0_A.sl.r_84 (F := Ideal) c arg1 harg1 arg4 harg4 arg5 harg5 arg7 harg7 arg8 harg8 x0 x3 x4 x6 x7) (ix2 g j)
      = scoreAt (loadQ arg1 harg1 x0) x3 NK (j.val % 4) g.val (1216 + j.val / 4) := by
  rw [r_84_eq, r_34_eq, r63_eq, r1_eq]
  exact tile_of_second SK hil _ (loadQ arg1 harg1 x0) arg4 harg4 x3 64 9 slices_S128x16_o64_9_S64x1 4864 inb_S1x8192x128_S1x256x128_0_4864_0 _ slices_S64x256_o32_0_S32x256 256 slices_S16x512_o9_256_S1x256 (by omega) (by omega) rfl 1216 rfl rfl g j

theorem tile_87 (hil : Interleaves (loadIl arg8 harg8 x7)) (SK : Scales (loadS arg5 harg5 x4) NK) (g : Fin 8) (j : Fin 256) :
    (kernelRun0_A.sl.r_87 (F := Ideal) c arg1 harg1 arg4 harg4 arg5 harg5 arg7 harg7 arg8 harg8 x0 x3 x4 x6 x7) (ix2 g j)
      = scoreAt (loadQ arg1 harg1 x0) x3 NK (j.val % 4) g.val (1280 + j.val / 4) := by
  rw [r_87_eq, r_34_eq, r63_eq, r1_eq]
  exact tile_of_second SK hil _ (loadQ arg1 harg1 x0) arg4 harg4 x3 0 10 slices_S128x16_o0_10_S64x1 5120 inb_S1x8192x128_S1x256x128_0_5120_0 _ slices_S64x256_o32_0_S32x256 0 slices_S16x512_o10_0_S1x256 (by omega) (by omega) rfl 1280 rfl rfl g j

theorem tile_91 (hil : Interleaves (loadIl arg8 harg8 x7)) (SK : Scales (loadS arg5 harg5 x4) NK) (g : Fin 8) (j : Fin 256) :
    (kernelRun0_A.sl.r_91 (F := Ideal) c arg1 harg1 arg4 harg4 arg5 harg5 arg7 harg7 arg8 harg8 x0 x3 x4 x6 x7) (ix2 g j)
      = scoreAt (loadQ arg1 harg1 x0) x3 NK (j.val % 4) g.val (1344 + j.val / 4) := by
  rw [r_91_eq, r_34_eq, r63_eq, r1_eq]
  exact tile_of_second SK hil _ (loadQ arg1 harg1 x0) arg4 harg4 x3 64 10 slices_S128x16_o64_10_S64x1 5376 inb_S1x8192x128_S1x256x128_0_5376_0 _ slices_S64x256_o32_0_S32x256 256 slices_S16x512_o10_256_S1x256 (by omega) (by omega) rfl 1344 rfl rfl g j

theorem tile_97 (hil : Interleaves (loadIl arg8 harg8 x7)) (SK : Scales (loadS arg5 harg5 x4) NK) (g : Fin 8) (j : Fin 256) :
    (kernelRun0_A.sl.r_97 (F := Ideal) c arg1 harg1 arg4 harg4 arg5 harg5 arg7 harg7 arg8 harg8 x0 x3 x4 x6 x7) (ix2 g j)
      = scoreAt (loadQ arg1 harg1 x0) x3 NK (j.val % 4) g.val (1408 + j.val / 4) := by
  rw [r_97_eq, r_34_eq, r63_eq, r1_eq]
  exact tile_of_second SK hil _ (loadQ arg1 harg1 x0) arg4 harg4 x3 0 11 slices_S128x16_o0_11_S64x1 5632 inb_S1x8192x128_S1x256x128_0_5632_0 _ slices_S64x256_o32_0_S32x256 0 slices_S16x512_o11_0_S1x256 (by omega) (by omega) rfl 1408 rfl rfl g j

theorem tile_101 (hil : Interleaves (loadIl arg8 harg8 x7)) (SK : Scales (loadS arg5 harg5 x4) NK) (g : Fin 8) (j : Fin 256) :
    (kernelRun0_A.sl.r_101 (F := Ideal) c arg1 harg1 arg4 harg4 arg5 harg5 arg7 harg7 arg8 harg8 x0 x3 x4 x6 x7) (ix2 g j)
      = scoreAt (loadQ arg1 harg1 x0) x3 NK (j.val % 4) g.val (1472 + j.val / 4) := by
  rw [r_101_eq, r_34_eq, r63_eq, r1_eq]
  exact tile_of_second SK hil _ (loadQ arg1 harg1 x0) arg4 harg4 x3 64 11 slices_S128x16_o64_11_S64x1 5888 inb_S1x8192x128_S1x256x128_0_5888_0 _ slices_S64x256_o32_0_S32x256 256 slices_S16x512_o11_256_S1x256 (by omega) (by omega) rfl 1472 rfl rfl g j

theorem tile_106 (hil : Interleaves (loadIl arg8 harg8 x7)) (SK : Scales (loadS arg5 harg5 x4) NK) (g : Fin 8) (j : Fin 256) :
    (kernelRun0_A.sl.r_106 (F := Ideal) c arg1 harg1 arg4 harg4 arg5 harg5 arg7 harg7 arg8 harg8 x0 x3 x4 x6 x7) (ix2 g j)
      = scoreAt (loadQ arg1 harg1 x0) x3 NK (j.val % 4) g.val (1536 + j.val / 4) := by
  rw [r_106_eq, r_34_eq, r63_eq, r1_eq]
  exact tile_of_second SK hil _ (loadQ arg1 harg1 x0) arg4 harg4 x3 0 12 slices_S128x16_o0_12_S64x1 6144 inb_S1x8192x128_S1x256x128_0_6144_0 _ slices_S64x256_o32_0_S32x256 0 slices_S16x512_o12_0_S1x256 (by omega) (by omega) rfl 1536 rfl rfl g j

theorem tile_111 (hil : Interleaves (loadIl arg8 harg8 x7)) (SK : Scales (loadS arg5 harg5 x4) NK) (g : Fin 8) (j : Fin 256) :
    (kernelRun0_A.sl.r_111 (F := Ideal) c arg1 harg1 arg4 harg4 arg5 harg5 arg7 harg7 arg8 harg8 x0 x3 x4 x6 x7) (ix2 g j)
      = scoreAt (loadQ arg1 harg1 x0) x3 NK (j.val % 4) g.val (1600 + j.val / 4) := by
  rw [r_111_eq, r_34_eq, r63_eq, r1_eq]
  exact tile_of_second SK hil _ (loadQ arg1 harg1 x0) arg4 harg4 x3 64 12 slices_S128x16_o64_12_S64x1 6400 inb_S1x8192x128_S1x256x128_0_6400_0 _ slices_S64x256_o32_0_S32x256 256 slices_S16x512_o12_256_S1x256 (by omega) (by omega) rfl 1600 rfl rfl g j

theorem tile_116 (hil : Interleaves (loadIl arg8 harg8 x7)) (SK : Scales (loadS arg5 harg5 x4) NK) (g : Fin 8) (j : Fin 256) :
    (kernelRun0_A.sl.r_116 (F := Ideal) c arg1 harg1 arg4 harg4 arg5 harg5 arg7 harg7 arg8 harg8 x0 x3 x4 x6 x7) (ix2 g j)
      = scoreAt (loadQ arg1 harg1 x0) x3 NK (j.val % 4) g.val (1664 + j.val / 4) := by
  rw [r_116_eq, r_34_eq, r63_eq, r1_eq]
  exact tile_of_second SK hil _ (loadQ arg1 harg1 x0) arg4 harg4 x3 0 13 slices_S128x16_o0_13_S64x1 6656 inb_S1x8192x128_S1x256x128_0_6656_0 _ slices_S64x256_o32_0_S32x256 0 slices_S16x512_o13_0_S1x256 (by omega) (by omega) rfl 1664 rfl rfl g j

theorem tile_119 (hil : Interleaves (loadIl arg8 harg8 x7)) (SK : Scales (loadS arg5 harg5 x4) NK) (g : Fin 8) (j : Fin 256) :
    (kernelRun0_A.sl.r_119 (F := Ideal) c arg1 harg1 arg4 harg4 arg5 harg5 arg7 harg7 arg8 harg8 x0 x3 x4 x6 x7) (ix2 g j)
      = scoreAt (loadQ arg1 harg1 x0) x3 NK (j.val % 4) g.val (1728 + j.val / 4) := by
  rw [r_119_eq, r_34_eq, r63_eq, r1_eq]
  exact tile_of_second SK hil _ (loadQ arg1 harg1 x0) arg4 harg4 x3 64 13 slices_S128x16_o64_13_S64x1 6912 inb_S1x8192x128_S1x256x128_0_6912_0 _ slices_S64x256_o32_0_S32x256 256 slices_S16x512_o13_256_S1x256 (by omega) (by omega) rfl 1728 rfl rfl g j

theorem tile_124 (hil : Interleaves (loadIl arg8 harg8 x7)) (SK : Scales (loadS arg5 harg5 x4) NK) (g : Fin 8) (j : Fin 256) :
    (kernelRun0_A.sl.r_124 (F := Ideal) c arg1 harg1 arg4 harg4 arg5 harg5 arg7 harg7 arg8 harg8 x0 x3 x4 x6 x7) (ix2 g j)
      = scoreAt (loadQ arg1 harg1 x0) x3 NK (j.val % 4) g.val (1792 + j.val / 4) := by
  rw [r_124_eq, r_34_eq, r63_eq, r1_eq]
  exact tile_of_second SK hil _ (loadQ arg1 harg1 x0) arg4 harg4 x3 0 14 slices_S128x16_o0_14_S64x1 7168 inb_S1x8192x128_S1x256x128_0_7168_0 _ slices_S64x256_o32_0_S32x256 0 slices_S16x512_o14_0_S1x256 (by omega) (by omega) rfl 1792 rfl rfl g j

theorem tile_127 (hil : Interleaves (loadIl arg8 harg8 x7)) (SK : Scales (loadS arg5 harg5 x4) NK) (g : Fin 8) (j : Fin 256) :
    (kernelRun0_A.sl.r_127 (F := Ideal) c arg1 harg1 arg4 harg4 arg5 harg5 arg7 harg7 arg8 harg8 x0 x3 x4 x6 x7) (ix2 g j)
      = scoreAt (loadQ arg1 harg1 x0) x3 NK (j.val % 4) g.val (1856 + j.val / 4) := by
  rw [r_127_eq, r_34_eq, r63_eq, r1_eq]
  exact tile_of_second SK hil _ (loadQ arg1 harg1 x0) arg4 harg4 x3 64 14 slices_S128x16_o64_14_S64x1 7424 inb_S1x8192x128_S1x256x128_0_7424_0 _ slices_S64x256_o32_0_S32x256 256 slices_S16x512_o14_256_S1x256 (by omega) (by omega) rfl 1856 rfl rfl g j

theorem tile_132 (hil : Interleaves (loadIl arg8 harg8 x7)) (SK : Scales (loadS arg5 harg5 x4) NK) (g : Fin 8) (j : Fin 256) :
    (kernelRun0_A.sl.r_132 (F := Ideal) c arg1 harg1 arg4 harg4 arg5 harg5 arg7 harg7 arg8 harg8 x0 x3 x4 x6 x7) (ix2 g j)
      = scoreAt (loadQ arg1 harg1 x0) x3 NK (j.val % 4) g.val (1920 + j.val / 4) := by
  rw [r_132_eq, r_34_eq, r63_eq, r1_eq]
  exact tile_of_second SK hil _ (loadQ arg1 harg1 x0) arg4 harg4 x3 0 15 slices_S128x16_o0_15_S64x1 7680 inb_S1x8192x128_S1x256x128_0_7680_0 _ slices_S64x256_o32_0_S32x256 0 slices_S16x512_o15_0_S1x256 (by omega) (by omega) rfl 1920 rfl rfl g j

theorem tile_135 (hil : Interleaves (loadIl arg8 harg8 x7)) (SK : Scales (loadS arg5 harg5 x4) NK) (g : Fin 8) (j : Fin 256) :
    (kernelRun0_A.sl.r_135 (F := Ideal) c arg1 harg1 arg4 harg4 arg5 harg5 arg7 harg7 arg8 harg8 x0 x3 x4 x6 x7) (ix2 g j)
      = scoreAt (loadQ arg1 harg1 x0) x3 NK (j.val % 4) g.val (1984 + j.val / 4) := by
  rw [r_135_eq, r_34_eq, r63_eq, r1_eq]
  exact tile_of_second SK hil _ (loadQ arg1 harg1 x0) arg4 harg4 x3 64 15 slices_S128x16_o64_15_S64x1 7936 inb_S1x8192x128_S1x256x128_0_7936_0 _ slices_S64x256_o32_0_S32x256 256 slices_S16x512_o15_256_S1x256 (by omega) (by omega) rfl 1984 rfl rfl g j

theorem keysA_apply (hil : Interleaves (loadIl arg8 harg8 x7)) (SK : Scales (loadS arg5 harg5 x4) NK) :
    ∀ i g j, keysA c arg1 harg1 arg4 harg4 arg5 harg5 arg7 harg7 arg8 harg8 x0 x3 x4 x6 x7 i (ix2 g j) = scoreAt (loadQ arg1 harg1 x0) x3 NK (j.val % 4) g.val (64 * i.val + j.val / 4) := by
  intro i g j
  fin_cases i
  · exact tile_68 c arg1 harg1 arg4 harg4 arg5 harg5 arg7 harg7 arg8 harg8 x0 x3 x4 x6 x7 hil SK g j
  · exact tile_71 c arg1 harg1 arg4 harg4 arg5 harg5 arg7 harg7 arg8 harg8 x0 x3 x4 x6 x7 hil SK g j
  · exact tile_75 c arg1 harg1 arg4 harg4 arg5 harg5 arg7 harg7 arg8 harg8 x0 x3 x4 x6 x7 hil SK g j
  · exact tile_83 c arg1 harg1 arg4 harg4 arg5 harg5 arg7 harg7 arg8 harg8 x0 x3 x4 x6 x7 hil SK g j
  · exact tile_86 c arg1 harg1 arg4 harg4 arg5 harg5 arg7 harg7 arg8 harg8 x0 x3 x4 x6 x7 hil SK g j
  · exact tile_90 c arg1 harg1 arg4 harg4 arg5 harg5 arg7 harg7 arg8 harg8 x0 x3 x4 x6 x7 hil SK g j
  · exact tile_94 c arg1 harg1 arg4 harg4 arg5 harg5 arg7 harg7 arg8 harg8 x0 x3 x4 x6 x7 hil SK g j
  · exact tile_98 c arg1 harg1 arg4 harg4 arg5 harg5 arg7 harg7 arg8 harg8 x0 x3 x4 x6 x7 hil SK g j
  · exact tile_105 c arg1 harg1 arg4 harg4 arg5 harg5 arg7 harg7 arg8 harg8 x0 x3 x4 x6 x7 hil SK g j
  · exact tile_110 c arg1 harg1 arg4 harg4 arg5 harg5 arg7 harg7 arg8 harg8 x0 x3 x4 x6 x7 hil SK g j
  · exact tile_115 c arg1 harg1 arg4 harg4 arg5 harg5 arg7 harg7 arg8 harg8 x0 x3 x4 x6 x7 hil SK g j
  · exact tile_118 c arg1 harg1 arg4 harg4 arg5 harg5 arg7 harg7 arg8 harg8 x0 x3 x4 x6 x7 hil SK g j
  · exact tile_121 c arg1 harg1 arg4 harg4 arg5 harg5 arg7 harg7 arg8 harg8 x0 x3 x4 x6 x7 hil SK g j
  · exact tile_125 c arg1 harg1 arg4 harg4 arg5 harg5 arg7 harg7 arg8 harg8 x0 x3 x4 x6 x7 hil SK g j
  · exact tile_131 c arg1 harg1 arg4 harg4 arg5 harg5 arg7 harg7 arg8 harg8 x0 x3 x4 x6 x7 hil SK g j
  · exact tile_134 c arg1 harg1 arg4 harg4 arg5 harg5 arg7 harg7 arg8 harg8 x0 x3 x4 x6 x7 hil SK g j

theorem keysB_apply (hil : Interleaves (loadIl arg8 harg8 x7)) (SK : Scales (loadS arg5 harg5 x4) NK) :
    ∀ i g j, keysB c arg1 harg1 arg4 harg4 arg5 harg5 arg7 harg7 arg8 harg8 x0 x3 x4 x6 x7 i (ix2 g j) = scoreAt (loadQ arg1 harg1 x0) x3 NK (j.val % 4) g.val (1024 + 64 * i.val + j.val / 4) := by
  intro i g j
  fin_cases i
  · exact tile_69 c arg1 harg1 arg4 harg4 arg5 harg5 arg7 harg7 arg8 harg8 x0 x3 x4 x6 x7 hil SK g j
  · exact tile_74 c arg1 harg1 arg4 harg4 arg5 harg5 arg7 harg7 arg8 harg8 x0 x3 x4 x6 x7 hil SK g j
  · exact tile_78 c arg1 harg1 arg4 harg4 arg5 harg5 arg7 harg7 arg8 harg8 x0 x3 x4 x6 x7 hil SK g j
  · exact tile_84 c arg1 harg1 arg4 harg4 arg5 harg5 arg7 harg7 arg8 harg8 x0 x3 x4 x6 x7 hil SK g j
  · exact tile_87 c arg1 harg1 arg4 harg4 arg5 harg5 arg7 harg7 arg8 harg8 x0 x3 x4 x6 x7 hil SK g j
  · exact tile_91 c arg1 harg1 arg4 harg4 arg5 harg5 arg7 harg7 arg8 harg8 x0 x3 x4 x6 x7 hil SK g j
  · exact tile_97 c arg1 harg1 arg4 harg4 arg5 harg5 arg7 harg7 arg8 harg8 x0 x3 x4 x6 x7 hil SK g j
  · exact tile_101 c arg1 harg1 arg4 harg4 arg5 harg5 arg7 harg7 arg8 harg8 x0 x3 x4 x6 x7 hil SK g j
  · exact tile_106 c arg1 harg1 arg4 harg4 arg5 harg5 arg7 harg7 arg8 harg8 x0 x3 x4 x6 x7 hil SK g j
  · exact tile_111 c arg1 harg1 arg4 harg4 arg5 harg5 arg7 harg7 arg8 harg8 x0 x3 x4 x6 x7 hil SK g j
  · exact tile_116 c arg1 harg1 arg4 harg4 arg5 harg5 arg7 harg7 arg8 harg8 x0 x3 x4 x6 x7 hil SK g j
  · exact tile_119 c arg1 harg1 arg4 harg4 arg5 harg5 arg7 harg7 arg8 harg8 x0 x3 x4 x6 x7 hil SK g j
  · exact tile_124 c arg1 harg1 arg4 harg4 arg5 harg5 arg7 harg7 arg8 harg8 x0 x3 x4 x6 x7 hil SK g j
  · exact tile_127 c arg1 harg1 arg4 harg4 arg5 harg5 arg7 harg7 arg8 harg8 x0 x3 x4 x6 x7 hil SK g j
  · exact tile_132 c arg1 harg1 arg4 harg4 arg5 harg5 arg7 harg7 arg8 harg8 x0 x3 x4 x6 x7 hil SK g j
  · exact tile_135 c arg1 harg1 arg4 harg4 arg5 harg5 arg7 harg7 arg8 harg8 x0 x3 x4 x6 x7 hil SK g j

theorem fac_0 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 0 0 slices_S16x512_o0_0_S1x256 (ix2 g j) = ((r : ℝ) : EReal) := by
  rw [r64_eq]
  exact factor_real SV hil _ 0 0 slices_S16x512_o0_0_S1x256 (by omega) (by omega) g j

theorem value_0 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 0 0 slices_S16x512_o0_0_S1x256 (ix2 g j)
      * chunk (kernelRun0_A.sl.r_62 (F := Ideal) c arg7 harg7 x6) 0 0 slices_S128x16_o0_0_S64x1 (chunkLoad arg6 harg6 x5 0 inb_S1x8192x128_S1x256x128_0_0_0) (ix2 j d) : EReal)
      = valueAt x5 NV (j.val % 4) (0 + j.val / 4) d := by
  rw [r64_eq, r_62_eq]
  exact factor_value SV hil _ arg6 harg6 x5 0 0 slices_S128x16_o0_0_S64x1 0 inb_S1x8192x128_S1x256x128_0_0_0 0 slices_S16x512_o0_0_S1x256 (by omega) (by omega) rfl 0 rfl rfl g j d

theorem fac_256 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 0 256 slices_S16x512_o0_256_S1x256 (ix2 g j) = ((r : ℝ) : EReal) := by
  rw [r64_eq]
  exact factor_real SV hil _ 0 256 slices_S16x512_o0_256_S1x256 (by omega) (by omega) g j

theorem value_256 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 0 256 slices_S16x512_o0_256_S1x256 (ix2 g j)
      * chunk (kernelRun0_A.sl.r_62 (F := Ideal) c arg7 harg7 x6) 64 0 slices_S128x16_o64_0_S64x1 (chunkLoad arg6 harg6 x5 256 inb_S1x8192x128_S1x256x128_0_256_0) (ix2 j d) : EReal)
      = valueAt x5 NV (j.val % 4) (64 + j.val / 4) d := by
  rw [r64_eq, r_62_eq]
  exact factor_value SV hil _ arg6 harg6 x5 64 0 slices_S128x16_o64_0_S64x1 256 inb_S1x8192x128_S1x256x128_0_256_0 256 slices_S16x512_o0_256_S1x256 (by omega) (by omega) rfl 64 rfl rfl g j d

theorem fac_512 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 1 0 slices_S16x512_o1_0_S1x256 (ix2 g j) = ((r : ℝ) : EReal) := by
  rw [r64_eq]
  exact factor_real SV hil _ 1 0 slices_S16x512_o1_0_S1x256 (by omega) (by omega) g j

theorem value_512 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 1 0 slices_S16x512_o1_0_S1x256 (ix2 g j)
      * chunk (kernelRun0_A.sl.r_62 (F := Ideal) c arg7 harg7 x6) 0 1 slices_S128x16_o0_1_S64x1 (chunkLoad arg6 harg6 x5 512 inb_S1x8192x128_S1x256x128_0_512_0) (ix2 j d) : EReal)
      = valueAt x5 NV (j.val % 4) (128 + j.val / 4) d := by
  rw [r64_eq, r_62_eq]
  exact factor_value SV hil _ arg6 harg6 x5 0 1 slices_S128x16_o0_1_S64x1 512 inb_S1x8192x128_S1x256x128_0_512_0 0 slices_S16x512_o1_0_S1x256 (by omega) (by omega) rfl 128 rfl rfl g j d

theorem fac_768 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 1 256 slices_S16x512_o1_256_S1x256 (ix2 g j) = ((r : ℝ) : EReal) := by
  rw [r64_eq]
  exact factor_real SV hil _ 1 256 slices_S16x512_o1_256_S1x256 (by omega) (by omega) g j

theorem value_768 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 1 256 slices_S16x512_o1_256_S1x256 (ix2 g j)
      * chunk (kernelRun0_A.sl.r_62 (F := Ideal) c arg7 harg7 x6) 64 1 slices_S128x16_o64_1_S64x1 (chunkLoad arg6 harg6 x5 768 inb_S1x8192x128_S1x256x128_0_768_0) (ix2 j d) : EReal)
      = valueAt x5 NV (j.val % 4) (192 + j.val / 4) d := by
  rw [r64_eq, r_62_eq]
  exact factor_value SV hil _ arg6 harg6 x5 64 1 slices_S128x16_o64_1_S64x1 768 inb_S1x8192x128_S1x256x128_0_768_0 256 slices_S16x512_o1_256_S1x256 (by omega) (by omega) rfl 192 rfl rfl g j d

theorem fac_1024 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 2 0 slices_S16x512_o2_0_S1x256 (ix2 g j) = ((r : ℝ) : EReal) := by
  rw [r64_eq]
  exact factor_real SV hil _ 2 0 slices_S16x512_o2_0_S1x256 (by omega) (by omega) g j

theorem value_1024 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 2 0 slices_S16x512_o2_0_S1x256 (ix2 g j)
      * chunk (kernelRun0_A.sl.r_62 (F := Ideal) c arg7 harg7 x6) 0 2 slices_S128x16_o0_2_S64x1 (chunkLoad arg6 harg6 x5 1024 inb_S1x8192x128_S1x256x128_0_1024_0) (ix2 j d) : EReal)
      = valueAt x5 NV (j.val % 4) (256 + j.val / 4) d := by
  rw [r64_eq, r_62_eq]
  exact factor_value SV hil _ arg6 harg6 x5 0 2 slices_S128x16_o0_2_S64x1 1024 inb_S1x8192x128_S1x256x128_0_1024_0 0 slices_S16x512_o2_0_S1x256 (by omega) (by omega) rfl 256 rfl rfl g j d

theorem fac_1280 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 2 256 slices_S16x512_o2_256_S1x256 (ix2 g j) = ((r : ℝ) : EReal) := by
  rw [r64_eq]
  exact factor_real SV hil _ 2 256 slices_S16x512_o2_256_S1x256 (by omega) (by omega) g j

theorem value_1280 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 2 256 slices_S16x512_o2_256_S1x256 (ix2 g j)
      * chunk (kernelRun0_A.sl.r_62 (F := Ideal) c arg7 harg7 x6) 64 2 slices_S128x16_o64_2_S64x1 (chunkLoad arg6 harg6 x5 1280 inb_S1x8192x128_S1x256x128_0_1280_0) (ix2 j d) : EReal)
      = valueAt x5 NV (j.val % 4) (320 + j.val / 4) d := by
  rw [r64_eq, r_62_eq]
  exact factor_value SV hil _ arg6 harg6 x5 64 2 slices_S128x16_o64_2_S64x1 1280 inb_S1x8192x128_S1x256x128_0_1280_0 256 slices_S16x512_o2_256_S1x256 (by omega) (by omega) rfl 320 rfl rfl g j d

theorem fac_1536 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 3 0 slices_S16x512_o3_0_S1x256 (ix2 g j) = ((r : ℝ) : EReal) := by
  rw [r64_eq]
  exact factor_real SV hil _ 3 0 slices_S16x512_o3_0_S1x256 (by omega) (by omega) g j

theorem value_1536 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 3 0 slices_S16x512_o3_0_S1x256 (ix2 g j)
      * chunk (kernelRun0_A.sl.r_62 (F := Ideal) c arg7 harg7 x6) 0 3 slices_S128x16_o0_3_S64x1 (chunkLoad arg6 harg6 x5 1536 inb_S1x8192x128_S1x256x128_0_1536_0) (ix2 j d) : EReal)
      = valueAt x5 NV (j.val % 4) (384 + j.val / 4) d := by
  rw [r64_eq, r_62_eq]
  exact factor_value SV hil _ arg6 harg6 x5 0 3 slices_S128x16_o0_3_S64x1 1536 inb_S1x8192x128_S1x256x128_0_1536_0 0 slices_S16x512_o3_0_S1x256 (by omega) (by omega) rfl 384 rfl rfl g j d

theorem fac_1792 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 3 256 slices_S16x512_o3_256_S1x256 (ix2 g j) = ((r : ℝ) : EReal) := by
  rw [r64_eq]
  exact factor_real SV hil _ 3 256 slices_S16x512_o3_256_S1x256 (by omega) (by omega) g j

theorem value_1792 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 3 256 slices_S16x512_o3_256_S1x256 (ix2 g j)
      * chunk (kernelRun0_A.sl.r_62 (F := Ideal) c arg7 harg7 x6) 64 3 slices_S128x16_o64_3_S64x1 (chunkLoad arg6 harg6 x5 1792 inb_S1x8192x128_S1x256x128_0_1792_0) (ix2 j d) : EReal)
      = valueAt x5 NV (j.val % 4) (448 + j.val / 4) d := by
  rw [r64_eq, r_62_eq]
  exact factor_value SV hil _ arg6 harg6 x5 64 3 slices_S128x16_o64_3_S64x1 1792 inb_S1x8192x128_S1x256x128_0_1792_0 256 slices_S16x512_o3_256_S1x256 (by omega) (by omega) rfl 448 rfl rfl g j d

theorem fac_2048 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 4 0 slices_S16x512_o4_0_S1x256 (ix2 g j) = ((r : ℝ) : EReal) := by
  rw [r64_eq]
  exact factor_real SV hil _ 4 0 slices_S16x512_o4_0_S1x256 (by omega) (by omega) g j

theorem value_2048 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 4 0 slices_S16x512_o4_0_S1x256 (ix2 g j)
      * chunk (kernelRun0_A.sl.r_62 (F := Ideal) c arg7 harg7 x6) 0 4 slices_S128x16_o0_4_S64x1 (chunkLoad arg6 harg6 x5 2048 inb_S1x8192x128_S1x256x128_0_2048_0) (ix2 j d) : EReal)
      = valueAt x5 NV (j.val % 4) (512 + j.val / 4) d := by
  rw [r64_eq, r_62_eq]
  exact factor_value SV hil _ arg6 harg6 x5 0 4 slices_S128x16_o0_4_S64x1 2048 inb_S1x8192x128_S1x256x128_0_2048_0 0 slices_S16x512_o4_0_S1x256 (by omega) (by omega) rfl 512 rfl rfl g j d

theorem fac_2304 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 4 256 slices_S16x512_o4_256_S1x256 (ix2 g j) = ((r : ℝ) : EReal) := by
  rw [r64_eq]
  exact factor_real SV hil _ 4 256 slices_S16x512_o4_256_S1x256 (by omega) (by omega) g j

theorem value_2304 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 4 256 slices_S16x512_o4_256_S1x256 (ix2 g j)
      * chunk (kernelRun0_A.sl.r_62 (F := Ideal) c arg7 harg7 x6) 64 4 slices_S128x16_o64_4_S64x1 (chunkLoad arg6 harg6 x5 2304 inb_S1x8192x128_S1x256x128_0_2304_0) (ix2 j d) : EReal)
      = valueAt x5 NV (j.val % 4) (576 + j.val / 4) d := by
  rw [r64_eq, r_62_eq]
  exact factor_value SV hil _ arg6 harg6 x5 64 4 slices_S128x16_o64_4_S64x1 2304 inb_S1x8192x128_S1x256x128_0_2304_0 256 slices_S16x512_o4_256_S1x256 (by omega) (by omega) rfl 576 rfl rfl g j d

theorem fac_2560 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 5 0 slices_S16x512_o5_0_S1x256 (ix2 g j) = ((r : ℝ) : EReal) := by
  rw [r64_eq]
  exact factor_real SV hil _ 5 0 slices_S16x512_o5_0_S1x256 (by omega) (by omega) g j

theorem value_2560 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 5 0 slices_S16x512_o5_0_S1x256 (ix2 g j)
      * chunk (kernelRun0_A.sl.r_62 (F := Ideal) c arg7 harg7 x6) 0 5 slices_S128x16_o0_5_S64x1 (chunkLoad arg6 harg6 x5 2560 inb_S1x8192x128_S1x256x128_0_2560_0) (ix2 j d) : EReal)
      = valueAt x5 NV (j.val % 4) (640 + j.val / 4) d := by
  rw [r64_eq, r_62_eq]
  exact factor_value SV hil _ arg6 harg6 x5 0 5 slices_S128x16_o0_5_S64x1 2560 inb_S1x8192x128_S1x256x128_0_2560_0 0 slices_S16x512_o5_0_S1x256 (by omega) (by omega) rfl 640 rfl rfl g j d

theorem fac_2816 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 5 256 slices_S16x512_o5_256_S1x256 (ix2 g j) = ((r : ℝ) : EReal) := by
  rw [r64_eq]
  exact factor_real SV hil _ 5 256 slices_S16x512_o5_256_S1x256 (by omega) (by omega) g j

theorem value_2816 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 5 256 slices_S16x512_o5_256_S1x256 (ix2 g j)
      * chunk (kernelRun0_A.sl.r_62 (F := Ideal) c arg7 harg7 x6) 64 5 slices_S128x16_o64_5_S64x1 (chunkLoad arg6 harg6 x5 2816 inb_S1x8192x128_S1x256x128_0_2816_0) (ix2 j d) : EReal)
      = valueAt x5 NV (j.val % 4) (704 + j.val / 4) d := by
  rw [r64_eq, r_62_eq]
  exact factor_value SV hil _ arg6 harg6 x5 64 5 slices_S128x16_o64_5_S64x1 2816 inb_S1x8192x128_S1x256x128_0_2816_0 256 slices_S16x512_o5_256_S1x256 (by omega) (by omega) rfl 704 rfl rfl g j d

theorem fac_3072 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 6 0 slices_S16x512_o6_0_S1x256 (ix2 g j) = ((r : ℝ) : EReal) := by
  rw [r64_eq]
  exact factor_real SV hil _ 6 0 slices_S16x512_o6_0_S1x256 (by omega) (by omega) g j

theorem value_3072 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 6 0 slices_S16x512_o6_0_S1x256 (ix2 g j)
      * chunk (kernelRun0_A.sl.r_62 (F := Ideal) c arg7 harg7 x6) 0 6 slices_S128x16_o0_6_S64x1 (chunkLoad arg6 harg6 x5 3072 inb_S1x8192x128_S1x256x128_0_3072_0) (ix2 j d) : EReal)
      = valueAt x5 NV (j.val % 4) (768 + j.val / 4) d := by
  rw [r64_eq, r_62_eq]
  exact factor_value SV hil _ arg6 harg6 x5 0 6 slices_S128x16_o0_6_S64x1 3072 inb_S1x8192x128_S1x256x128_0_3072_0 0 slices_S16x512_o6_0_S1x256 (by omega) (by omega) rfl 768 rfl rfl g j d

theorem fac_3328 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 6 256 slices_S16x512_o6_256_S1x256 (ix2 g j) = ((r : ℝ) : EReal) := by
  rw [r64_eq]
  exact factor_real SV hil _ 6 256 slices_S16x512_o6_256_S1x256 (by omega) (by omega) g j

theorem value_3328 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 6 256 slices_S16x512_o6_256_S1x256 (ix2 g j)
      * chunk (kernelRun0_A.sl.r_62 (F := Ideal) c arg7 harg7 x6) 64 6 slices_S128x16_o64_6_S64x1 (chunkLoad arg6 harg6 x5 3328 inb_S1x8192x128_S1x256x128_0_3328_0) (ix2 j d) : EReal)
      = valueAt x5 NV (j.val % 4) (832 + j.val / 4) d := by
  rw [r64_eq, r_62_eq]
  exact factor_value SV hil _ arg6 harg6 x5 64 6 slices_S128x16_o64_6_S64x1 3328 inb_S1x8192x128_S1x256x128_0_3328_0 256 slices_S16x512_o6_256_S1x256 (by omega) (by omega) rfl 832 rfl rfl g j d

theorem fac_3584 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 7 0 slices_S16x512_o7_0_S1x256 (ix2 g j) = ((r : ℝ) : EReal) := by
  rw [r64_eq]
  exact factor_real SV hil _ 7 0 slices_S16x512_o7_0_S1x256 (by omega) (by omega) g j

theorem value_3584 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 7 0 slices_S16x512_o7_0_S1x256 (ix2 g j)
      * chunk (kernelRun0_A.sl.r_62 (F := Ideal) c arg7 harg7 x6) 0 7 slices_S128x16_o0_7_S64x1 (chunkLoad arg6 harg6 x5 3584 inb_S1x8192x128_S1x256x128_0_3584_0) (ix2 j d) : EReal)
      = valueAt x5 NV (j.val % 4) (896 + j.val / 4) d := by
  rw [r64_eq, r_62_eq]
  exact factor_value SV hil _ arg6 harg6 x5 0 7 slices_S128x16_o0_7_S64x1 3584 inb_S1x8192x128_S1x256x128_0_3584_0 0 slices_S16x512_o7_0_S1x256 (by omega) (by omega) rfl 896 rfl rfl g j d

theorem fac_3840 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 7 256 slices_S16x512_o7_256_S1x256 (ix2 g j) = ((r : ℝ) : EReal) := by
  rw [r64_eq]
  exact factor_real SV hil _ 7 256 slices_S16x512_o7_256_S1x256 (by omega) (by omega) g j

theorem value_3840 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 7 256 slices_S16x512_o7_256_S1x256 (ix2 g j)
      * chunk (kernelRun0_A.sl.r_62 (F := Ideal) c arg7 harg7 x6) 64 7 slices_S128x16_o64_7_S64x1 (chunkLoad arg6 harg6 x5 3840 inb_S1x8192x128_S1x256x128_0_3840_0) (ix2 j d) : EReal)
      = valueAt x5 NV (j.val % 4) (960 + j.val / 4) d := by
  rw [r64_eq, r_62_eq]
  exact factor_value SV hil _ arg6 harg6 x5 64 7 slices_S128x16_o64_7_S64x1 3840 inb_S1x8192x128_S1x256x128_0_3840_0 256 slices_S16x512_o7_256_S1x256 (by omega) (by omega) rfl 960 rfl rfl g j d

theorem fac_4096 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 8 0 slices_S16x512_o8_0_S1x256 (ix2 g j) = ((r : ℝ) : EReal) := by
  rw [r64_eq]
  exact factor_real SV hil _ 8 0 slices_S16x512_o8_0_S1x256 (by omega) (by omega) g j

theorem value_4096 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 8 0 slices_S16x512_o8_0_S1x256 (ix2 g j)
      * chunk (kernelRun0_A.sl.r_62 (F := Ideal) c arg7 harg7 x6) 0 8 slices_S128x16_o0_8_S64x1 (chunkLoad arg6 harg6 x5 4096 inb_S1x8192x128_S1x256x128_0_4096_0) (ix2 j d) : EReal)
      = valueAt x5 NV (j.val % 4) (1024 + j.val / 4) d := by
  rw [r64_eq, r_62_eq]
  exact factor_value SV hil _ arg6 harg6 x5 0 8 slices_S128x16_o0_8_S64x1 4096 inb_S1x8192x128_S1x256x128_0_4096_0 0 slices_S16x512_o8_0_S1x256 (by omega) (by omega) rfl 1024 rfl rfl g j d

theorem fac_4352 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 8 256 slices_S16x512_o8_256_S1x256 (ix2 g j) = ((r : ℝ) : EReal) := by
  rw [r64_eq]
  exact factor_real SV hil _ 8 256 slices_S16x512_o8_256_S1x256 (by omega) (by omega) g j

theorem value_4352 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 8 256 slices_S16x512_o8_256_S1x256 (ix2 g j)
      * chunk (kernelRun0_A.sl.r_62 (F := Ideal) c arg7 harg7 x6) 64 8 slices_S128x16_o64_8_S64x1 (chunkLoad arg6 harg6 x5 4352 inb_S1x8192x128_S1x256x128_0_4352_0) (ix2 j d) : EReal)
      = valueAt x5 NV (j.val % 4) (1088 + j.val / 4) d := by
  rw [r64_eq, r_62_eq]
  exact factor_value SV hil _ arg6 harg6 x5 64 8 slices_S128x16_o64_8_S64x1 4352 inb_S1x8192x128_S1x256x128_0_4352_0 256 slices_S16x512_o8_256_S1x256 (by omega) (by omega) rfl 1088 rfl rfl g j d

theorem fac_4608 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 9 0 slices_S16x512_o9_0_S1x256 (ix2 g j) = ((r : ℝ) : EReal) := by
  rw [r64_eq]
  exact factor_real SV hil _ 9 0 slices_S16x512_o9_0_S1x256 (by omega) (by omega) g j

theorem value_4608 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 9 0 slices_S16x512_o9_0_S1x256 (ix2 g j)
      * chunk (kernelRun0_A.sl.r_62 (F := Ideal) c arg7 harg7 x6) 0 9 slices_S128x16_o0_9_S64x1 (chunkLoad arg6 harg6 x5 4608 inb_S1x8192x128_S1x256x128_0_4608_0) (ix2 j d) : EReal)
      = valueAt x5 NV (j.val % 4) (1152 + j.val / 4) d := by
  rw [r64_eq, r_62_eq]
  exact factor_value SV hil _ arg6 harg6 x5 0 9 slices_S128x16_o0_9_S64x1 4608 inb_S1x8192x128_S1x256x128_0_4608_0 0 slices_S16x512_o9_0_S1x256 (by omega) (by omega) rfl 1152 rfl rfl g j d

theorem fac_4864 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 9 256 slices_S16x512_o9_256_S1x256 (ix2 g j) = ((r : ℝ) : EReal) := by
  rw [r64_eq]
  exact factor_real SV hil _ 9 256 slices_S16x512_o9_256_S1x256 (by omega) (by omega) g j

theorem value_4864 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 9 256 slices_S16x512_o9_256_S1x256 (ix2 g j)
      * chunk (kernelRun0_A.sl.r_62 (F := Ideal) c arg7 harg7 x6) 64 9 slices_S128x16_o64_9_S64x1 (chunkLoad arg6 harg6 x5 4864 inb_S1x8192x128_S1x256x128_0_4864_0) (ix2 j d) : EReal)
      = valueAt x5 NV (j.val % 4) (1216 + j.val / 4) d := by
  rw [r64_eq, r_62_eq]
  exact factor_value SV hil _ arg6 harg6 x5 64 9 slices_S128x16_o64_9_S64x1 4864 inb_S1x8192x128_S1x256x128_0_4864_0 256 slices_S16x512_o9_256_S1x256 (by omega) (by omega) rfl 1216 rfl rfl g j d

theorem fac_5120 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 10 0 slices_S16x512_o10_0_S1x256 (ix2 g j) = ((r : ℝ) : EReal) := by
  rw [r64_eq]
  exact factor_real SV hil _ 10 0 slices_S16x512_o10_0_S1x256 (by omega) (by omega) g j

theorem value_5120 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 10 0 slices_S16x512_o10_0_S1x256 (ix2 g j)
      * chunk (kernelRun0_A.sl.r_62 (F := Ideal) c arg7 harg7 x6) 0 10 slices_S128x16_o0_10_S64x1 (chunkLoad arg6 harg6 x5 5120 inb_S1x8192x128_S1x256x128_0_5120_0) (ix2 j d) : EReal)
      = valueAt x5 NV (j.val % 4) (1280 + j.val / 4) d := by
  rw [r64_eq, r_62_eq]
  exact factor_value SV hil _ arg6 harg6 x5 0 10 slices_S128x16_o0_10_S64x1 5120 inb_S1x8192x128_S1x256x128_0_5120_0 0 slices_S16x512_o10_0_S1x256 (by omega) (by omega) rfl 1280 rfl rfl g j d

theorem fac_5376 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 10 256 slices_S16x512_o10_256_S1x256 (ix2 g j) = ((r : ℝ) : EReal) := by
  rw [r64_eq]
  exact factor_real SV hil _ 10 256 slices_S16x512_o10_256_S1x256 (by omega) (by omega) g j

theorem value_5376 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 10 256 slices_S16x512_o10_256_S1x256 (ix2 g j)
      * chunk (kernelRun0_A.sl.r_62 (F := Ideal) c arg7 harg7 x6) 64 10 slices_S128x16_o64_10_S64x1 (chunkLoad arg6 harg6 x5 5376 inb_S1x8192x128_S1x256x128_0_5376_0) (ix2 j d) : EReal)
      = valueAt x5 NV (j.val % 4) (1344 + j.val / 4) d := by
  rw [r64_eq, r_62_eq]
  exact factor_value SV hil _ arg6 harg6 x5 64 10 slices_S128x16_o64_10_S64x1 5376 inb_S1x8192x128_S1x256x128_0_5376_0 256 slices_S16x512_o10_256_S1x256 (by omega) (by omega) rfl 1344 rfl rfl g j d

theorem fac_5632 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 11 0 slices_S16x512_o11_0_S1x256 (ix2 g j) = ((r : ℝ) : EReal) := by
  rw [r64_eq]
  exact factor_real SV hil _ 11 0 slices_S16x512_o11_0_S1x256 (by omega) (by omega) g j

theorem value_5632 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 11 0 slices_S16x512_o11_0_S1x256 (ix2 g j)
      * chunk (kernelRun0_A.sl.r_62 (F := Ideal) c arg7 harg7 x6) 0 11 slices_S128x16_o0_11_S64x1 (chunkLoad arg6 harg6 x5 5632 inb_S1x8192x128_S1x256x128_0_5632_0) (ix2 j d) : EReal)
      = valueAt x5 NV (j.val % 4) (1408 + j.val / 4) d := by
  rw [r64_eq, r_62_eq]
  exact factor_value SV hil _ arg6 harg6 x5 0 11 slices_S128x16_o0_11_S64x1 5632 inb_S1x8192x128_S1x256x128_0_5632_0 0 slices_S16x512_o11_0_S1x256 (by omega) (by omega) rfl 1408 rfl rfl g j d

theorem fac_5888 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 11 256 slices_S16x512_o11_256_S1x256 (ix2 g j) = ((r : ℝ) : EReal) := by
  rw [r64_eq]
  exact factor_real SV hil _ 11 256 slices_S16x512_o11_256_S1x256 (by omega) (by omega) g j

theorem value_5888 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 11 256 slices_S16x512_o11_256_S1x256 (ix2 g j)
      * chunk (kernelRun0_A.sl.r_62 (F := Ideal) c arg7 harg7 x6) 64 11 slices_S128x16_o64_11_S64x1 (chunkLoad arg6 harg6 x5 5888 inb_S1x8192x128_S1x256x128_0_5888_0) (ix2 j d) : EReal)
      = valueAt x5 NV (j.val % 4) (1472 + j.val / 4) d := by
  rw [r64_eq, r_62_eq]
  exact factor_value SV hil _ arg6 harg6 x5 64 11 slices_S128x16_o64_11_S64x1 5888 inb_S1x8192x128_S1x256x128_0_5888_0 256 slices_S16x512_o11_256_S1x256 (by omega) (by omega) rfl 1472 rfl rfl g j d

theorem fac_6144 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 12 0 slices_S16x512_o12_0_S1x256 (ix2 g j) = ((r : ℝ) : EReal) := by
  rw [r64_eq]
  exact factor_real SV hil _ 12 0 slices_S16x512_o12_0_S1x256 (by omega) (by omega) g j

theorem value_6144 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 12 0 slices_S16x512_o12_0_S1x256 (ix2 g j)
      * chunk (kernelRun0_A.sl.r_62 (F := Ideal) c arg7 harg7 x6) 0 12 slices_S128x16_o0_12_S64x1 (chunkLoad arg6 harg6 x5 6144 inb_S1x8192x128_S1x256x128_0_6144_0) (ix2 j d) : EReal)
      = valueAt x5 NV (j.val % 4) (1536 + j.val / 4) d := by
  rw [r64_eq, r_62_eq]
  exact factor_value SV hil _ arg6 harg6 x5 0 12 slices_S128x16_o0_12_S64x1 6144 inb_S1x8192x128_S1x256x128_0_6144_0 0 slices_S16x512_o12_0_S1x256 (by omega) (by omega) rfl 1536 rfl rfl g j d

theorem fac_6400 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 12 256 slices_S16x512_o12_256_S1x256 (ix2 g j) = ((r : ℝ) : EReal) := by
  rw [r64_eq]
  exact factor_real SV hil _ 12 256 slices_S16x512_o12_256_S1x256 (by omega) (by omega) g j

theorem value_6400 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 12 256 slices_S16x512_o12_256_S1x256 (ix2 g j)
      * chunk (kernelRun0_A.sl.r_62 (F := Ideal) c arg7 harg7 x6) 64 12 slices_S128x16_o64_12_S64x1 (chunkLoad arg6 harg6 x5 6400 inb_S1x8192x128_S1x256x128_0_6400_0) (ix2 j d) : EReal)
      = valueAt x5 NV (j.val % 4) (1600 + j.val / 4) d := by
  rw [r64_eq, r_62_eq]
  exact factor_value SV hil _ arg6 harg6 x5 64 12 slices_S128x16_o64_12_S64x1 6400 inb_S1x8192x128_S1x256x128_0_6400_0 256 slices_S16x512_o12_256_S1x256 (by omega) (by omega) rfl 1600 rfl rfl g j d

theorem fac_6656 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 13 0 slices_S16x512_o13_0_S1x256 (ix2 g j) = ((r : ℝ) : EReal) := by
  rw [r64_eq]
  exact factor_real SV hil _ 13 0 slices_S16x512_o13_0_S1x256 (by omega) (by omega) g j

theorem value_6656 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 13 0 slices_S16x512_o13_0_S1x256 (ix2 g j)
      * chunk (kernelRun0_A.sl.r_62 (F := Ideal) c arg7 harg7 x6) 0 13 slices_S128x16_o0_13_S64x1 (chunkLoad arg6 harg6 x5 6656 inb_S1x8192x128_S1x256x128_0_6656_0) (ix2 j d) : EReal)
      = valueAt x5 NV (j.val % 4) (1664 + j.val / 4) d := by
  rw [r64_eq, r_62_eq]
  exact factor_value SV hil _ arg6 harg6 x5 0 13 slices_S128x16_o0_13_S64x1 6656 inb_S1x8192x128_S1x256x128_0_6656_0 0 slices_S16x512_o13_0_S1x256 (by omega) (by omega) rfl 1664 rfl rfl g j d

theorem fac_6912 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 13 256 slices_S16x512_o13_256_S1x256 (ix2 g j) = ((r : ℝ) : EReal) := by
  rw [r64_eq]
  exact factor_real SV hil _ 13 256 slices_S16x512_o13_256_S1x256 (by omega) (by omega) g j

theorem value_6912 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 13 256 slices_S16x512_o13_256_S1x256 (ix2 g j)
      * chunk (kernelRun0_A.sl.r_62 (F := Ideal) c arg7 harg7 x6) 64 13 slices_S128x16_o64_13_S64x1 (chunkLoad arg6 harg6 x5 6912 inb_S1x8192x128_S1x256x128_0_6912_0) (ix2 j d) : EReal)
      = valueAt x5 NV (j.val % 4) (1728 + j.val / 4) d := by
  rw [r64_eq, r_62_eq]
  exact factor_value SV hil _ arg6 harg6 x5 64 13 slices_S128x16_o64_13_S64x1 6912 inb_S1x8192x128_S1x256x128_0_6912_0 256 slices_S16x512_o13_256_S1x256 (by omega) (by omega) rfl 1728 rfl rfl g j d

theorem fac_7168 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 14 0 slices_S16x512_o14_0_S1x256 (ix2 g j) = ((r : ℝ) : EReal) := by
  rw [r64_eq]
  exact factor_real SV hil _ 14 0 slices_S16x512_o14_0_S1x256 (by omega) (by omega) g j

theorem value_7168 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 14 0 slices_S16x512_o14_0_S1x256 (ix2 g j)
      * chunk (kernelRun0_A.sl.r_62 (F := Ideal) c arg7 harg7 x6) 0 14 slices_S128x16_o0_14_S64x1 (chunkLoad arg6 harg6 x5 7168 inb_S1x8192x128_S1x256x128_0_7168_0) (ix2 j d) : EReal)
      = valueAt x5 NV (j.val % 4) (1792 + j.val / 4) d := by
  rw [r64_eq, r_62_eq]
  exact factor_value SV hil _ arg6 harg6 x5 0 14 slices_S128x16_o0_14_S64x1 7168 inb_S1x8192x128_S1x256x128_0_7168_0 0 slices_S16x512_o14_0_S1x256 (by omega) (by omega) rfl 1792 rfl rfl g j d

theorem fac_7424 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 14 256 slices_S16x512_o14_256_S1x256 (ix2 g j) = ((r : ℝ) : EReal) := by
  rw [r64_eq]
  exact factor_real SV hil _ 14 256 slices_S16x512_o14_256_S1x256 (by omega) (by omega) g j

theorem value_7424 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 14 256 slices_S16x512_o14_256_S1x256 (ix2 g j)
      * chunk (kernelRun0_A.sl.r_62 (F := Ideal) c arg7 harg7 x6) 64 14 slices_S128x16_o64_14_S64x1 (chunkLoad arg6 harg6 x5 7424 inb_S1x8192x128_S1x256x128_0_7424_0) (ix2 j d) : EReal)
      = valueAt x5 NV (j.val % 4) (1856 + j.val / 4) d := by
  rw [r64_eq, r_62_eq]
  exact factor_value SV hil _ arg6 harg6 x5 64 14 slices_S128x16_o64_14_S64x1 7424 inb_S1x8192x128_S1x256x128_0_7424_0 256 slices_S16x512_o14_256_S1x256 (by omega) (by omega) rfl 1856 rfl rfl g j d

theorem fac_7680 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 15 0 slices_S16x512_o15_0_S1x256 (ix2 g j) = ((r : ℝ) : EReal) := by
  rw [r64_eq]
  exact factor_real SV hil _ 15 0 slices_S16x512_o15_0_S1x256 (by omega) (by omega) g j

theorem value_7680 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 15 0 slices_S16x512_o15_0_S1x256 (ix2 g j)
      * chunk (kernelRun0_A.sl.r_62 (F := Ideal) c arg7 harg7 x6) 0 15 slices_S128x16_o0_15_S64x1 (chunkLoad arg6 harg6 x5 7680 inb_S1x8192x128_S1x256x128_0_7680_0) (ix2 j d) : EReal)
      = valueAt x5 NV (j.val % 4) (1920 + j.val / 4) d := by
  rw [r64_eq, r_62_eq]
  exact factor_value SV hil _ arg6 harg6 x5 0 15 slices_S128x16_o0_15_S64x1 7680 inb_S1x8192x128_S1x256x128_0_7680_0 0 slices_S16x512_o15_0_S1x256 (by omega) (by omega) rfl 1920 rfl rfl g j d

theorem fac_7936 (hil : Interleaves (loadIl arg8 harg8 x7)) (SV : Scales (loadS arg7 harg7 x6) NV) (g : Fin 8) (j : Fin 256) :
    ∃ r : ℝ, laneFactor (kernelRun0_A.sl.r_64 (F := Ideal) c arg5 harg5 arg7 harg7 arg8 harg8 x4 x6 x7) 15 256 slices_S16x512_o15_256_S1x256 (ix2 g j) = ((r : ℝ) : EReal) := by
  rw [r64_eq]
  exact factor_real SV hil _ 15 256 slices_S16x512_o15_256_S1x256 (by omega) (by omega) g j

theorem value_7936 (hil : Interleaves (loadIl arg8 harg8 x7)) (SV : Scales (loadS arg7 harg7 x6) NV) (g : Fin 8) (j : Fin 256) (d : Fin 128) :
    (laneFactor (kernelRun0_A.sl.r_64 (F := Ideal) c arg5 harg5 arg7 harg7 arg8 harg8 x4 x6 x7) 15 256 slices_S16x512_o15_256_S1x256 (ix2 g j)
      * chunk (kernelRun0_A.sl.r_62 (F := Ideal) c arg7 harg7 x6) 64 15 slices_S128x16_o64_15_S64x1 (chunkLoad arg6 harg6 x5 7936 inb_S1x8192x128_S1x256x128_0_7936_0) (ix2 j d) : EReal)
      = valueAt x5 NV (j.val % 4) (1984 + j.val / 4) d := by
  rw [r64_eq, r_62_eq]
  exact factor_value SV hil _ arg6 harg6 x5 64 15 slices_S128x16_o64_15_S64x1 7936 inb_S1x8192x128_S1x256x128_0_7936_0 256 slices_S16x512_o15_256_S1x256 (by omega) (by omega) rfl 1984 rfl rfl g j d

theorem values_eq (hil : Interleaves (loadIl arg8 harg8 x7)) (SV : Scales (loadS arg7 harg7 x6) NV) :
    Values (facA c arg5 harg5 arg7 harg7 arg8 harg8 x4 x6 x7) (facB c arg5 harg5 arg7 harg7 arg8 harg8 x4 x6 x7)
      (valA c arg6 harg6 arg7 harg7 x5 x6) (valB c arg6 harg6 arg7 harg7 x5 x6)
      (valueAt x5 NV) where
  realA := by
    intro i g j
    fin_cases i
    · exact fac_0 c arg5 harg5 arg7 harg7 arg8 harg8 x4 x6 x7 hil SV g j
    · exact fac_256 c arg5 harg5 arg7 harg7 arg8 harg8 x4 x6 x7 hil SV g j
    · exact fac_512 c arg5 harg5 arg7 harg7 arg8 harg8 x4 x6 x7 hil SV g j
    · exact fac_768 c arg5 harg5 arg7 harg7 arg8 harg8 x4 x6 x7 hil SV g j
    · exact fac_1024 c arg5 harg5 arg7 harg7 arg8 harg8 x4 x6 x7 hil SV g j
    · exact fac_1280 c arg5 harg5 arg7 harg7 arg8 harg8 x4 x6 x7 hil SV g j
    · exact fac_1536 c arg5 harg5 arg7 harg7 arg8 harg8 x4 x6 x7 hil SV g j
    · exact fac_1792 c arg5 harg5 arg7 harg7 arg8 harg8 x4 x6 x7 hil SV g j
    · exact fac_2048 c arg5 harg5 arg7 harg7 arg8 harg8 x4 x6 x7 hil SV g j
    · exact fac_2304 c arg5 harg5 arg7 harg7 arg8 harg8 x4 x6 x7 hil SV g j
    · exact fac_2560 c arg5 harg5 arg7 harg7 arg8 harg8 x4 x6 x7 hil SV g j
    · exact fac_2816 c arg5 harg5 arg7 harg7 arg8 harg8 x4 x6 x7 hil SV g j
    · exact fac_3072 c arg5 harg5 arg7 harg7 arg8 harg8 x4 x6 x7 hil SV g j
    · exact fac_3328 c arg5 harg5 arg7 harg7 arg8 harg8 x4 x6 x7 hil SV g j
    · exact fac_3584 c arg5 harg5 arg7 harg7 arg8 harg8 x4 x6 x7 hil SV g j
    · exact fac_3840 c arg5 harg5 arg7 harg7 arg8 harg8 x4 x6 x7 hil SV g j
  realB := by
    intro i g j
    fin_cases i
    · exact fac_4096 c arg5 harg5 arg7 harg7 arg8 harg8 x4 x6 x7 hil SV g j
    · exact fac_4352 c arg5 harg5 arg7 harg7 arg8 harg8 x4 x6 x7 hil SV g j
    · exact fac_4608 c arg5 harg5 arg7 harg7 arg8 harg8 x4 x6 x7 hil SV g j
    · exact fac_4864 c arg5 harg5 arg7 harg7 arg8 harg8 x4 x6 x7 hil SV g j
    · exact fac_5120 c arg5 harg5 arg7 harg7 arg8 harg8 x4 x6 x7 hil SV g j
    · exact fac_5376 c arg5 harg5 arg7 harg7 arg8 harg8 x4 x6 x7 hil SV g j
    · exact fac_5632 c arg5 harg5 arg7 harg7 arg8 harg8 x4 x6 x7 hil SV g j
    · exact fac_5888 c arg5 harg5 arg7 harg7 arg8 harg8 x4 x6 x7 hil SV g j
    · exact fac_6144 c arg5 harg5 arg7 harg7 arg8 harg8 x4 x6 x7 hil SV g j
    · exact fac_6400 c arg5 harg5 arg7 harg7 arg8 harg8 x4 x6 x7 hil SV g j
    · exact fac_6656 c arg5 harg5 arg7 harg7 arg8 harg8 x4 x6 x7 hil SV g j
    · exact fac_6912 c arg5 harg5 arg7 harg7 arg8 harg8 x4 x6 x7 hil SV g j
    · exact fac_7168 c arg5 harg5 arg7 harg7 arg8 harg8 x4 x6 x7 hil SV g j
    · exact fac_7424 c arg5 harg5 arg7 harg7 arg8 harg8 x4 x6 x7 hil SV g j
    · exact fac_7680 c arg5 harg5 arg7 harg7 arg8 harg8 x4 x6 x7 hil SV g j
    · exact fac_7936 c arg5 harg5 arg7 harg7 arg8 harg8 x4 x6 x7 hil SV g j
  first := by
    intro i g j d
    fin_cases i
    · exact value_0 c arg5 harg5 arg6 harg6 arg7 harg7 arg8 harg8 x4 x5 x6 x7 hil SV g j d
    · exact value_256 c arg5 harg5 arg6 harg6 arg7 harg7 arg8 harg8 x4 x5 x6 x7 hil SV g j d
    · exact value_512 c arg5 harg5 arg6 harg6 arg7 harg7 arg8 harg8 x4 x5 x6 x7 hil SV g j d
    · exact value_768 c arg5 harg5 arg6 harg6 arg7 harg7 arg8 harg8 x4 x5 x6 x7 hil SV g j d
    · exact value_1024 c arg5 harg5 arg6 harg6 arg7 harg7 arg8 harg8 x4 x5 x6 x7 hil SV g j d
    · exact value_1280 c arg5 harg5 arg6 harg6 arg7 harg7 arg8 harg8 x4 x5 x6 x7 hil SV g j d
    · exact value_1536 c arg5 harg5 arg6 harg6 arg7 harg7 arg8 harg8 x4 x5 x6 x7 hil SV g j d
    · exact value_1792 c arg5 harg5 arg6 harg6 arg7 harg7 arg8 harg8 x4 x5 x6 x7 hil SV g j d
    · exact value_2048 c arg5 harg5 arg6 harg6 arg7 harg7 arg8 harg8 x4 x5 x6 x7 hil SV g j d
    · exact value_2304 c arg5 harg5 arg6 harg6 arg7 harg7 arg8 harg8 x4 x5 x6 x7 hil SV g j d
    · exact value_2560 c arg5 harg5 arg6 harg6 arg7 harg7 arg8 harg8 x4 x5 x6 x7 hil SV g j d
    · exact value_2816 c arg5 harg5 arg6 harg6 arg7 harg7 arg8 harg8 x4 x5 x6 x7 hil SV g j d
    · exact value_3072 c arg5 harg5 arg6 harg6 arg7 harg7 arg8 harg8 x4 x5 x6 x7 hil SV g j d
    · exact value_3328 c arg5 harg5 arg6 harg6 arg7 harg7 arg8 harg8 x4 x5 x6 x7 hil SV g j d
    · exact value_3584 c arg5 harg5 arg6 harg6 arg7 harg7 arg8 harg8 x4 x5 x6 x7 hil SV g j d
    · exact value_3840 c arg5 harg5 arg6 harg6 arg7 harg7 arg8 harg8 x4 x5 x6 x7 hil SV g j d
  second := by
    intro i g j d
    fin_cases i
    · exact value_4096 c arg5 harg5 arg6 harg6 arg7 harg7 arg8 harg8 x4 x5 x6 x7 hil SV g j d
    · exact value_4352 c arg5 harg5 arg6 harg6 arg7 harg7 arg8 harg8 x4 x5 x6 x7 hil SV g j d
    · exact value_4608 c arg5 harg5 arg6 harg6 arg7 harg7 arg8 harg8 x4 x5 x6 x7 hil SV g j d
    · exact value_4864 c arg5 harg5 arg6 harg6 arg7 harg7 arg8 harg8 x4 x5 x6 x7 hil SV g j d
    · exact value_5120 c arg5 harg5 arg6 harg6 arg7 harg7 arg8 harg8 x4 x5 x6 x7 hil SV g j d
    · exact value_5376 c arg5 harg5 arg6 harg6 arg7 harg7 arg8 harg8 x4 x5 x6 x7 hil SV g j d
    · exact value_5632 c arg5 harg5 arg6 harg6 arg7 harg7 arg8 harg8 x4 x5 x6 x7 hil SV g j d
    · exact value_5888 c arg5 harg5 arg6 harg6 arg7 harg7 arg8 harg8 x4 x5 x6 x7 hil SV g j d
    · exact value_6144 c arg5 harg5 arg6 harg6 arg7 harg7 arg8 harg8 x4 x5 x6 x7 hil SV g j d
    · exact value_6400 c arg5 harg5 arg6 harg6 arg7 harg7 arg8 harg8 x4 x5 x6 x7 hil SV g j d
    · exact value_6656 c arg5 harg5 arg6 harg6 arg7 harg7 arg8 harg8 x4 x5 x6 x7 hil SV g j d
    · exact value_6912 c arg5 harg5 arg6 harg6 arg7 harg7 arg8 harg8 x4 x5 x6 x7 hil SV g j d
    · exact value_7168 c arg5 harg5 arg6 harg6 arg7 harg7 arg8 harg8 x4 x5 x6 x7 hil SV g j d
    · exact value_7424 c arg5 harg5 arg6 harg6 arg7 harg7 arg8 harg8 x4 x5 x6 x7 hil SV g j d
    · exact value_7680 c arg5 harg5 arg6 harg6 arg7 harg7 arg8 harg8 x4 x5 x6 x7 hil SV g j d
    · exact value_7936 c arg5 harg5 arg6 harg6 arg7 harg7 arg8 harg8 x4 x5 x6 x7 hil SV g j d

theorem finRange16 : List.finRange 16 = [0, 1, 2, 3, 4, 5, 6, 7, 8, 9, 10, 11, 12, 13, 14, 15] := by decide

theorem max_eq : (kernelRun0_A.sl.r_141 (F := Ideal) c arg1 harg1 arg2 harg2 arg4 harg4 arg5 harg5 arg7 harg7 arg8 harg8 x0 x1 x3 x4 x6 x7)
    = (inOrder (keysA c arg1 harg1 arg4 harg4 arg5 harg5 arg7 harg7 arg8 harg8 x0 x3 x4 x6 x7) (keysB c arg1 harg1 arg4 harg4 arg5 harg5 arg7 harg7 arg8 harg8 x0 x3 x4 x6 x7)).foldl maxStep (kernelRun0_A.sl.r_138 (F := Ideal) c arg1 harg1 arg2 harg2 x0 x1) := by
  rw [inOrder, finRange16]
  exact r_141_eq (F := Ideal) c arg1 harg1 arg2 harg2 arg4 harg4 arg5 harg5 arg7 harg7 arg8 harg8 x0 x1 x3 x4 x6 x7

theorem weight_eq : (kernelRun0_A.sl.r_145 (F := Ideal) c arg1 harg1 arg2 harg2 arg4 harg4 arg5 harg5 arg7 harg7 arg8 harg8 x0 x1 x3 x4 x6 x7)
    = newWeight (keysA c arg1 harg1 arg4 harg4 arg5 harg5 arg7 harg7 arg8 harg8 x0 x3 x4 x6 x7) (keysB c arg1 harg1 arg4 harg4 arg5 harg5 arg7 harg7 arg8 harg8 x0 x3 x4 x6 x7) (kernelRun0_A.sl.r_138 (F := Ideal) c arg1 harg1 arg2 harg2 x0 x1) := by
  rw [newWeight, ← max_eq]
  exact r_145_eq (F := Ideal) c arg1 harg1 arg2 harg2 arg4 harg4 arg5 harg5 arg7 harg7 arg8 harg8 x0 x1 x3 x4 x6 x7

theorem sums_eq : (kernelRun0_A.sl.r_264 (F := Ideal) c arg1 harg1 arg2 harg2 arg4 harg4 arg5 harg5 arg7 harg7 arg8 harg8 x0 x1 x3 x4 x6 x7)
    = laneSums (keysA c arg1 harg1 arg4 harg4 arg5 harg5 arg7 harg7 arg8 harg8 x0 x3 x4 x6 x7) (keysB c arg1 harg1 arg4 harg4 arg5 harg5 arg7 harg7 arg8 harg8 x0 x3 x4 x6 x7) (kernelRun0_A.sl.r_138 (F := Ideal) c arg1 harg1 arg2 harg2 x0 x1) := by
  rw [laneSums, finRange16, ← max_eq, ← weight_eq]
  simp only [List.foldl_cons, List.foldl_nil]
  rw [r_264_eq, r_255_eq, r_248_eq, r_239_eq, r_232_eq, r_223_eq, r_217_eq, r_208_eq, r_203_eq, r_194_eq, r_189_eq, r_177_eq, r_172_eq, r_162_eq, r_157_eq, r_147_eq, r_144_eq]
  rfl

theorem numer_eq : (kernelRun0_A.sl.r_271 (F := Ideal) c arg1 harg1 arg2 harg2 arg3 harg3 arg4 harg4 arg5 harg5 arg6 harg6 arg7 harg7 arg8 harg8 x0 x1 x2 x3 x4 x5 x6 x7)
    = numer (accNew (threeRows (extractStridedSlice S32x128 ![0, 0] headMask slices_S32x256_o0_0_S32x128)
        (newWeight (keysA c arg1 harg1 arg4 harg4 arg5 harg5 arg7 harg7 arg8 harg8 x0 x3 x4 x6 x7) (keysB c arg1 harg1 arg4 harg4 arg5 harg5 arg7 harg7 arg8 harg8 x0 x3 x4 x6 x7) (kernelRun0_A.sl.r_138 (F := Ideal) c arg1 harg1 arg2 harg2 x0 x1))) (newRows (kernelRun0_A.sl.r_6 (F := Ideal) c arg3 harg3 x2) (kernelRun0_A.sl.r_4 (F := Ideal) c arg3 harg3 x2)))
      (accs (keysA c arg1 harg1 arg4 harg4 arg5 harg5 arg7 harg7 arg8 harg8 x0 x3 x4 x6 x7) (keysB c arg1 harg1 arg4 harg4 arg5 harg5 arg7 harg7 arg8 harg8 x0 x3 x4 x6 x7) (kernelRun0_A.sl.r_138 (F := Ideal) c arg1 harg1 arg2 harg2 x0 x1)
        (facA c arg5 harg5 arg7 harg7 arg8 harg8 x4 x6 x7) (facB c arg5 harg5 arg7 harg7 arg8 harg8 x4 x6 x7)
        (valA c arg6 harg6 arg7 harg7 x5 x6) (valB c arg6 harg6 arg7 harg7 x5 x6)) := by
  rw [accs, finRange16, ← max_eq, ← weight_eq]
  simp only [List.foldl_cons, List.foldl_nil]
  rw [r_271_eq, r_262_eq, r_254_eq, r_246_eq, r_238_eq, r_230_eq, r_222_eq, r_214_eq, r_207_eq, r_200_eq, r_193_eq, r_184_eq, r_176_eq, r_167_eq, r_161_eq, r_152_eq, r_144_eq, r_65_eq]
  rfl

end Cert.KernelIdeal.Attn

end
-- ==== Proof.Attn.Quant.lean ====
/-
  The quantisation of a row: its largest magnitude over 127 as the scale, the entries over the scale rounded to integers
  between -127 and 127.
-/
module

public import proofs.«01_k».proof.Proof.Attn.Mix

@[expose] public section

set_option synthInstance.maxSize 4096
set_option maxRecDepth 16384

noncomputable section

namespace Cert.KernelIdeal.Attn

open Idealize.ShloMosaic Idealize.ShloMosaic.TcCoe Idealize.SL.Sem Cert.KernelIdeal.Gen

/-- The largest magnitude of a row. -/
def qmax (w : Fin 128 → EReal) : EReal :=
  Finset.univ.fold max (Ideal.ofBits .f32 0xFF800000#32) fun d => (FloatOps.absf (F := Ideal) (φ := .f32) (w d) : EReal)

/-- The scale of a row. -/
def qscale (w : Fin 128 → EReal) : EReal :=
  if 0 < qmax w then Ideal.div (qmax w) (Ideal.ofBits .f32 0x42FE0000#32) else 1

/-- An entry of the row as an integer, still a float. -/
def qcode (w : Fin 128 → EReal) (d : Fin 128) : EReal :=
  min (Ideal.ofBits .f32 0x42FE0000#32)
    (max (Ideal.ofBits .f32 0xC2FE0000#32) (Ideal.liftRound Ideal.roundHalfEven (Ideal.div (w d) (qscale w))))

theorem ofBits_127 : Ideal.ofBits .f32 0x42FE0000#32 = ((127 : ℝ) : EReal) := by
  simp [Ideal.ofBits, Ideal.ieee, -EReal.coe_mul]; norm_num

theorem ofBits_neg127 : Ideal.ofBits .f32 0xC2FE0000#32 = ((-127 : ℝ) : EReal) := by
  simp [Ideal.ofBits, Ideal.ieee, -EReal.coe_mul]; norm_num

theorem clamp_int (x : EReal) : ∃ k : ℤ, -127 ≤ k ∧ k ≤ 127 ∧
    min (((127 : ℝ) : EReal)) (max ((-127 : ℝ) : EReal) (Ideal.liftRound Ideal.roundHalfEven x)) = (((k : ℝ)) : EReal) := by
  induction x with
  | bot => exact ⟨-127, by omega, by omega, by
      rw [Ideal.liftRound_bot, max_eq_left bot_le, min_eq_right (EReal.coe_le_coe_iff.mpr (by norm_num))]; norm_num⟩
  | top => exact ⟨127, by omega, by omega, by
      rw [Ideal.liftRound_top, max_eq_right le_top, min_eq_left le_top]; norm_num⟩
  | coe r =>
    refine ⟨min 127 (max (-127) (Ideal.roundHalfEven r)), by omega, by omega, ?_⟩
    rw [Ideal.liftRound_coe]
    have hm : Monotone ((↑) : ℝ → EReal) := EReal.coe_strictMono.monotone
    rw [← hm.map_max, ← hm.map_min]
    push_cast
    rfl

theorem qcode_int (w : Fin 128 → EReal) (d : Fin 128) :
    ∃ k : ℤ, -127 ≤ k ∧ k ≤ 127 ∧ qcode w d = (((k : ℝ)) : EReal) := by
  unfold qcode
  rw [ofBits_127, ofBits_neg127]
  exact clamp_int _

theorem toIntClamped_int {lo hi k : ℤ} (h1 : lo ≤ k) (h2 : k ≤ hi) :
    Ideal.toIntClamped lo hi (((k : ℝ)) : EReal) = k := by
  rw [Ideal.toIntClamped_coe]
  simp
  omega

theorem fptosi_int (w : Nat) {k : ℤ} (h1 : -((2 ^ (w - 1) : Nat) : ℤ) ≤ k) (h2 : k ≤ ((2 ^ (w - 1) : Nat) : ℤ) - 1) :
    (FloatOps.fptosi (F := Ideal) (φ := .f32) w ((((k : ℝ)) : EReal)) : BitVec w) = BitVec.ofInt w k := by
  show BitVec.ofInt w (Ideal.toIntClamped _ _ _) = _
  rw [toIntClamped_int h1 h2]

/-- The code of an entry. -/
def qbits (w : Fin 128 → EReal) (d : Fin 128) : BitVec 8 :=
  FloatOps.fptosi (F := Ideal) (φ := .f32) 8 (qcode w d)

/-- Through thirty-two bits the code is the same. -/
theorem qbits_eq (w : Fin 128 → EReal) (d : Fin 128) :
    (FloatOps.fptosi (F := Ideal) (φ := .f32) 32 (qcode w d) : BitVec 32).setWidth 8 = qbits w d := by
  obtain ⟨k, h1, h2, e⟩ := qcode_int w d
  unfold qbits
  rw [e, fptosi_int 8 (by norm_num; omega) (by norm_num; omega), fptosi_int 32 (by norm_num; omega) (by norm_num; omega)]
  apply BitVec.eq_of_toInt_eq
  interval_cases k <;> rfl

/-- The code as a float again. -/
theorem qbits_toInt (w : Fin 128 → EReal) (d : Fin 128) : ((((qbits w d).toInt : ℤ) : ℝ) : EReal) = qcode w d := by
  obtain ⟨k, h1, h2, e⟩ := qcode_int w d
  unfold qbits
  rw [e, fptosi_int 8 (by norm_num; omega) (by norm_num; omega)]
  have : (BitVec.ofInt 8 k).toInt = k := by interval_cases k <;> rfl
  rw [this]

theorem pay4_apply (x : Vec Ideal S1x4x128 .bf16) (h : Fin 4) :
    k0_pay4 x (ix2 h 0) = qscale fun d => x (ix3 0 h d) := by
  pointwise [k0_pay4, k0_pay3]
  rfl

theorem pay5_apply (x : Vec Ideal S1x4x128 .bf16) (h : Fin 4) (d : Fin 128) :
    k0_pay5 x (ix2 h d) = qcode (fun d => x (ix3 0 h d)) d := by
  pointwise [k0_pay5, k0_pay3]
  rw [pay4_apply]
  rfl

end Cert.KernelIdeal.Attn

end
-- ==== Proof.Attn.Out.lean ====
/-
  The five blocks one grid point writes, entry by entry: the weighted mean of the values, and the new keys' and values'
  codes and scales.
-/
module

public import proofs.«01_k».proof.Proof.Attn.Block
public import proofs.«01_k».proof.Proof.Attn.Quant
public import Idealize.ShloMosaic.Lib.VecWindow
public import proofs.«01_k».proof.Proof.Gen.KernelIdeal.Frame

@[expose] public section

set_option synthInstance.maxSize 4096
set_option maxRecDepth 16384

noncomputable section

namespace Cert.KernelIdeal.Attn

open Idealize.ShloMosaic Idealize.ShloMosaic.TcCoe Idealize.SL.Sem Cert.KernelIdeal.Gen

/-- A row of the new keys or values. -/
def rowN (x : Vec Ideal S1x4x128 .bf16) (h : Nat) (d : Fin 128) : EReal := x (ix3 0 (Fin.ofNat 4 h) d)

theorem rowN_eq (x : Vec Ideal S1x4x128 .bf16) (h : Fin 4) : (fun d => x (ix3 0 h d)) = rowN x h.val := by
  funext d
  unfold rowN
  congr 2
  exact Fin.ext (by simp [Nat.mod_eq_of_lt h.isLt])

/-- The score of the new token for head `h` and its query `g`. -/
def newAt (xq : Vec Ideal S1x32x128 .bf16) (xk : Vec Ideal S1x4x128 .bf16) (h g : Nat) : EReal :=
  (∑ d, rowQ xq (8 * h + g) d * (qcode (rowN xk h) d * qscale (rowN xk h))) * ((smR : ℝ) : EReal)

/-- The new token's value. -/
def newValueAt (xv : Vec Ideal S1x4x128 .bf16) (h : Nat) (d : Fin 128) : EReal := qcode (rowN xv h) d * qscale (rowN xv h)

variable (c : Dev nD) (i : grid0.Coords) (arg1 : Memref sig .tc .vmem S1x32x128 .bf16) (harg1 : arg1.IsWhole)
  (arg2 : Memref sig .tc .vmem S1x4x128 .bf16) (harg2 : arg2.IsWhole)
  (arg3 : Memref sig .tc .vmem S1x4x128 .bf16) (harg3 : arg3.IsWhole)
  (arg4 : Memref sig .tc .vmem S1x8192x128 .i8) (harg4 : arg4.IsWhole)
  (arg5 : Memref sig .tc .vmem S1x64x128 .f32) (harg5 : arg5.IsWhole)
  (arg6 : Memref sig .tc .vmem S1x8192x128 .i8) (harg6 : arg6.IsWhole)
  (arg7 : Memref sig .tc .vmem S1x64x128 .f32) (harg7 : arg7.IsWhole)
  (arg8 : Memref sig .tc .vmem S512x512 .bf16) (harg8 : arg8.IsWhole)
  (arg9 : Memref sig .tc .vmem S1x32x128 .bf16) (harg9 : arg9.IsWhole)
  (arg10 : Memref sig .tc .vmem S1x4x128 .i8) (harg10 : arg10.IsWhole)
  (arg11 : Memref sig .tc .vmem S1x4x128 .f32) (harg11 : arg11.IsWhole)
  (arg12 : Memref sig .tc .vmem S1x4x128 .i8) (harg12 : arg12.IsWhole)
  (arg13 : Memref sig .tc .vmem S1x4x128 .f32) (harg13 : arg13.IsWhole)
  (x0 : Vec Ideal S1x32x128 .bf16) (x1 x2 : Vec Ideal S1x4x128 .bf16) (x3 : Vec Ideal S1x8192x128 .i8)
  (x4 : Vec Ideal S1x64x128 .f32) (x5 : Vec Ideal S1x8192x128 .i8) (x6 : Vec Ideal S1x64x128 .f32) (x7 : Vec Ideal S512x512 .bf16)

variable {NK NV : Nat → Nat → Nat}

theorem loadQ_eq : loadQ arg1 harg1 x0 = x0 := whole_q arg1 harg1 x0 _

theorem loadIl_eq : loadIl arg8 harg8 x7 = x7 := whole_il arg8 harg8 x7 _

theorem new_2_eq : (kernelRun0_A.sl.r_2 (F := Ideal) c arg2 harg2 x1) = k0_pay4 x1 := by
  conv_rhs => rw [← whole_new arg2 harg2 x1 inb_S1x4x128_S1x4x128_0_0_0]
  rfl

theorem new_3_eq : (kernelRun0_A.sl.r_3 (F := Ideal) c arg2 harg2 x1) = k0_pay5 x1 := by
  conv_rhs => rw [← whole_new arg2 harg2 x1 inb_S1x4x128_S1x4x128_0_0_0]
  rfl

theorem new_4_eq : (kernelRun0_A.sl.r_4 (F := Ideal) c arg3 harg3 x2) = k0_pay7 x2 := by
  conv_rhs => rw [← whole_new arg3 harg3 x2 inb_S1x4x128_S1x4x128_0_0_0]
  rfl

theorem new_5_eq : (kernelRun0_A.sl.r_5 (F := Ideal) c arg3 harg3 x2) = k0_pay8 x2 := by
  conv_rhs => rw [← whole_new arg3 harg3 x2 inb_S1x4x128_S1x4x128_0_0_0]
  rfl

theorem new_6_eq : (kernelRun0_A.sl.r_6 (F := Ideal) c arg3 harg3 x2) = k0_pay9 (k0_pay8 x2) := by
  rw [← new_5_eq c arg3 harg3 x2]
  rfl

theorem pay7_eq (x : Vec Ideal S1x4x128 .bf16) : k0_pay7 x = k0_pay4 x := (rfl)

theorem pay9_eq (x : Vec Ideal S1x4x128 .bf16) : k0_pay9 (k0_pay8 x) = k0_pay5 x := (rfl)

theorem tiles_eq (hil : Interleaves x7) (SK : Scales (loadS arg5 harg5 x4) NK) :
    Tiles (keysA c arg1 harg1 arg4 harg4 arg5 harg5 arg7 harg7 arg8 harg8 x0 x3 x4 x6 x7) (keysB c arg1 harg1 arg4 harg4 arg5 harg5 arg7 harg7 arg8 harg8 x0 x3 x4 x6 x7)
      (kernelRun0_A.sl.r_138 (F := Ideal) c arg1 harg1 arg2 harg2 x0 x1) (scoreAt x0 x3 NK) (newAt x0 x1) where
  first := by
    have h := keysA_apply c arg1 harg1 arg4 harg4 arg5 harg5 arg7 harg7 arg8 harg8 x0 x3 x4 x6 x7 (by rw [loadIl_eq]; exact hil) SK
    rw [loadQ_eq] at h
    exact h
  second := by
    have h := keysB_apply c arg1 harg1 arg4 harg4 arg5 harg5 arg7 harg7 arg8 harg8 x0 x3 x4 x6 x7 (by rw [loadIl_eq]; exact hil) SK
    rw [loadQ_eq] at h
    exact h
  new := by
    intro g j
    rw [r_138_eq, new_3_eq, new_2_eq]
    have e : kernelRun0_A.sl.r (F := Ideal) c arg1 harg1 x0 = k0_pay1 x0 := by
      conv_rhs => rw [← loadQ_eq arg1 harg1 x0]
      rfl
    rw [e]
    refine (newScore_apply x0 _ _ g j).trans ?_
    by_cases hj : j.val < 4
    · rw [dif_pos hj, if_pos hj]
      unfold newAt
      congr 1
      refine Finset.sum_congr rfl fun d _ => ?_
      rw [pay5_apply, pay4_apply, rowN_eq]
      exact congrArg (· * _) (rowQ_eq x0 _ _ d)
    · rw [dif_neg hj, if_neg hj]

theorem newValues_eq : NewValues (newRows (kernelRun0_A.sl.r_6 (F := Ideal) c arg3 harg3 x2) (kernelRun0_A.sl.r_4 (F := Ideal) c arg3 harg3 x2)) (newValueAt x2) where
  eq := by
    intro x d
    rw [new_6_eq, new_4_eq, pay9_eq, pay7_eq]
    by_cases hx : x.val < 4
    · rw [if_pos hx]
      refine (newRows_apply _ _ ⟨x.val, hx⟩ x rfl d).trans ?_
      rw [pay5_apply, pay4_apply, rowN_eq]
      rfl
    · rw [if_neg hx]
      exact newRows_zero _ _ x (by omega) d

theorem out8_eq : (out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)
    = shapeCast S1x32x128 (truncf .bf16 (quotient (kernelRun0_A.sl.r_264 (F := Ideal) c arg1 harg1 arg2 harg2 arg4 harg4 arg5 harg5 arg7 harg7 arg8 harg8 x0 x1 x3 x4 x6 x7) (kernelRun0_A.sl.r_271 (F := Ideal) c arg1 harg1 arg2 harg2 arg3 harg3 arg4 harg4 arg5 harg5 arg6 harg6 arg7 harg7 arg8 harg8 x0 x1 x2 x3 x4 x5 x6 x7)) bitsLt_bf16_f32) shapeCasts_S32x128_S1x32x128 := by
  unfold out0_A_8
  exact View.read_writes_full _ _ _ _ _

theorem out9_eq : (out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) = k0_pay10 (kernelRun0_A.sl.r_3 (F := Ideal) c arg2 harg2 x1) := by
  unfold out0_A_9
  exact View.read_writes_full _ _ _ _ _

theorem out10_eq : (out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) = k0_pay12 (kernelRun0_A.sl.r_2 (F := Ideal) c arg2 harg2 x1) := by
  unfold out0_A_10
  exact View.read_writes_full _ _ _ _ _

theorem out11_eq : (out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) = k0_pay11 (kernelRun0_A.sl.r_5 (F := Ideal) c arg3 harg3 x2) := by
  unfold out0_A_11
  exact View.read_writes_full _ _ _ _ _

theorem out12_eq : (out0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) = k0_pay13 (kernelRun0_A.sl.r_4 (F := Ideal) c arg3 harg3 x2) := by
  unfold out0_A_12
  exact View.read_writes_full _ _ _ _ _

theorem out8_apply (hil : Interleaves x7) (SK : Scales (loadS arg5 harg5 x4) NK) (SV : Scales (loadS arg7 harg7 x6) NV)
    (h : Nat) (hh : h < 4) (g : Fin 8) (d : Fin 128) :
    (out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) (ix3 0 ⟨8 * h + g.val, by omega⟩ d)
      = Ideal.div (mix (scoreAt x0 x3 NK h g.val) (newAt x0 x1 h g.val) (fun t => valueAt x5 NV h t d) (newValueAt x2 h d))
          (total (scoreAt x0 x3 NK h g.val) (newAt x0 x1 h g.val)) := by
  rw [out8_eq]
  pointwise
  rw [sums_eq, numer_eq]
  exact quotient_apply (tiles_eq c arg1 harg1 arg2 harg2 arg4 harg4 arg5 harg5 arg7 harg7 arg8 harg8 x0 x1 x3 x4 x6 x7 hil SK)
    (values_eq c arg5 harg5 arg6 harg6 arg7 harg7 arg8 harg8 x4 x5 x6 x7 (by rw [loadIl_eq]; exact hil) SV)
    (newValues_eq c arg3 harg3 x2) h hh g d

theorem out9_apply (h : Fin 4) (d : Fin 128) : (out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) (ix3 0 h d) = qbits (rowN x1 h.val) d := by
  rw [out9_eq, new_3_eq]
  pointwise [k0_pay10]
  rw [pay5_apply, rowN_eq]
  rfl

theorem out10_apply (h : Fin 4) (d : Fin 128) : (out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) (ix3 0 h d) = qscale (rowN x1 h.val) := by
  rw [out10_eq, new_2_eq]
  pointwise [k0_pay12]
  rw [pay4_apply, rowN_eq]

theorem out11_apply (h : Fin 4) (d : Fin 128) : (out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) (ix3 0 h d) = qbits (rowN x2 h.val) d := by
  rw [out11_eq, new_5_eq]
  pointwise [k0_pay11]
  rw [pay9_eq, pay5_apply, rowN_eq]
  rfl

theorem out12_apply (h : Fin 4) (d : Fin 128) : (out0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7) (ix3 0 h d) = qscale (rowN x2 h.val) := by
  rw [out12_eq, new_4_eq, pay7_eq]
  pointwise [k0_pay13]
  rw [pay4_apply, rowN_eq]

end Cert.KernelIdeal.Attn

end
-- ==== Proof.Attn.Blocks.lean ====
/-
  The arrays the grid writes, block by block, and the blocks it reads, in terms of the arguments.
-/
module

public import proofs.«01_k».proof.Proof.Attn.Out
public import Idealize.ShloMosaic.Lib.Pipeline.Value
public import Idealize.ShloMosaic.Lib.StableHlo.ReadAt

@[expose] public section

set_option synthInstance.maxSize 4096
set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem off0 : ∀ t : Fin cfg0.N, win0_0.index t 0 * win0_0.size 0 = t.val ∧ win0_0.index t 1 * win0_0.size 1 = 0 ∧ win0_0.index t 2 * win0_0.size 2 = 0 :=
  (by decide +kernel : ∀ t : Fin grid0.N, win0_0.index t 0 * win0_0.size 0 = t.val ∧ win0_0.index t 1 * win0_0.size 1 = 0 ∧ win0_0.index t 2 * win0_0.size 2 = 0)

theorem place0 (t : Fin cfg0.N) (r : Fin 32) (d : Fin 128) :
    ((cfg0.win 0).blk t).view.emb (ix3 (0 : Fin 1) r d) = (ix3 t r d : S32x32x128.Idx) := by
  funext a
  fin_cases a <;> apply Fin.ext
  · have := (off0 t).1
    show win0_0.index t 0 * win0_0.size 0 + 1 * 0 = t.val
    omega
  · have := (off0 t).2.1
    show win0_0.index t 1 * win0_0.size 1 + 1 * r.val = r.val
    omega
  · have := (off0 t).2.2
    show win0_0.index t 2 * win0_0.size 2 + 1 * d.val = d.val
    omega

theorem off1 : ∀ t : Fin cfg0.N, win0_1.index t 0 * win0_1.size 0 = t.val ∧ win0_1.index t 1 * win0_1.size 1 = 0 ∧ win0_1.index t 2 * win0_1.size 2 = 0 :=
  (by decide +kernel : ∀ t : Fin grid0.N, win0_1.index t 0 * win0_1.size 0 = t.val ∧ win0_1.index t 1 * win0_1.size 1 = 0 ∧ win0_1.index t 2 * win0_1.size 2 = 0)

theorem place1 (t : Fin cfg0.N) (r : Fin 4) (d : Fin 128) :
    ((cfg0.win 1).blk t).view.emb (ix3 (0 : Fin 1) r d) = (ix3 t r d : S32x4x128.Idx) := by
  funext a
  fin_cases a <;> apply Fin.ext
  · have := (off1 t).1
    show win0_1.index t 0 * win0_1.size 0 + 1 * 0 = t.val
    omega
  · have := (off1 t).2.1
    show win0_1.index t 1 * win0_1.size 1 + 1 * r.val = r.val
    omega
  · have := (off1 t).2.2
    show win0_1.index t 2 * win0_1.size 2 + 1 * d.val = d.val
    omega

theorem off2 : ∀ t : Fin cfg0.N, win0_2.index t 0 * win0_2.size 0 = t.val ∧ win0_2.index t 1 * win0_2.size 1 = 0 ∧ win0_2.index t 2 * win0_2.size 2 = 0 :=
  (by decide +kernel : ∀ t : Fin grid0.N, win0_2.index t 0 * win0_2.size 0 = t.val ∧ win0_2.index t 1 * win0_2.size 1 = 0 ∧ win0_2.index t 2 * win0_2.size 2 = 0)

theorem place2 (t : Fin cfg0.N) (r : Fin 4) (d : Fin 128) :
    ((cfg0.win 2).blk t).view.emb (ix3 (0 : Fin 1) r d) = (ix3 t r d : S32x4x128.Idx) := by
  funext a
  fin_cases a <;> apply Fin.ext
  · have := (off2 t).1
    show win0_2.index t 0 * win0_2.size 0 + 1 * 0 = t.val
    omega
  · have := (off2 t).2.1
    show win0_2.index t 1 * win0_2.size 1 + 1 * r.val = r.val
    omega
  · have := (off2 t).2.2
    show win0_2.index t 2 * win0_2.size 2 + 1 * d.val = d.val
    omega

theorem off3 : ∀ t : Fin cfg0.N, win0_3.index t 0 * win0_3.size 0 = t.val ∧ win0_3.index t 1 * win0_3.size 1 = 0 ∧ win0_3.index t 2 * win0_3.size 2 = 0 :=
  (by decide +kernel : ∀ t : Fin grid0.N, win0_3.index t 0 * win0_3.size 0 = t.val ∧ win0_3.index t 1 * win0_3.size 1 = 0 ∧ win0_3.index t 2 * win0_3.size 2 = 0)

theorem place3 (t : Fin cfg0.N) (r : Fin 8192) (d : Fin 128) :
    ((cfg0.win 3).blk t).view.emb (ix3 (0 : Fin 1) r d) = (ix3 t r d : S32x8192x128.Idx) := by
  funext a
  fin_cases a <;> apply Fin.ext
  · have := (off3 t).1
    show win0_3.index t 0 * win0_3.size 0 + 1 * 0 = t.val
    omega
  · have := (off3 t).2.1
    show win0_3.index t 1 * win0_3.size 1 + 1 * r.val = r.val
    omega
  · have := (off3 t).2.2
    show win0_3.index t 2 * win0_3.size 2 + 1 * d.val = d.val
    omega

theorem off4 : ∀ t : Fin cfg0.N, win0_4.index t 0 * win0_4.size 0 = t.val ∧ win0_4.index t 1 * win0_4.size 1 = 0 ∧ win0_4.index t 2 * win0_4.size 2 = 0 :=
  (by decide +kernel : ∀ t : Fin grid0.N, win0_4.index t 0 * win0_4.size 0 = t.val ∧ win0_4.index t 1 * win0_4.size 1 = 0 ∧ win0_4.index t 2 * win0_4.size 2 = 0)

theorem place4 (t : Fin cfg0.N) (r : Fin 64) (d : Fin 128) :
    ((cfg0.win 4).blk t).view.emb (ix3 (0 : Fin 1) r d) = (ix3 t r d : S32x64x128.Idx) := by
  funext a
  fin_cases a <;> apply Fin.ext
  · have := (off4 t).1
    show win0_4.index t 0 * win0_4.size 0 + 1 * 0 = t.val
    omega
  · have := (off4 t).2.1
    show win0_4.index t 1 * win0_4.size 1 + 1 * r.val = r.val
    omega
  · have := (off4 t).2.2
    show win0_4.index t 2 * win0_4.size 2 + 1 * d.val = d.val
    omega

theorem off5 : ∀ t : Fin cfg0.N, win0_5.index t 0 * win0_5.size 0 = t.val ∧ win0_5.index t 1 * win0_5.size 1 = 0 ∧ win0_5.index t 2 * win0_5.size 2 = 0 :=
  (by decide +kernel : ∀ t : Fin grid0.N, win0_5.index t 0 * win0_5.size 0 = t.val ∧ win0_5.index t 1 * win0_5.size 1 = 0 ∧ win0_5.index t 2 * win0_5.size 2 = 0)

theorem place5 (t : Fin cfg0.N) (r : Fin 8192) (d : Fin 128) :
    ((cfg0.win 5).blk t).view.emb (ix3 (0 : Fin 1) r d) = (ix3 t r d : S32x8192x128.Idx) := by
  funext a
  fin_cases a <;> apply Fin.ext
  · have := (off5 t).1
    show win0_5.index t 0 * win0_5.size 0 + 1 * 0 = t.val
    omega
  · have := (off5 t).2.1
    show win0_5.index t 1 * win0_5.size 1 + 1 * r.val = r.val
    omega
  · have := (off5 t).2.2
    show win0_5.index t 2 * win0_5.size 2 + 1 * d.val = d.val
    omega

theorem off6 : ∀ t : Fin cfg0.N, win0_6.index t 0 * win0_6.size 0 = t.val ∧ win0_6.index t 1 * win0_6.size 1 = 0 ∧ win0_6.index t 2 * win0_6.size 2 = 0 :=
  (by decide +kernel : ∀ t : Fin grid0.N, win0_6.index t 0 * win0_6.size 0 = t.val ∧ win0_6.index t 1 * win0_6.size 1 = 0 ∧ win0_6.index t 2 * win0_6.size 2 = 0)

theorem place6 (t : Fin cfg0.N) (r : Fin 64) (d : Fin 128) :
    ((cfg0.win 6).blk t).view.emb (ix3 (0 : Fin 1) r d) = (ix3 t r d : S32x64x128.Idx) := by
  funext a
  fin_cases a <;> apply Fin.ext
  · have := (off6 t).1
    show win0_6.index t 0 * win0_6.size 0 + 1 * 0 = t.val
    omega
  · have := (off6 t).2.1
    show win0_6.index t 1 * win0_6.size 1 + 1 * r.val = r.val
    omega
  · have := (off6 t).2.2
    show win0_6.index t 2 * win0_6.size 2 + 1 * d.val = d.val
    omega

theorem off8 : ∀ t : Fin cfg0.N, win0_8.index t 0 * win0_8.size 0 = t.val ∧ win0_8.index t 1 * win0_8.size 1 = 0 ∧ win0_8.index t 2 * win0_8.size 2 = 0 :=
  (by decide +kernel : ∀ t : Fin grid0.N, win0_8.index t 0 * win0_8.size 0 = t.val ∧ win0_8.index t 1 * win0_8.size 1 = 0 ∧ win0_8.index t 2 * win0_8.size 2 = 0)

theorem place8 (t : Fin cfg0.N) (r : Fin 32) (d : Fin 128) :
    ((cfg0.win 8).blk t).view.emb (ix3 (0 : Fin 1) r d) = (ix3 t r d : S32x32x128.Idx) := by
  funext a
  fin_cases a <;> apply Fin.ext
  · have := (off8 t).1
    show win0_8.index t 0 * win0_8.size 0 + 1 * 0 = t.val
    omega
  · have := (off8 t).2.1
    show win0_8.index t 1 * win0_8.size 1 + 1 * r.val = r.val
    omega
  · have := (off8 t).2.2
    show win0_8.index t 2 * win0_8.size 2 + 1 * d.val = d.val
    omega

theorem off9 : ∀ t : Fin cfg0.N, win0_9.index t 0 * win0_9.size 0 = t.val ∧ win0_9.index t 1 * win0_9.size 1 = 0 ∧ win0_9.index t 2 * win0_9.size 2 = 0 :=
  (by decide +kernel : ∀ t : Fin grid0.N, win0_9.index t 0 * win0_9.size 0 = t.val ∧ win0_9.index t 1 * win0_9.size 1 = 0 ∧ win0_9.index t 2 * win0_9.size 2 = 0)

theorem place9 (t : Fin cfg0.N) (r : Fin 4) (d : Fin 128) :
    ((cfg0.win 9).blk t).view.emb (ix3 (0 : Fin 1) r d) = (ix3 t r d : S32x4x128.Idx) := by
  funext a
  fin_cases a <;> apply Fin.ext
  · have := (off9 t).1
    show win0_9.index t 0 * win0_9.size 0 + 1 * 0 = t.val
    omega
  · have := (off9 t).2.1
    show win0_9.index t 1 * win0_9.size 1 + 1 * r.val = r.val
    omega
  · have := (off9 t).2.2
    show win0_9.index t 2 * win0_9.size 2 + 1 * d.val = d.val
    omega

theorem off10 : ∀ t : Fin cfg0.N, win0_10.index t 0 * win0_10.size 0 = t.val ∧ win0_10.index t 1 * win0_10.size 1 = 0 ∧ win0_10.index t 2 * win0_10.size 2 = 0 :=
  (by decide +kernel : ∀ t : Fin grid0.N, win0_10.index t 0 * win0_10.size 0 = t.val ∧ win0_10.index t 1 * win0_10.size 1 = 0 ∧ win0_10.index t 2 * win0_10.size 2 = 0)

theorem place10 (t : Fin cfg0.N) (r : Fin 4) (d : Fin 128) :
    ((cfg0.win 10).blk t).view.emb (ix3 (0 : Fin 1) r d) = (ix3 t r d : S32x4x128.Idx) := by
  funext a
  fin_cases a <;> apply Fin.ext
  · have := (off10 t).1
    show win0_10.index t 0 * win0_10.size 0 + 1 * 0 = t.val
    omega
  · have := (off10 t).2.1
    show win0_10.index t 1 * win0_10.size 1 + 1 * r.val = r.val
    omega
  · have := (off10 t).2.2
    show win0_10.index t 2 * win0_10.size 2 + 1 * d.val = d.val
    omega

theorem off11 : ∀ t : Fin cfg0.N, win0_11.index t 0 * win0_11.size 0 = t.val ∧ win0_11.index t 1 * win0_11.size 1 = 0 ∧ win0_11.index t 2 * win0_11.size 2 = 0 :=
  (by decide +kernel : ∀ t : Fin grid0.N, win0_11.index t 0 * win0_11.size 0 = t.val ∧ win0_11.index t 1 * win0_11.size 1 = 0 ∧ win0_11.index t 2 * win0_11.size 2 = 0)

theorem place11 (t : Fin cfg0.N) (r : Fin 4) (d : Fin 128) :
    ((cfg0.win 11).blk t).view.emb (ix3 (0 : Fin 1) r d) = (ix3 t r d : S32x4x128.Idx) := by
  funext a
  fin_cases a <;> apply Fin.ext
  · have := (off11 t).1
    show win0_11.index t 0 * win0_11.size 0 + 1 * 0 = t.val
    omega
  · have := (off11 t).2.1
    show win0_11.index t 1 * win0_11.size 1 + 1 * r.val = r.val
    omega
  · have := (off11 t).2.2
    show win0_11.index t 2 * win0_11.size 2 + 1 * d.val = d.val
    omega

theorem off12 : ∀ t : Fin cfg0.N, win0_12.index t 0 * win0_12.size 0 = t.val ∧ win0_12.index t 1 * win0_12.size 1 = 0 ∧ win0_12.index t 2 * win0_12.size 2 = 0 :=
  (by decide +kernel : ∀ t : Fin grid0.N, win0_12.index t 0 * win0_12.size 0 = t.val ∧ win0_12.index t 1 * win0_12.size 1 = 0 ∧ win0_12.index t 2 * win0_12.size 2 = 0)

theorem place12 (t : Fin cfg0.N) (r : Fin 4) (d : Fin 128) :
    ((cfg0.win 12).blk t).view.emb (ix3 (0 : Fin 1) r d) = (ix3 t r d : S32x4x128.Idx) := by
  funext a
  fin_cases a <;> apply Fin.ext
  · have := (off12 t).1
    show win0_12.index t 0 * win0_12.size 0 + 1 * 0 = t.val
    omega
  · have := (off12 t).2.1
    show win0_12.index t 1 * win0_12.size 1 + 1 * r.val = r.val
    omega
  · have := (off12 t).2.2
    show win0_12.index t 2 * win0_12.size 2 + 1 * d.val = d.val
    omega

theorem off7 : ∀ t : Fin cfg0.N, win0_7.index t 0 * win0_7.size 0 = 0 ∧ win0_7.index t 1 * win0_7.size 1 = 0 :=
  (by decide +kernel : ∀ t : Fin grid0.N, win0_7.index t 0 * win0_7.size 0 = 0 ∧ win0_7.index t 1 * win0_7.size 1 = 0)

theorem place7 (t : Fin cfg0.N) (r d : Fin 512) :
    ((cfg0.win 7).blk t).view.emb (ix2 r d) = (ix2 r d : S512x512.Idx) := by
  funext a
  fin_cases a <;> apply Fin.ext
  · have := (off7 t).1
    show win0_7.index t 0 * win0_7.size 0 + 1 * r.val = r.val
    omega
  · have := (off7 t).2
    show win0_7.index t 1 * win0_7.size 1 + 1 * d.val = d.val
    omega

theorem entry0 (c : Dev nD) (t : Fin 32) (r : Fin 32) (d : Fin 128) :
    V m c main_v0 (ix3 t r d) = m ((c : Thread nD τ).loc main_arg0) (ix3 t 0 ⟨r.val * 128 + d.val, by omega⟩) := by
  show StableHlo.after hostOps0 (fun b => m (c, b)) (Proc.devRef .tc main_v0) _ = _
  after_reads_at
  try rfl

theorem block0 (c : Dev nD) (t : Fin cfg0.N) (r : Fin 32) (d : Fin 128) :
    iblk m c 0 t (ix3 (0 : Fin 1) r d) = m ((c : Thread nD τ).loc main_arg0) (ix3 t 0 ⟨r.val * 128 + d.val, by omega⟩) := by
  show V m c main_v0 (((cfg0.win 0).blk t).view.emb _) = _
  exact (congrArg _ (place0 t r d)).trans (entry0 m c t r d)

theorem entry1 (c : Dev nD) (t : Fin 32) (r : Fin 4) (d : Fin 128) :
    V m c main_v1 (ix3 t r d) = m ((c : Thread nD τ).loc main_arg1) (ix4 t 0 r d) := by
  show StableHlo.after hostOps0 (fun b => m (c, b)) (Proc.devRef .tc main_v1) _ = _
  after_reads_at
  try rfl

theorem block1 (c : Dev nD) (t : Fin cfg0.N) (r : Fin 4) (d : Fin 128) :
    iblk m c 1 t (ix3 (0 : Fin 1) r d) = m ((c : Thread nD τ).loc main_arg1) (ix4 t 0 r d) := by
  show V m c main_v1 (((cfg0.win 1).blk t).view.emb _) = _
  exact (congrArg _ (place1 t r d)).trans (entry1 m c t r d)

theorem entry2 (c : Dev nD) (t : Fin 32) (r : Fin 4) (d : Fin 128) :
    V m c main_v2 (ix3 t r d) = m ((c : Thread nD τ).loc main_arg2) (ix4 t 0 r d) := by
  show StableHlo.after hostOps0 (fun b => m (c, b)) (Proc.devRef .tc main_v2) _ = _
  after_reads_at
  try rfl

theorem block2 (c : Dev nD) (t : Fin cfg0.N) (r : Fin 4) (d : Fin 128) :
    iblk m c 2 t (ix3 (0 : Fin 1) r d) = m ((c : Thread nD τ).loc main_arg2) (ix4 t 0 r d) := by
  show V m c main_v2 (((cfg0.win 2).blk t).view.emb _) = _
  exact (congrArg _ (place2 t r d)).trans (entry2 m c t r d)

theorem entry3 (c : Dev nD) (t : Fin 32) (r : Fin 8192) (d : Fin 128) :
    V m c main_v3 (ix3 t r d) = m ((c : Thread nD τ).loc main_arg3) (ix4 t ⟨r.val / 4, by omega⟩ ⟨r.val % 4, by omega⟩ d) := by
  show StableHlo.after hostOps0 (fun b => m (c, b)) (Proc.devRef .tc main_v3) _ = _
  after_reads_at
  try rfl

theorem block3 (c : Dev nD) (t : Fin cfg0.N) (r : Fin 8192) (d : Fin 128) :
    iblk m c 3 t (ix3 (0 : Fin 1) r d) = m ((c : Thread nD τ).loc main_arg3) (ix4 t ⟨r.val / 4, by omega⟩ ⟨r.val % 4, by omega⟩ d) := by
  show V m c main_v3 (((cfg0.win 3).blk t).view.emb _) = _
  exact (congrArg _ (place3 t r d)).trans (entry3 m c t r d)

theorem entry4 (c : Dev nD) (t : Fin 32) (r : Fin 64) (d : Fin 128) :
    V m c main_v6 (ix3 t r d) = m ((c : Thread nD τ).loc main_arg4) (ix3 t ⟨r.val / 4 * 128 + d.val, by omega⟩ ⟨r.val % 4, by omega⟩) := by
  show StableHlo.after hostOps0 (fun b => m (c, b)) (Proc.devRef .tc main_v6) _ = _
  after_reads_at
  try rfl

theorem block4 (c : Dev nD) (t : Fin cfg0.N) (r : Fin 64) (d : Fin 128) :
    iblk m c 4 t (ix3 (0 : Fin 1) r d) = m ((c : Thread nD τ).loc main_arg4) (ix3 t ⟨r.val / 4 * 128 + d.val, by omega⟩ ⟨r.val % 4, by omega⟩) := by
  show V m c main_v6 (((cfg0.win 4).blk t).view.emb _) = _
  exact (congrArg _ (place4 t r d)).trans (entry4 m c t r d)

theorem entry5 (c : Dev nD) (t : Fin 32) (r : Fin 8192) (d : Fin 128) :
    V m c main_v7 (ix3 t r d) = m ((c : Thread nD τ).loc main_arg5) (ix4 t ⟨r.val / 4, by omega⟩ ⟨r.val % 4, by omega⟩ d) := by
  show StableHlo.after hostOps0 (fun b => m (c, b)) (Proc.devRef .tc main_v7) _ = _
  after_reads_at
  try rfl

theorem block5 (c : Dev nD) (t : Fin cfg0.N) (r : Fin 8192) (d : Fin 128) :
    iblk m c 5 t (ix3 (0 : Fin 1) r d) = m ((c : Thread nD τ).loc main_arg5) (ix4 t ⟨r.val / 4, by omega⟩ ⟨r.val % 4, by omega⟩ d) := by
  show V m c main_v7 (((cfg0.win 5).blk t).view.emb _) = _
  exact (congrArg _ (place5 t r d)).trans (entry5 m c t r d)

theorem entry6 (c : Dev nD) (t : Fin 32) (r : Fin 64) (d : Fin 128) :
    V m c main_v10 (ix3 t r d) = m ((c : Thread nD τ).loc main_arg6) (ix3 t ⟨r.val / 4 * 128 + d.val, by omega⟩ ⟨r.val % 4, by omega⟩) := by
  show StableHlo.after hostOps0 (fun b => m (c, b)) (Proc.devRef .tc main_v10) _ = _
  after_reads_at
  try rfl

theorem block6 (c : Dev nD) (t : Fin cfg0.N) (r : Fin 64) (d : Fin 128) :
    iblk m c 6 t (ix3 (0 : Fin 1) r d) = m ((c : Thread nD τ).loc main_arg6) (ix3 t ⟨r.val / 4 * 128 + d.val, by omega⟩ ⟨r.val % 4, by omega⟩) := by
  show V m c main_v10 (((cfg0.win 6).blk t).view.emb _) = _
  exact (congrArg _ (place6 t r d)).trans (entry6 m c t r d)

theorem lane_code : ∀ x : Fin 512,
    IntOp.addi (IntOp.muli (4#32) (IntOp.remsi ArithUnit.host (BitVec.ofNat 32 x.val) 128#32))
      (IntOp.divsi ArithUnit.host (BitVec.ofNat 32 x.val) 128#32) = BitVec.ofNat 32 (4 * (x.val % 128) + x.val / 128) := by
  decide +kernel

theorem entry7 (c : Dev nD) (x j : Fin 512) :
    V m c main_v22 (ix2 x j) = (if j.val = 4 * (x.val % 128) + x.val / 128 then 1 else 0 : EReal) := by
  show StableHlo.after hostOps0 (fun b => m (c, b)) (Proc.devRef .tc main_v22) _ = _
  after_reads_at
  rw [lane_code]
  have e : IntOp.cmpi CmpIPredicate.eq (BitVec.ofNat 32 j.val) (BitVec.ofNat 32 (4 * (x.val % 128) + x.val / 128))
      = BitVec.ofBool (decide (j.val = 4 * (x.val % 128) + x.val / 128)) := by
    show BitVec.ofBool (BitVec.ofNat 32 j.val == BitVec.ofNat 32 (4 * (x.val % 128) + x.val / 128)) = _
    congr 1
    rw [Bool.eq_iff_iff, beq_iff_eq, decide_eq_true_iff]
    constructor
    · intro h
      have := congrArg BitVec.toNat h
      simp only [BitVec.toNat_ofNat] at this
      omega
    · intro h
      rw [h]
  rw [e]
  by_cases h : j.val = 4 * (x.val % 128) + x.val / 128
  · rw [if_pos h, decide_eq_true h]
    show ((((BitVec.ofBool true).toNat : ℝ)) : EReal) = 1
    simp
  · rw [if_neg h, decide_eq_false h]
    show ((((BitVec.ofBool false).toNat : ℝ)) : EReal) = 0
    simp

theorem block7 (c : Dev nD) (t : Fin cfg0.N) : Interleaves (iblk m c 7 t) := by
  intro x j
  show V m c main_v22 (((cfg0.win 7).blk t).view.emb _) = _
  exact (congrArg _ (place7 t x j)).trans (entry7 m c x j)

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem flushed8 (c : Dev nD) (t : Fin cfg0.N) :
    (dats m 0 c).flushed 8 t = (cfg0.win 8).cut (grid0.coords t) ((outsAt0 m c t).1) := by
  show (cfg0.win 8).cut (grid0.coords t) ((dats m 0 c).after 8 t) = _
  rw [after0_8]

theorem outs8 (c : Dev nD) (t : Fin cfg0.N) : (outsAt0 m c t).1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) := by
  simp only [outsAt0]

theorem final8 (c : Dev nD) (t : Fin cfg0.N) (r : Fin 32) (d : Fin 128) :
    (dats m 0 c).arrAt 8 cfg0.N (ix3 t r d) = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (ix3 0 r d) := by
  have h := congrFun ((dats m 0 c).read_blk_arrAt_eq_flushed 8 disjoint8 cfg0.N t t.isLt (flush0_8 t)) (ix3 (0 : Fin 1) r d)
  rw [flushed8, outs8] at h
  generalize out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) = X at h ⊢
  rw [← place8 t r d]
  exact h

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem flushed9 (c : Dev nD) (t : Fin cfg0.N) :
    (dats m 0 c).flushed 9 t = (cfg0.win 9).cut (grid0.coords t) ((outsAt0 m c t).2.1) := by
  show (cfg0.win 9).cut (grid0.coords t) ((dats m 0 c).after 9 t) = _
  rw [after0_9]

theorem outs9 (c : Dev nD) (t : Fin cfg0.N) : (outsAt0 m c t).2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) := by
  simp only [outsAt0]

theorem final9 (c : Dev nD) (t : Fin cfg0.N) (r : Fin 4) (d : Fin 128) :
    (dats m 0 c).arrAt 9 cfg0.N (ix3 t r d) = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (ix3 0 r d) := by
  have h := congrFun ((dats m 0 c).read_blk_arrAt_eq_flushed 9 disjoint9 cfg0.N t t.isLt (flush0_9 t)) (ix3 (0 : Fin 1) r d)
  rw [flushed9, outs9] at h
  generalize out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) = X at h ⊢
  rw [← place9 t r d]
  exact h

theorem idx_inj10 : ∀ t t' : Fin cfg0.N, win0_10.index t = win0_10.index t' → t = t' :=
  (by decide +kernel : ∀ t t' : Fin grid0.N, win0_10.index t = win0_10.index t' → t = t')

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

theorem flushed10 (c : Dev nD) (t : Fin cfg0.N) :
    (dats m 0 c).flushed 10 t = (cfg0.win 10).cut (grid0.coords t) ((outsAt0 m c t).2.2.1) := by
  show (cfg0.win 10).cut (grid0.coords t) ((dats m 0 c).after 10 t) = _
  rw [after0_10]

theorem outs10 (c : Dev nD) (t : Fin cfg0.N) : (outsAt0 m c t).2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) := by
  simp only [outsAt0]

theorem final10 (c : Dev nD) (t : Fin cfg0.N) (r : Fin 4) (d : Fin 128) :
    (dats m 0 c).arrAt 10 cfg0.N (ix3 t r d) = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (ix3 0 r d) := by
  have h := congrFun ((dats m 0 c).read_blk_arrAt_eq_flushed 10 disjoint10 cfg0.N t t.isLt (flush0_10 t)) (ix3 (0 : Fin 1) r d)
  rw [flushed10, outs10] at h
  generalize out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) = X at h ⊢
  rw [← place10 t r d]
  exact h

theorem idx_inj11 : ∀ t t' : Fin cfg0.N, win0_11.index t = win0_11.index t' → t = t' :=
  (by decide +kernel : ∀ t t' : Fin grid0.N, win0_11.index t = win0_11.index t' → t = t')

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

theorem flushed11 (c : Dev nD) (t : Fin cfg0.N) :
    (dats m 0 c).flushed 11 t = (cfg0.win 11).cut (grid0.coords t) ((outsAt0 m c t).2.2.2.1) := by
  show (cfg0.win 11).cut (grid0.coords t) ((dats m 0 c).after 11 t) = _
  rw [after0_11]

theorem outs11 (c : Dev nD) (t : Fin cfg0.N) : (outsAt0 m c t).2.2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) := by
  simp only [outsAt0]

theorem final11 (c : Dev nD) (t : Fin cfg0.N) (r : Fin 4) (d : Fin 128) :
    (dats m 0 c).arrAt 11 cfg0.N (ix3 t r d) = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (ix3 0 r d) := by
  have h := congrFun ((dats m 0 c).read_blk_arrAt_eq_flushed 11 disjoint11 cfg0.N t t.isLt (flush0_11 t)) (ix3 (0 : Fin 1) r d)
  rw [flushed11, outs11] at h
  generalize out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) = X at h ⊢
  rw [← place11 t r d]
  exact h

theorem idx_inj12 : ∀ t t' : Fin cfg0.N, win0_12.index t = win0_12.index t' → t = t' :=
  (by decide +kernel : ∀ t t' : Fin grid0.N, win0_12.index t = win0_12.index t' → t = t')

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

theorem flushed12 (c : Dev nD) (t : Fin cfg0.N) :
    (dats m 0 c).flushed 12 t = (cfg0.win 12).cut (grid0.coords t) ((outsAt0 m c t).2.2.2.2) := by
  show (cfg0.win 12).cut (grid0.coords t) ((dats m 0 c).after 12 t) = _
  rw [after0_12]

theorem outs12 (c : Dev nD) (t : Fin cfg0.N) : (outsAt0 m c t).2.2.2.2 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) := by
  simp only [outsAt0]

theorem final12 (c : Dev nD) (t : Fin cfg0.N) (r : Fin 4) (d : Fin 128) :
    (dats m 0 c).arrAt 12 cfg0.N (ix3 t r d) = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (ix3 0 r d) := by
  have h := congrFun ((dats m 0 c).read_blk_arrAt_eq_flushed 12 disjoint12 cfg0.N t t.isLt (flush0_12 t)) (ix3 (0 : Fin 1) r d)
  rw [flushed12, outs12] at h
  generalize out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) = X at h ⊢
  rw [← place12 t r d]
  exact h

end Cert.KernelIdeal.Attn

end
-- ==== Proof.Attn.Online.lean ====
/-
  The reference's running maximum, sum and weighted sum over two halves of the cache and the new token: they come to one
  maximum, one sum and one weighted sum.
-/
module

public import proofs.«01_k».proof.Proof.Attn.Softmax

@[expose] public section

set_option synthInstance.maxSize 4096
set_option maxRecDepth 16384

noncomputable section

namespace Cert.KernelIdeal.Attn

open Idealize.ShloMosaic Idealize.ShloMosaic.TcCoe Idealize.SL.Sem Cert.KernelIdeal.Gen

theorem sum_mul_real {ι : Type} (s : Finset ι) (f : ι → EReal) {c : EReal} (hc : ∃ r : ℝ, 0 ≤ r ∧ c = ((r : ℝ) : EReal)) :
    (∑ i ∈ s, f i) * c = ∑ i ∈ s, f i * c := by
  classical
  obtain ⟨r, hr, rfl⟩ := hc
  induction s using Finset.induction_on with
  | empty => simp
  | insert a s ha ih =>
    rw [Finset.sum_insert ha, Finset.sum_insert ha,
      EReal.right_distrib_of_nonneg_of_ne_top (by exact_mod_cast hr) (EReal.coe_ne_top _), ih]

theorem add_mul_real (x y : EReal) {c : EReal} (hc : ∃ r : ℝ, 0 ≤ r ∧ c = ((r : ℝ) : EReal)) :
    (x + y) * c = x * c + y * c := by
  obtain ⟨r, hr, rfl⟩ := hc
  exact EReal.right_distrib_of_nonneg_of_ne_top (by exact_mod_cast hr) (EReal.coe_ne_top _) _ _

/-- Weights against one bound, rescaled, are the weights against the next. -/
theorem rescale {ι : Type} (s : Finset ι) (S : ι → EReal) {m1 m2 : EReal} (h1 : ∀ t ∈ s, S t ≤ m1) (h2 : m1 ≤ m2) :
    (∑ t ∈ s, Ideal.exp (S t - m1)) * Ideal.exp (m1 - m2) = ∑ t ∈ s, Ideal.exp (S t - m2) := by
  rw [sum_mul_real s _ (exp_sub_le h2)]
  exact Finset.sum_congr rfl fun t ht => exp_split (h1 t ht) h2

theorem rescale_mul {ι : Type} (s : Finset ι) (S V : ι → EReal) {m1 m2 : EReal} (h1 : ∀ t ∈ s, S t ≤ m1) (h2 : m1 ≤ m2) :
    (∑ t ∈ s, Ideal.exp (S t - m1) * V t) * Ideal.exp (m1 - m2) = ∑ t ∈ s, Ideal.exp (S t - m2) * V t := by
  rw [sum_mul_real s _ (exp_sub_le h2)]
  refine Finset.sum_congr rfl fun t ht => ?_
  rw [mul_right_comm, exp_split (h1 t ht) h2]

variable (S V : Nat → EReal) (n v m1 m2 : EReal)

theorem sum_halves (f : Nat → EReal) :
    ∑ t ∈ Finset.range 2048, f t = (∑ t : Fin 1024, f t.val) + ∑ t : Fin 1024, f (1024 + t.val) := by
  rw [show (2048 : Nat) = 1024 + 1024 from rfl, Finset.sum_range_add, Finset.sum_range, Finset.sum_range (fun t => f (1024 + t))]

/-- The running sum. -/
theorem online_total (c : EReal) (h1 : ∀ t : Fin 1024, S t.val ≤ m1) (h12 : m1 ≤ m2) (h2 : ∀ t : Fin 1024, S (1024 + t.val) ≤ m2)
    (h2p : m2 ≤ peak S n) :
    ((0 * c + ∑ t : Fin 1024, Ideal.exp (S t.val - m1)) * Ideal.exp (m1 - m2)
        + ∑ t : Fin 1024, Ideal.exp (S (1024 + t.val) - m2)) * Ideal.exp (m2 - peak S n) + Ideal.exp (n - peak S n)
      = total S n := by
  rw [zero_mul, zero_add, rescale _ (fun t : Fin 1024 => S t.val) (fun t _ => h1 t) h12,
    add_mul_real _ _ (exp_sub_le h2p), rescale _ (fun t : Fin 1024 => S t.val) (fun t _ => (h1 t).trans h12) h2p,
    rescale _ (fun t : Fin 1024 => S (1024 + t.val)) (fun t _ => h2 t) h2p, total, sum_halves, add_comm]

/-- The running weighted sum. -/
theorem online_mix (c : EReal) (h1 : ∀ t : Fin 1024, S t.val ≤ m1) (h12 : m1 ≤ m2) (h2 : ∀ t : Fin 1024, S (1024 + t.val) ≤ m2)
    (h2p : m2 ≤ peak S n) :
    ((0 * c + ∑ t : Fin 1024, Ideal.exp (S t.val - m1) * V t.val) * Ideal.exp (m1 - m2)
        + ∑ t : Fin 1024, Ideal.exp (S (1024 + t.val) - m2) * V (1024 + t.val)) * Ideal.exp (m2 - peak S n)
        + Ideal.exp (n - peak S n) * v
      = mix S n V v := by
  rw [zero_mul, zero_add, rescale_mul _ (fun t : Fin 1024 => S t.val) (fun t : Fin 1024 => V t.val) (fun t _ => h1 t) h12,
    add_mul_real _ _ (exp_sub_le h2p),
    rescale_mul _ (fun t : Fin 1024 => S t.val) (fun t : Fin 1024 => V t.val) (fun t _ => (h1 t).trans h12) h2p,
    rescale_mul _ (fun t : Fin 1024 => S (1024 + t.val)) (fun t : Fin 1024 => V (1024 + t.val)) (fun t _ => h2 t) h2p, mix,
    sum_halves, add_comm]

end Cert.KernelIdeal.Attn

end
-- ==== Proof.Attn.RefParts.lean ====
/-
  The reference's scores and values, entry by entry, and the new keys' and values' codes and scales.
-/
module

public import proofs.«01_k».proof.Proof.Attn.Quant
public import proofs.«01_k».proof.Proof.Attn.Online
public import proofs.«01_k».proof.Proof.Gen.ReferenceIdeal.Read

@[expose] public section

set_option synthInstance.maxSize 4096
set_option maxRecDepth 16384

noncomputable section

namespace Cert.ReferenceIdeal.Read

open Idealize.ShloMosaic Idealize.ShloMosaic.TcCoe Idealize.SL.Sem Cert.ReferenceIdeal Cert.KernelIdeal.Attn

variable (x0 : Vec Ideal S32x1x4096 .bf16) (x1 x2 : Vec Ideal S32x1x4x128 .bf16) (x3 : Vec Ideal S32x2048x4x128 .i8)
  (x4 : Vec Ideal S32x2048x4 .f32) (x5 : Vec Ideal S32x2048x4x128 .i8) (x6 : Vec Ideal S32x2048x4 .f32)

/-- The row of query `g` of head `h`. -/
def query (b : Fin 32) (h : Fin 4) (g : Fin 8) (d : Fin 128) : EReal :=
  x0 (ix3 b 0 ⟨h.val * 1024 + g.val * 128 + d.val, by omega⟩)

/-- A head's row of the new keys or values. -/
def newRow (x : Vec Ideal S32x1x4x128 .bf16) (b : Fin 32) (h : Fin 4) (d : Fin 128) : EReal := x (ix4 b 0 h d)

/-- The score of token `t` of the cache. -/
def cacheS (b : Fin 32) (h : Fin 4) (g : Fin 8) (t : Nat) : EReal :=
  cacheScore (query x0 b h g) (fun d => x3 (ix4 b (Fin.ofNat 2048 t) h d)) (x4 (ix3 b (Fin.ofNat 2048 t) h))

/-- The value of token `t` of the cache. -/
def cacheV (b : Fin 32) (h : Fin 4) (t : Nat) (d : Fin 128) : EReal :=
  (((x5 (ix4 b (Fin.ofNat 2048 t) h d)).toInt : ℝ) : EReal) * x6 (ix3 b (Fin.ofNat 2048 t) h)

/-- The score of the new token. -/
def newS (b : Fin 32) (h : Fin 4) (g : Fin 8) : EReal :=
  (∑ d, query x0 b h g d * (qcode (newRow x1 b h) d * qscale (newRow x1 b h))) * ((smR : ℝ) : EReal)

/-- The value of the new token. -/
def newV (b : Fin 32) (h : Fin 4) (d : Fin 128) : EReal := qcode (newRow x2 b h) d * qscale (newRow x2 b h)

theorem sitofp_signExtend (c : BitVec 8) :
    (FloatOps.sitofp (F := Ideal) .f32 (BitVec.signExtend 32 c) : EReal) = (((c.toInt : ℤ) : ℝ) : EReal) := by
  show ((((BitVec.signExtend 32 c).toInt : ℤ) : ℝ) : EReal) = _
  rw [BitVec.toInt_signExtend_of_le (by norm_num)]

theorem token_lo (t : Fin 1024) (ht : t.val < 2048) : (⟨t.val, ht⟩ : Fin 2048) = Fin.ofNat 2048 t.val :=
  Fin.ext (by simp; omega)

theorem token_hi (t : Fin 1024) (k : Nat) (hk : k < 2048) (e : k = 1024 + t.val) :
    (⟨k, hk⟩ : Fin 2048) = Fin.ofNat 2048 (1024 + t.val) := Fin.ext (by simp; omega)

theorem scale_1 (b : Fin 32) (h : Fin 4) : val_main_v7 (F := Ideal) x1 (ix3 b 0 h) = qscale (newRow x1 b h) := by
  pointwise [val_main_v7, val_main_call0_v1, val_main_call0_v0, val_main_cst_2, val_main_v6, val_main_v5, val_main_cst_1, val_main_v2, val_main_cst, val_main_v1, val_main_v0, val_main_v4, val_main_v3, val_main_cst_0]
  rw [show (id (constant (F := Ideal) S_ .f32 0x3F800000#32) ix0 : EReal) = 1 from Ideal.ofBits_one_f32]
  rfl

theorem code_1 (b : Fin 32) (h : Fin 4) (d : Fin 128) :
    val_main_v14 (F := Ideal) x1 (ix4 b 0 h d) = qbits (newRow x1 b h) d := by
  rw [← qbits_eq]
  pointwise [val_main_v14, val_main_v13, val_main_v12, val_main_call2_v2, val_main_v11, val_main_v10, val_main_v9, val_main_v8, val_main_v0, val_main_call2_v1, val_main_call2_v0, val_main_cst_3, val_main_call2_v4, val_main_call2_v3, val_main_cst_4]
  rw [scale_1]
  rfl

theorem scale_2 (b : Fin 32) (h : Fin 4) : val_main_v22 (F := Ideal) x2 (ix3 b 0 h) = qscale (newRow x2 b h) := by
  pointwise [val_main_v22, val_main_call3_v1, val_main_call3_v0, val_main_cst_8, val_main_v21, val_main_v20, val_main_cst_7, val_main_v17, val_main_cst_5, val_main_v16, val_main_v15, val_main_v19, val_main_v18, val_main_cst_6]
  rw [show (id (constant (F := Ideal) S_ .f32 0x3F800000#32) ix0 : EReal) = 1 from Ideal.ofBits_one_f32]
  rfl

theorem code_2 (b : Fin 32) (h : Fin 4) (d : Fin 128) :
    val_main_v29 (F := Ideal) x2 (ix4 b 0 h d) = qbits (newRow x2 b h) d := by
  rw [← qbits_eq]
  pointwise [val_main_v29, val_main_v28, val_main_v27, val_main_call5_v2, val_main_v26, val_main_v25, val_main_v24, val_main_v23, val_main_v15, val_main_call5_v1, val_main_call5_v0, val_main_cst_9, val_main_call5_v4, val_main_call5_v3, val_main_cst_10]
  rw [scale_2]
  rfl

theorem score_lo (b : Fin 32) (h : Fin 4) (g : Fin 8) (t : Fin 1024) :
    val_main_v55 (F := Ideal) x0 x3 x4 (ix5 b h g 0 t) = cacheS x0 x3 x4 b h g t.val := by
  pointwise [val_main_v55, val_main_v54, val_main_cst_14, val_main_v53, val_main_v52, val_main_v30, val_main_v42, val_main_v41, val_main_v40, val_main_v39, val_main_v35, val_main_v38, val_main_v37, val_main_v36, val_main_v34]
  rw [ofBits_sm]
  unfold cacheS cacheScore
  refine congrArg (fun z : EReal => z * ((smR : ℝ) : EReal)) ?_
  refine Finset.sum_congr rfl fun d _ => ?_
  rw [sitofp_signExtend, token_lo t]
  exact mul_comm (_ : EReal) _

theorem score_hi (b : Fin 32) (h : Fin 4) (g : Fin 8) (t : Fin 1024) :
    val_main_v94 (F := Ideal) x0 x3 x4 (ix5 b h g 0 t) = cacheS x0 x3 x4 b h g (1024 + t.val) := by
  pointwise [val_main_v94, val_main_v93, val_main_cst_17, val_main_v92, val_main_v91, val_main_v30, val_main_v81, val_main_v80, val_main_v79, val_main_v78, val_main_v74, val_main_v77, val_main_v76, val_main_v75, val_main_v73]
  rw [ofBits_sm]
  unfold cacheS cacheScore
  refine congrArg (fun z : EReal => z * ((smR : ℝ) : EReal)) ?_
  refine Finset.sum_congr rfl fun d _ => ?_
  rw [sitofp_signExtend, token_hi t _ _ (by omega)]
  exact mul_comm (_ : EReal) _

theorem value_lo (b : Fin 32) (h : Fin 4) (t : Fin 1024) (d : Fin 128) :
    val_main_v67 (F := Ideal) x5 x6 (ix4 b t h d) = cacheV x5 x6 b h t.val d := by
  pointwise [val_main_v67, val_main_v51, val_main_v50, val_main_v49, val_main_v48, val_main_v44, val_main_v47, val_main_v46, val_main_v45, val_main_v43]
  rw [sitofp_signExtend, token_lo t]
  rfl

theorem value_hi (b : Fin 32) (h : Fin 4) (t : Fin 1024) (d : Fin 128) :
    val_main_v106 (F := Ideal) x5 x6 (ix4 b t h d) = cacheV x5 x6 b h (1024 + t.val) d := by
  pointwise [val_main_v106, val_main_v90, val_main_v89, val_main_v88, val_main_v87, val_main_v83, val_main_v86, val_main_v85, val_main_v84, val_main_v82]
  rw [sitofp_signExtend, token_hi t _ _ (by omega)]
  rfl

theorem select_one (a b : EReal) : Scalar.select 1#1 a b = a := rfl

theorem score_new (b : Fin 32) (h : Fin 4) (g : Fin 8) (j : Fin 1) :
    val_main_v135 (F := Ideal) x0 x1 (ix5 b h g 0 j) = newS x0 x1 b h g := by
  obtain rfl : j = 0 := Subsingleton.elim _ _
  pointwise [val_main_v135, val_main_call6_v2, val_main_call6_v0, val_main_cst_21, val_main_v129, val_main_v128, val_main_cst_20, val_main_v127, val_main_v126, val_main_v30, val_main_v118, val_main_v117, val_main_v116, val_main_v115, val_main_v114, val_main_v113, val_main_v112, val_main_call6_v1, val_main_v134, val_main_v133, val_main_v132, val_main_v131, val_main_v130]
  rw [show IntOp.cmpi CmpIPredicate.sge 0#32 0#32 = 1#1 from by decide]
  rw [select_one]
  rw [ofBits_sm]
  unfold newS
  refine congrArg (fun z : EReal => z * ((smR : ℝ) : EReal)) ?_
  refine Finset.sum_congr rfl fun d _ => ?_
  rw [sitofp_signExtend, code_1, qbits_toInt, scale_1]
  exact mul_comm (_ : EReal) _

theorem value_new (b : Fin 32) (h : Fin 4) (j : Fin 1) (d : Fin 128) :
    val_main_v146 (F := Ideal) x2 (ix4 b j h d) = newV x2 b h d := by
  obtain rfl : j = 0 := Subsingleton.elim _ _
  pointwise [val_main_v146, val_main_v125, val_main_v124, val_main_v123, val_main_v122, val_main_v121, val_main_v120, val_main_v119]
  rw [sitofp_signExtend, code_2, qbits_toInt, scale_2]
  rfl

end Cert.ReferenceIdeal.Read

end
-- ==== Proof.Attn.Ref.lean ====
/-
  The reference's output, entry by entry: the weighted mean of the values.
-/
module

public import proofs.«01_k».proof.Proof.Attn.RefParts
public import proofs.«01_k».proof.Proof.Attn.Online

@[expose] public section

set_option synthInstance.maxSize 4096
set_option maxRecDepth 16384

noncomputable section

namespace Cert.ReferenceIdeal.Read

open Idealize.ShloMosaic Idealize.ShloMosaic.TcCoe Idealize.SL.Sem Cert.ReferenceIdeal Cert.KernelIdeal.Attn Cert.ReferenceIdeal.Gen

variable (x0 : Vec Ideal S32x1x4096 .bf16) (x1 x2 : Vec Ideal S32x1x4x128 .bf16) (x3 : Vec Ideal S32x2048x4x128 .i8)
  (x4 : Vec Ideal S32x2048x4 .f32) (x5 : Vec Ideal S32x2048x4x128 .i8) (x6 : Vec Ideal S32x2048x4 .f32)

theorem ofBits_negInf : Ideal.ofBits .f32 0xFF800000#32 = ⊥ := by simp [Ideal.ofBits, Ideal.ieee]

theorem fold_max_bot {n : Nat} (f : Fin n → EReal) (z : EReal) :
    Finset.univ.fold max (Ideal.ofBits .f32 0xFF800000#32) f ≤ z ↔ ∀ t, f t ≤ z := by
  rw [Finset.fold_max_le, ofBits_negInf]
  simp

theorem reduce_max_le (y : FVec Ideal S32x4x8x1x1024 .f32) (init : FVec Ideal S_ .f32)
    (hi : init (Shape.Idx.first h_S_) = Ideal.ofBits .f32 0xFF800000#32) (b : Fin 32) (h : Fin 4) (g : Fin 8) (z : EReal) :
    (Host.reduce (FloatOps.maximumf (F := Ideal) (φ := .f32)) y init reducesTo_S32x4x8x1x1024_S32x4x8x1_d4 h_S_ (ix4 b h g 0) : EReal) ≤ z
      ↔ ∀ t : Fin 1024, (y (ix5 b h g 0 t) : EReal) ≤ z := by
  have hr : S32x4x8x1x1024.Reduces [4] S32x4x8x1 := by decide
  rw [Host.reduce_eq_fold_single (FloatOps.maximumf (F := Ideal) (φ := .f32)) y init reducesTo_S32x4x8x1x1024_S32x4x8x1_d4 hr h_S_, hi]
  refine (fold_max_bot (n := 1024) (fun t => (y (hr.lift (ix4 b h g 0) t) : EReal)) z).trans ?_
  refine forall_congr' fun t => ?_
  rw [show hr.lift (ix4 b h g 0) t = ix5 b h g 0 t from (by funext a; fin_cases a <;> rfl)]

theorem reduce_one_le (y : FVec Ideal S32x4x8x1x1 .f32) (init : FVec Ideal S_ .f32)
    (hi : init (Shape.Idx.first h_S_) = Ideal.ofBits .f32 0xFF800000#32) (b : Fin 32) (h : Fin 4) (g : Fin 8) (z : EReal) :
    (Host.reduce (FloatOps.maximumf (F := Ideal) (φ := .f32)) y init reducesTo_S32x4x8x1x1_S32x4x8x1_d4 h_S_ (ix4 b h g 0) : EReal) ≤ z
      ↔ (y (ix5 b h g 0 0) : EReal) ≤ z := by
  have hr : S32x4x8x1x1.Reduces [4] S32x4x8x1 := by decide
  rw [Host.reduce_eq_fold_single (FloatOps.maximumf (F := Ideal) (φ := .f32)) y init reducesTo_S32x4x8x1x1_S32x4x8x1_d4 hr h_S_, hi]
  refine (fold_max_bot (n := 1) (fun t => (y (hr.lift (ix4 b h g 0) t) : EReal)) z).trans ?_
  have e : ∀ t : Fin 1, hr.lift (ix4 b h g 0) t = ix5 b h g 0 0 := fun t => (by
    obtain rfl : t = 0 := Subsingleton.elim _ _
    funext a; fin_cases a <;> rfl)
  exact ⟨fun H => (e 0) ▸ H 0, fun H t => (e t).symm ▸ H⟩

theorem max_1 (b : Fin 32) (h : Fin 4) (g : Fin 8) (z : EReal) :
    (val_main_v57 (F := Ideal) x0 x3 x4 (ix4 b h g 0) : EReal) ≤ z ↔ ∀ t : Fin 1024, cacheS x0 x3 x4 b h g t.val ≤ z := by
  rw [val_main_v57_apply, val_main_v31_apply]
  refine (max_le_iff (a := Ideal.ofBits .f32 0xFF800000#32) (b := (val_main_v56 (F := Ideal) x0 x3 x4 (ix4 b h g 0) : EReal))).trans ?_
  rw [ofBits_negInf]
  unfold val_main_v56
  rw [reduce_max_le _ _ rfl]
  simp only [score_lo, bot_le, true_and]

theorem max_2 (b : Fin 32) (h : Fin 4) (g : Fin 8) (z : EReal) :
    (val_main_v96 (F := Ideal) x0 x3 x4 (ix4 b h g 0) : EReal) ≤ z
      ↔ (val_main_v57 (F := Ideal) x0 x3 x4 (ix4 b h g 0) : EReal) ≤ z ∧ ∀ t : Fin 1024, cacheS x0 x3 x4 b h g (1024 + t.val) ≤ z := by
  rw [val_main_v96_apply]
  refine (max_le_iff (a := (val_main_v57 (F := Ideal) x0 x3 x4 (ix4 b h g 0) : EReal)) (b := (val_main_v95 (F := Ideal) x0 x3 x4 (ix4 b h g 0) : EReal))).trans ?_
  unfold val_main_v95
  rw [reduce_max_le _ _ rfl]
  simp only [score_hi]

theorem max_3 (b : Fin 32) (h : Fin 4) (g : Fin 8) (z : EReal) :
    (val_main_v137 (F := Ideal) x0 x1 x3 x4 (ix4 b h g 0) : EReal) ≤ z
      ↔ (val_main_v96 (F := Ideal) x0 x3 x4 (ix4 b h g 0) : EReal) ≤ z ∧ newS x0 x1 b h g ≤ z := by
  rw [val_main_v137_apply]
  refine (max_le_iff (a := (val_main_v96 (F := Ideal) x0 x3 x4 (ix4 b h g 0) : EReal)) (b := (val_main_v136 (F := Ideal) x0 x1 (ix4 b h g 0) : EReal))).trans ?_
  unfold val_main_v136
  rw [reduce_one_le _ _ rfl, score_new]

theorem max_eq_peak (b : Fin 32) (h : Fin 4) (g : Fin 8) :
    (val_main_v137 (F := Ideal) x0 x1 x3 x4 (ix4 b h g 0) : EReal) = peak (cacheS x0 x3 x4 b h g) (newS x0 x1 b h g) := by
  refine eq_of_forall_ge_iff fun z => ?_
  rw [max_3, max_2, max_1, peak_le_iff]
  refine and_congr_left fun _ => ⟨fun ⟨h1, h2⟩ t ht => ?_, fun H => ⟨fun t => H _ (by omega), fun t => H _ (by omega)⟩⟩
  by_cases hl : t < 1024
  · exact h1 ⟨t, hl⟩
  · have := h2 ⟨t - 1024, by omega⟩
    rwa [show 1024 + (t - 1024) = t by omega] at this

theorem weight_1 (b : Fin 32) (h : Fin 4) (g : Fin 8) (t : Fin 1024) :
    (val_main_v61 (F := Ideal) x0 x3 x4 (ix5 b h g 0 t) : EReal) = Ideal.exp (cacheS x0 x3 x4 b h g t.val - val_main_v57 (F := Ideal) x0 x3 x4 (ix4 b h g 0)) := by
  rw [val_main_v61_apply, val_main_v60_apply, val_main_v59_apply, val_main_v58_apply]
  rw [show idx_main_v58 (idx_main_v59 (ix5 b h g 0 t)) = ix4 b h g 0 from (by funext a; fin_cases a <;> rfl), score_lo]
  rfl

theorem weight_2 (b : Fin 32) (h : Fin 4) (g : Fin 8) (t : Fin 1024) :
    (val_main_v100 (F := Ideal) x0 x3 x4 (ix5 b h g 0 t) : EReal) = Ideal.exp (cacheS x0 x3 x4 b h g (1024 + t.val) - val_main_v96 (F := Ideal) x0 x3 x4 (ix4 b h g 0)) := by
  rw [val_main_v100_apply, val_main_v99_apply, val_main_v98_apply, val_main_v97_apply]
  rw [show idx_main_v97 (idx_main_v98 (ix5 b h g 0 t)) = ix4 b h g 0 from (by funext a; fin_cases a <;> rfl), score_hi]
  rfl

theorem weight_3 (b : Fin 32) (h : Fin 4) (g : Fin 8) (t : Fin 1) :
    (val_main_v140 (F := Ideal) x0 x1 x3 x4 (ix5 b h g 0 t) : EReal) = Ideal.exp (newS x0 x1 b h g - val_main_v137 (F := Ideal) x0 x1 x3 x4 (ix4 b h g 0)) := by
  rw [val_main_v140_apply, val_main_v139_apply, val_main_v138_apply]
  rw [show idx_main_v138 (ix5 b h g 0 t) = ix4 b h g 0 from (by funext a; fin_cases a <;> rfl), score_new]
  rfl

theorem exp_sub (a b : EReal) :
    (FloatOps.hostUnary (F := Ideal) (φ := .f32) .exp (FloatOps.subf (F := Ideal) (φ := .f32) a b) : EReal) = Ideal.exp (a - b) := rfl

theorem corr_1 (b : Fin 32) (h : Fin 4) (g : Fin 8) : (val_main_v63 (F := Ideal) x0 x3 x4 (ix4 b h g 0) : EReal)
    = Ideal.exp (Ideal.ofBits .f32 0xFF800000#32 - val_main_v57 (F := Ideal) x0 x3 x4 (ix4 b h g 0)) := by
  rw [val_main_v63_apply, val_main_v62_apply, val_main_v31_apply]
  rfl

theorem corr_2 (b : Fin 32) (h : Fin 4) (g : Fin 8) : (val_main_v102 (F := Ideal) x0 x3 x4 (ix4 b h g 0) : EReal) = Ideal.exp (val_main_v57 (F := Ideal) x0 x3 x4 (ix4 b h g 0) - val_main_v96 (F := Ideal) x0 x3 x4 (ix4 b h g 0)) := by
  rw [val_main_v102_apply, val_main_v101_apply]
  exact exp_sub _ _

theorem corr_3 (b : Fin 32) (h : Fin 4) (g : Fin 8) : (val_main_v142 (F := Ideal) x0 x1 x3 x4 (ix4 b h g 0) : EReal) = Ideal.exp (val_main_v96 (F := Ideal) x0 x3 x4 (ix4 b h g 0) - val_main_v137 (F := Ideal) x0 x1 x3 x4 (ix4 b h g 0)) := by
  rw [val_main_v142_apply, val_main_v141_apply]
  exact exp_sub _ _

theorem sum_1 (b : Fin 32) (h : Fin 4) (g : Fin 8) :
    (val_main_v66 (F := Ideal) x0 x3 x4 (ix4 b h g 0) : EReal)
      = (0 : EReal) * val_main_v63 (F := Ideal) x0 x3 x4 (ix4 b h g 0) + ∑ t : Fin 1024, Ideal.exp (cacheS x0 x3 x4 b h g t.val - val_main_v57 (F := Ideal) x0 x3 x4 (ix4 b h g 0)) := by
  rw [val_main_v66_apply, val_main_v64_apply, val_main_v65_apply,
    show (val_main_cst_16 (F := Ideal)) (Shape.Idx.first h_S_) = (0 : EReal) from Ideal.ofBits_zero_f32, zero_add]
  refine congrArg₂ (fun a b : EReal => a + b) (congrArg (fun a : EReal => a * _) Ideal.ofBits_zero_f32) (Finset.sum_congr rfl fun t _ => (congrArg _ (show idx_main_v65 (ix4 b h g 0) t = ix5 b h g 0 t from (by funext a; fin_cases a <;> rfl))).trans (weight_1 x0 x3 x4 b h g t))

theorem sum_2 (b : Fin 32) (h : Fin 4) (g : Fin 8) :
    (val_main_v105 (F := Ideal) x0 x3 x4 (ix4 b h g 0) : EReal)
      = (val_main_v66 (F := Ideal) x0 x3 x4 (ix4 b h g 0) : EReal) * val_main_v102 (F := Ideal) x0 x3 x4 (ix4 b h g 0) + ∑ t : Fin 1024, Ideal.exp (cacheS x0 x3 x4 b h g (1024 + t.val) - val_main_v96 (F := Ideal) x0 x3 x4 (ix4 b h g 0)) := by
  rw [val_main_v105_apply, val_main_v103_apply, val_main_v104_apply,
    show (val_main_cst_19 (F := Ideal)) (Shape.Idx.first h_S_) = (0 : EReal) from Ideal.ofBits_zero_f32, zero_add]
  refine congrArg₂ (fun a b : EReal => a + b) (rfl) (Finset.sum_congr rfl fun t _ => (congrArg _ (show idx_main_v104 (ix4 b h g 0) t = ix5 b h g 0 t from (by funext a; fin_cases a <;> rfl))).trans (weight_2 x0 x3 x4 b h g t))

theorem sum_3 (b : Fin 32) (h : Fin 4) (g : Fin 8) :
    (val_main_v145 (F := Ideal) x0 x1 x3 x4 (ix4 b h g 0) : EReal)
      = (val_main_v105 (F := Ideal) x0 x3 x4 (ix4 b h g 0) : EReal) * val_main_v142 (F := Ideal) x0 x1 x3 x4 (ix4 b h g 0) + Ideal.exp (newS x0 x1 b h g - val_main_v137 (F := Ideal) x0 x1 x3 x4 (ix4 b h g 0)) := by
  rw [val_main_v145_apply, val_main_v143_apply, val_main_v144_apply,
    show (val_main_cst_23 (F := Ideal)) (Shape.Idx.first h_S_) = (0 : EReal) from Ideal.ofBits_zero_f32, zero_add,
    Finset.univ_unique, Finset.sum_singleton, show idx_main_v144 (ix4 b h g 0) default = ix5 b h g 0 0 from (by funext a; fin_cases a <;> rfl), weight_3]
  rfl

theorem acc_1 (b : Fin 32) (h : Fin 4) (g : Fin 8) (d : Fin 128) :
    (val_main_v72 (F := Ideal) x0 x3 x4 x5 x6 (ix5 b h g 0 d) : EReal)
      = (0 : EReal) * val_main_v63 (F := Ideal) x0 x3 x4 (ix4 b h g 0)
        + ∑ t : Fin 1024, Ideal.exp (cacheS x0 x3 x4 b h g t.val - val_main_v57 (F := Ideal) x0 x3 x4 (ix4 b h g 0)) * cacheV x5 x6 b h t.val d := by
  rw [val_main_v72_apply, val_main_v71_apply, val_main_v70_apply, val_main_v69_apply, val_main_v68_apply, val_main_v33_apply,
    show idx_main_v69 (idx_main_v70 (ix5 b h g 0 d)) = ix4 b h g 0 from (by funext a; fin_cases a <;> rfl)]
  refine congrArg₂ (fun a b : EReal => a + b) (congrArg (fun a : EReal => a * _) Ideal.ofBits_zero_f32)
    (Finset.sum_congr rfl fun t _ => ?_)
  rw [show lidx_main_v68 (ix5 b h g 0 d) t = ix5 b h g 0 t from (by funext a; fin_cases a <;> rfl), show ridx_main_v68 (ix5 b h g 0 d) t = ix4 b t h d from (by funext a; fin_cases a <;> rfl),
    weight_1, value_lo]

theorem acc_2 (b : Fin 32) (h : Fin 4) (g : Fin 8) (d : Fin 128) :
    (val_main_v111 (F := Ideal) x0 x3 x4 x5 x6 (ix5 b h g 0 d) : EReal)
      = (val_main_v72 (F := Ideal) x0 x3 x4 x5 x6 (ix5 b h g 0 d) : EReal) * val_main_v102 (F := Ideal) x0 x3 x4 (ix4 b h g 0)
        + ∑ t : Fin 1024, Ideal.exp (cacheS x0 x3 x4 b h g (1024 + t.val) - val_main_v96 (F := Ideal) x0 x3 x4 (ix4 b h g 0)) * cacheV x5 x6 b h (1024 + t.val) d := by
  rw [val_main_v111_apply, val_main_v110_apply, val_main_v109_apply, val_main_v108_apply, val_main_v107_apply,
    show idx_main_v108 (idx_main_v109 (ix5 b h g 0 d)) = ix4 b h g 0 from (by funext a; fin_cases a <;> rfl)]
  refine congrArg₂ (fun a b : EReal => a + b) rfl (Finset.sum_congr rfl fun t _ => ?_)
  rw [show lidx_main_v107 (ix5 b h g 0 d) t = ix5 b h g 0 t from (by funext a; fin_cases a <;> rfl), show ridx_main_v107 (ix5 b h g 0 d) t = ix4 b t h d from (by funext a; fin_cases a <;> rfl),
    weight_2, value_hi]

theorem acc_3 (b : Fin 32) (h : Fin 4) (g : Fin 8) (d : Fin 128) :
    (val_main_v151 (F := Ideal) x0 x1 x2 x3 x4 x5 x6 (ix5 b h g 0 d) : EReal)
      = (val_main_v111 (F := Ideal) x0 x3 x4 x5 x6 (ix5 b h g 0 d) : EReal) * val_main_v142 (F := Ideal) x0 x1 x3 x4 (ix4 b h g 0)
        + Ideal.exp (newS x0 x1 b h g - val_main_v137 (F := Ideal) x0 x1 x3 x4 (ix4 b h g 0)) * newV x2 b h d := by
  rw [val_main_v151_apply, val_main_v150_apply, val_main_v149_apply, val_main_v148_apply, val_main_v147_apply,
    show idx_main_v148 (idx_main_v149 (ix5 b h g 0 d)) = ix4 b h g 0 from (by funext a; fin_cases a <;> rfl), Finset.univ_unique, Finset.sum_singleton,
    show lidx_main_v147 (ix5 b h g 0 d) default = ix5 b h g 0 0 from (by funext a; fin_cases a <;> rfl), show ridx_main_v147 (ix5 b h g 0 d) default = ix4 b 0 h d from (by funext a; fin_cases a <;> rfl),
    weight_3, value_new]
  rfl

theorem mean (b : Fin 32) (h : Fin 4) (g : Fin 8) (d : Fin 128) :
    (val_main_v154 (F := Ideal) x0 x1 x2 x3 x4 x5 x6 (ix5 b h g 0 d) : EReal)
      = Ideal.div (mix (cacheS x0 x3 x4 b h g) (newS x0 x1 b h g) (fun t => cacheV x5 x6 b h t d) (newV x2 b h d))
          (total (cacheS x0 x3 x4 b h g) (newS x0 x1 b h g)) := by
  have h1 := fun t => (max_1 x0 x3 x4 b h g _).mp (le_refl _) t
  have h2 := (max_2 x0 x3 x4 b h g _).mp (le_refl _)
  have h3 := (max_3 x0 x1 x3 x4 b h g _).mp (le_refl _)
  rw [max_eq_peak] at h3
  have hm := online_mix (cacheS x0 x3 x4 b h g) (fun t => cacheV x5 x6 b h t d) (newS x0 x1 b h g) (newV x2 b h d) _ _
    (val_main_v63 (F := Ideal) x0 x3 x4 (ix4 b h g 0)) h1 h2.1 h2.2 h3.1
  have ht := online_total (cacheS x0 x3 x4 b h g) (newS x0 x1 b h g) _ _ (val_main_v63 (F := Ideal) x0 x3 x4 (ix4 b h g 0)) h1 h2.1 h2.2 h3.1
  rw [val_main_v154_apply, val_main_v153_apply, val_main_v152_apply,
    show idx_main_v152 (idx_main_v153 (ix5 b h g 0 d)) = ix4 b h g 0 from (by funext a; fin_cases a <;> rfl)]
  refine congrArg₂ (fun a b : EReal => Ideal.div a b) ?_ ?_
  · rw [acc_3, acc_2, acc_1, corr_2, corr_3, max_eq_peak]
    exact hm
  · rw [sum_3, sum_2, sum_1, corr_2, corr_3, max_eq_peak]
    exact ht

theorem output (b : Fin 32) (h : Fin 4) (g : Fin 8) (d : Fin 128) :
    val_main_v157 (F := Ideal) x0 x1 x2 x3 x4 x5 x6 (ix3 b 0 ⟨h.val * 1024 + g.val * 128 + d.val, by omega⟩)
      = Ideal.div (mix (cacheS x0 x3 x4 b h g) (newS x0 x1 b h g) (fun t => cacheV x5 x6 b h t d) (newV x2 b h d))
          (total (cacheS x0 x3 x4 b h g) (newS x0 x1 b h g)) := by
  pointwise [val_main_v157, val_main_v156, val_main_v155]
  rw [← mean]

end Cert.ReferenceIdeal.Read

end
-- ==== Proof.Attn.Pre.lean ====
/-
What the precondition says of one scale: it is zero or a positive normal number of bfloat16.
-/
module

public import proofs.«01_k».proof.Proof.Attn.Scale
public import proofs.«01_k».proof.Defs
public import proofs.«01_k».proof.Proof.Gen.Pre_scales_bf16
public import Idealize.ShloMosaic.Lib.Pipeline.Value
public import Idealize.ShloMosaic.Lib.Pointwise
public import Idealize.ShloMosaic.Lib.ValueIdx
public import Idealize.ShloMosaic.Lib.IdealHost
public import Idealize.ShloMosaic.PureOps.Ideal.Laws

@[expose] public section

set_option synthInstance.maxSize 4096
set_option maxRecDepth 16384

noncomputable section

namespace Cert.KernelIdeal.Attn

open Idealize.ShloMosaic

/-- The least normal number of each interval is 128 steps of it. -/
theorem val_power (e : Nat) (he : e < 254) :
    val ((e + 1) * 128) = ((128 * 2 ^ e * (2 : ℝ) ^ (-133 : ℤ) : ℝ) : EReal) := by
  rw [val_eq _ (by omega)]
  have : units ((e + 1) * 128) = 128 * 2 ^ e := by
    unfold units
    rw [if_neg (by omega), show (e + 1) * 128 % 128 = 0 by omega, show (e + 1) * 128 / 128 - 1 = e by omega]
  rw [this]
  push_cast
  rfl

/-- A number between the least normal and the greatest finite one that is a whole number of steps in its
    interval is one of bfloat16. -/
theorem bf_of_steps (s : EReal) (h : s = 0 ∨ (val 128 ≤ s ∧ s ≤ val 0x7F7F))
    (hs : ∀ e, e < 254 → val ((e + 1) * 128) ≤ s → s < val ((e + 1) * 128) * ((2 : ℝ) : EReal) →
      Ideal.liftRound Int.floor (Ideal.div s (val ((e + 1) * 128)) * ((128 : ℝ) : EReal))
        = Ideal.div s (val ((e + 1) * 128)) * ((128 : ℝ) : EReal)) : Bf s := by
  classical
  rcases h with h | ⟨h1, h2⟩
  · refine ⟨0, by omega, Or.inl rfl, ?_⟩
    rw [h, val_eq 0 (by omega)]
    simp [units]
  · have hne : s ≠ ⊤ := fun h => val_ne_top (n := 0x7F7F) (by omega) (top_le_iff.1 (h ▸ h2))
    have hnb : s ≠ ⊥ := fun h => by
      rw [h, val_eq 128 (by omega)] at h1
      exact EReal.coe_ne_bot _ (le_bot_iff.1 h1)
    lift s to ℝ using ⟨hne, hnb⟩ with r
    have hP : ∃ e, e < 254 ∧ val ((e + 1) * 128) ≤ (r : EReal) ∧ (r : EReal) < val ((e + 1) * 128) * ((2 : ℝ) : EReal) := by
      let P : Nat → Prop := fun e => val ((e + 1) * 128) ≤ (r : EReal)
      have hp0 : P 0 := h1
      have hg := Nat.findGreatest_spec (P := P) (n := 253) (m := 0) (by omega) hp0
      have hle := Nat.findGreatest_le (P := P) 253
      refine ⟨Nat.findGreatest P 253, by omega, hg, ?_⟩
      by_cases h3 : Nat.findGreatest P 253 = 253
      · rw [h3]
        refine lt_of_le_of_lt h2 ?_
        rw [val_power 253 (by omega), val_eq 0x7F7F (by omega), ← EReal.coe_mul, EReal.coe_lt_coe_iff]
        have : units 0x7F7F = 255 * 2 ^ 253 := by decide +kernel
        rw [this]
        push_cast
        have h0 : (0 : ℝ) < 2 ^ 253 * (2 : ℝ) ^ (-133 : ℤ) := by positivity
        nlinarith
      · have h4 := Nat.findGreatest_is_greatest (P := P) (n := 253) (k := Nat.findGreatest P 253 + 1) (by omega) (by omega)
        have h5 : (r : EReal) < val ((Nat.findGreatest P 253 + 1 + 1) * 128) := not_le.1 h4
        refine h5.trans_le (le_of_eq ?_)
        rw [val_power _ (by omega), val_power _ (by omega), ← EReal.coe_mul, pow_succ]
        congr 1
        ring
    obtain ⟨e, he, h3, h4⟩ := hP
    have h5 := hs e he h3 h4
    rw [val_power e he] at h3 h4 h5
    set p : ℝ := 128 * 2 ^ e * (2 : ℝ) ^ (-133 : ℤ) with hp
    have hp0 : 0 < p := by positivity
    rw [← EReal.coe_mul, EReal.coe_lt_coe_iff] at h4
    rw [EReal.coe_le_coe_iff] at h3
    rw [Ideal.div_coe hp0.ne', ← EReal.coe_mul, ← EReal.coe_mul] at h5
    have h6 : ((⌊r * (1 / p) * 128⌋ : ℤ) : ℝ) = r * (1 / p) * 128 := EReal.coe_eq_coe_iff.1 h5
    generalize ⌊r * (1 / p) * 128⌋ = z at h6
    have h7 : r = z * (p / 128) := by rw [h6]; field_simp
    have h8 : (128 : ℝ) ≤ z := by
      rw [h7] at h3
      have : 128 * (p / 128) ≤ z * (p / 128) := by linarith
      exact le_of_mul_le_mul_right this (by positivity)
    have h9 : (z : ℝ) < 256 := by
      rw [h7] at h4
      have : z * (p / 128) < 256 * (p / 128) := by linarith
      exact lt_of_mul_lt_mul_right this (by positivity)
    have h8' : (128 : ℤ) ≤ z := by exact_mod_cast h8
    have h9' : z < (256 : ℤ) := by exact_mod_cast h9
    obtain ⟨n, rfl⟩ := Int.eq_ofNat_of_zero_le (by omega : 0 ≤ z)
    have hn1 : 128 ≤ n := by omega
    have hn2 : n < 256 := by omega
    refine ⟨(e + 1) * 128 + (n - 128), by omega, Or.inr (by omega), ?_⟩
    rw [val_eq _ (by omega)]
    have : units ((e + 1) * 128 + (n - 128)) = n * 2 ^ e := by
      unfold units
      rw [if_neg (by omega), show ((e + 1) * 128 + (n - 128)) % 128 = n - 128 by omega,
        show ((e + 1) * 128 + (n - 128)) / 128 - 1 = e by omega, show 128 + (n - 128) = n by omega]
    rw [this, h7, hp, EReal.coe_eq_coe_iff]
    push_cast
    ring

/-- The interval's power of two, as the precondition writes it. -/
theorem power_bits (e : Fin 254) :
    (BitVec.ofNat 32 e.val + 1#32) <<< (23 : Nat) = BitVec.ofNat 32 (65536 * ((e.val + 1) * 128)) := by
  revert e
  decide +kernel

/-- The precondition's test of one scale in one interval. -/
def stepTest (e : Nat) (s : EReal) : BitVec 1 :=
  (Ideal.cmp .oeq s (Ideal.ofBits .f32 0x00000000#32)
      ||| (Ideal.cmp .oge s (Ideal.ofBits .f32 0x00800000#32) &&& Ideal.cmp .ole s (Ideal.ofBits .f32 0x7F7F0000#32)))
    &&& (~~~(Ideal.cmp .ole (val ((e + 1) * 128)) s
        &&& Ideal.cmp .olt s (val ((e + 1) * 128) * Ideal.ofBits .f32 0x40000000#32))
      ||| Ideal.cmp .oeq (Ideal.liftRound Int.floor (Ideal.div s (val ((e + 1) * 128)) * Ideal.ofBits .f32 0x43000000#32))
          (Ideal.div s (val ((e + 1) * 128)) * Ideal.ofBits .f32 0x43000000#32))

theorem bit_or {a b : BitVec 1} : a ||| b = 1#1 ↔ a = 1#1 ∨ b = 1#1 := by revert a b; decide
theorem bit_and {a b : BitVec 1} : a &&& b = 1#1 ↔ a = 1#1 ∧ b = 1#1 := by revert a b; decide
theorem bit_not {a : BitVec 1} : ~~~a = 1#1 ↔ ¬ a = 1#1 := by revert a; decide

theorem bit_iff (p : Prop) [Decidable p] : BitVec.ofBool (decide p) = 1#1 ↔ p := by
  by_cases h : p <;> simp [h]

theorem two_bits : Ideal.ofBits .f32 0x40000000#32 = ((2 : ℝ) : EReal) := by
  simp [Ideal.ofBits, Ideal.ieee, -EReal.coe_mul]; norm_num

theorem steps_bits : Ideal.ofBits .f32 0x43000000#32 = ((128 : ℝ) : EReal) := by
  simp [Ideal.ofBits, Ideal.ieee, -EReal.coe_mul]; norm_num

/-- A scale passing the test in every interval is zero or a positive normal number of bfloat16. -/
theorem bf_of_test (s : EReal) (h : ∀ e : Fin 254, stepTest e.val s = 1#1) : Bf s := by
  have h0 := (bit_and.1 (h ⟨0, by omega⟩)).1
  refine bf_of_steps s ?_ ?_
  · rcases bit_or.1 h0 with h0 | h0
    · left
      have := (bit_iff _).1 h0
      rw [Ideal.ofBits_zero_f32] at this
      exact this
    · right
      obtain ⟨h1, h2⟩ := bit_and.1 h0
      exact ⟨(bit_iff _).1 h1, (bit_iff _).1 h2⟩
  · intro e he h1 h2
    rcases bit_or.1 (bit_and.1 (h ⟨e, he⟩)).2 with h3 | h3
    · exfalso
      refine bit_not.1 h3 (bit_and.2 ⟨(bit_iff _).2 h1, (bit_iff _).2 ?_⟩)
      rw [two_bits]
      exact h2
    · have := (bit_iff _).1 h3
      rw [steps_bits] at this
      exact this

/-- The precondition at an index is the test of the two scales there. -/
theorem pre_apply (x0 : Vec Ideal Cert.Pre_scales_bf16.S32x1x4096 .bf16) (x1 x2 : Vec Ideal Cert.Pre_scales_bf16.S32x1x4x128 .bf16)
    (x3 x5 : IVec Cert.Pre_scales_bf16.S32x2048x4x128 8) (x4 x6 : Vec Ideal Cert.Pre_scales_bf16.S32x2048x4 .f32)
    (e : Fin 254) (b : Fin 32) (t : Fin 2048) (h : Fin 4) :
    Cert.Pre_scales_bf16.fn (F := Ideal) x0 x1 x2 x3 x4 x5 x6 (ix4 e b t h)
      = stepTest e.val (x4 (ix3 b t h)) &&& stepTest e.val (x6 (ix3 b t h)) := by
  unfold stepTest val
  rw [← power_bits e]
  pointwise [Cert.Pre_scales_bf16.fn, Cert.Pre_scales_bf16.fn_part1, Cert.Pre_scales_bf16.fn_part2]
  rfl

end Cert.KernelIdeal.Attn

end
-- ==== Proof.Attn.Equal.lean ====
/-
  The arrays the grid writes are the reference's results, entry by entry.
-/
module

public import proofs.«01_k».proof.Proof.Attn.Blocks
public import proofs.«01_k».proof.Proof.Attn.Ref
public import proofs.«01_k».proof.Proof.Attn.Pre

@[expose] public section

set_option synthInstance.maxSize 4096
set_option maxRecDepth 16384

noncomputable section

namespace Cert.KernelIdeal.Attn

open Cert.KernelIdeal Cert.KernelIdeal.Gen Idealize.ShloMosaic Idealize.ShloMosaic.TcCoe Idealize.SL.Sem
open Cert.ReferenceIdeal.Read (query newRow cacheS cacheV newS newV)

variable (m : (ℓ : Loc nD τ sig) → Buf (Elt Ideal) ℓ) (c : Dev nD) (t : Fin cfg0.N)

theorem query_eq (h : Fin 4) (g : Fin 8) :
    rowQ (iblk m c 0 t) (8 * h.val + g.val) = query (m ((c : Thread nD τ).loc main_arg0)) t h g := by
  funext d
  exact (block0 m c t (Fin.ofNat 32 (8 * h.val + g.val)) d).trans
    (congrArg (fun k : Fin 4096 => (m ((c : Thread nD τ).loc main_arg0)) (ix3 t 0 k))
      (Fin.ext (by have := h.isLt; have := g.isLt; simp only [Fin.val_ofNat]; omega)))

theorem codes3_eq (h : Fin 4) (n : Nat) :
    rowC (iblk m c 3 t) (4 * n + h.val) = fun d => (m ((c : Thread nD τ).loc main_arg3)) (ix4 t (Fin.ofNat 2048 n) h d) := by
  funext d
  exact (block3 m c t (Fin.ofNat 8192 (4 * n + h.val)) d).trans
    (congrArg₂ (fun (a : Fin 2048) (b : Fin 4) => (m ((c : Thread nD τ).loc main_arg3)) (ix4 t a b d))
      (Fin.ext (by have := h.isLt; simp only [Fin.val_ofNat]; omega)) (Fin.ext (by have := h.isLt; simp only [Fin.val_ofNat]; omega)))

theorem codes5_eq (h : Fin 4) (n : Nat) :
    rowC (iblk m c 5 t) (4 * n + h.val) = fun d => (m ((c : Thread nD τ).loc main_arg5)) (ix4 t (Fin.ofNat 2048 n) h d) := by
  funext d
  exact (block5 m c t (Fin.ofNat 8192 (4 * n + h.val)) d).trans
    (congrArg₂ (fun (a : Fin 2048) (b : Fin 4) => (m ((c : Thread nD τ).loc main_arg5)) (ix4 t a b d))
      (Fin.ext (by have := h.isLt; simp only [Fin.val_ofNat]; omega)) (Fin.ext (by have := h.isLt; simp only [Fin.val_ofNat]; omega)))

theorem scales4 (N : Nat → Nat → Nat) (hlt : ∀ h n, N h n < 0x7F80) (hn : ∀ h n, N h n = 0 ∨ 128 ≤ N h n)
    (he : ∀ h n, (m ((c : Thread nD τ).loc main_arg4)) (ix3 t (Fin.ofNat 2048 n) (Fin.ofNat 4 h)) = val (N h n)) :
    Scales (loadS (ms0_4 t) (hs0_4 t) (iblk m c 4 t)) N := by
  refine ⟨hlt, hn, ?_⟩
  intro h a l
  have ha := a.isLt
  have hl := l.isLt
  fin_cases h
  · exact (scaleLoad0_apply _ _ _ a l).trans ((block4 m c t ⟨4 * a.val + 0, by omega⟩ l).trans
      ((congrArg₂ (fun (p : Fin 2048) (q : Fin 4) => (m ((c : Thread nD τ).loc main_arg4)) (ix3 t p q))
        (Fin.ext (by simp only [Fin.val_ofNat]; omega)) (Fin.ext (by simp only [Fin.val_ofNat]; omega))).trans (he 0 (128 * a.val + l.val))))
  · exact (scaleLoad1_apply _ _ _ a l).trans ((block4 m c t ⟨4 * a.val + 1, by omega⟩ l).trans
      ((congrArg₂ (fun (p : Fin 2048) (q : Fin 4) => (m ((c : Thread nD τ).loc main_arg4)) (ix3 t p q))
        (Fin.ext (by simp only [Fin.val_ofNat]; omega)) (Fin.ext (by simp only [Fin.val_ofNat]; omega))).trans (he 1 (128 * a.val + l.val))))
  · exact (scaleLoad2_apply _ _ _ a l).trans ((block4 m c t ⟨4 * a.val + 2, by omega⟩ l).trans
      ((congrArg₂ (fun (p : Fin 2048) (q : Fin 4) => (m ((c : Thread nD τ).loc main_arg4)) (ix3 t p q))
        (Fin.ext (by simp only [Fin.val_ofNat]; omega)) (Fin.ext (by simp only [Fin.val_ofNat]; omega))).trans (he 2 (128 * a.val + l.val))))
  · exact (scaleLoad3_apply _ _ _ a l).trans ((block4 m c t ⟨4 * a.val + 3, by omega⟩ l).trans
      ((congrArg₂ (fun (p : Fin 2048) (q : Fin 4) => (m ((c : Thread nD τ).loc main_arg4)) (ix3 t p q))
        (Fin.ext (by simp only [Fin.val_ofNat]; omega)) (Fin.ext (by simp only [Fin.val_ofNat]; omega))).trans (he 3 (128 * a.val + l.val))))

theorem scales6 (N : Nat → Nat → Nat) (hlt : ∀ h n, N h n < 0x7F80) (hn : ∀ h n, N h n = 0 ∨ 128 ≤ N h n)
    (he : ∀ h n, (m ((c : Thread nD τ).loc main_arg6)) (ix3 t (Fin.ofNat 2048 n) (Fin.ofNat 4 h)) = val (N h n)) :
    Scales (loadS (ms0_6 t) (hs0_6 t) (iblk m c 6 t)) N := by
  refine ⟨hlt, hn, ?_⟩
  intro h a l
  have ha := a.isLt
  have hl := l.isLt
  fin_cases h
  · exact (scaleLoad0_apply _ _ _ a l).trans ((block6 m c t ⟨4 * a.val + 0, by omega⟩ l).trans
      ((congrArg₂ (fun (p : Fin 2048) (q : Fin 4) => (m ((c : Thread nD τ).loc main_arg6)) (ix3 t p q))
        (Fin.ext (by simp only [Fin.val_ofNat]; omega)) (Fin.ext (by simp only [Fin.val_ofNat]; omega))).trans (he 0 (128 * a.val + l.val))))
  · exact (scaleLoad1_apply _ _ _ a l).trans ((block6 m c t ⟨4 * a.val + 1, by omega⟩ l).trans
      ((congrArg₂ (fun (p : Fin 2048) (q : Fin 4) => (m ((c : Thread nD τ).loc main_arg6)) (ix3 t p q))
        (Fin.ext (by simp only [Fin.val_ofNat]; omega)) (Fin.ext (by simp only [Fin.val_ofNat]; omega))).trans (he 1 (128 * a.val + l.val))))
  · exact (scaleLoad2_apply _ _ _ a l).trans ((block6 m c t ⟨4 * a.val + 2, by omega⟩ l).trans
      ((congrArg₂ (fun (p : Fin 2048) (q : Fin 4) => (m ((c : Thread nD τ).loc main_arg6)) (ix3 t p q))
        (Fin.ext (by simp only [Fin.val_ofNat]; omega)) (Fin.ext (by simp only [Fin.val_ofNat]; omega))).trans (he 2 (128 * a.val + l.val))))
  · exact (scaleLoad3_apply _ _ _ a l).trans ((block6 m c t ⟨4 * a.val + 3, by omega⟩ l).trans
      ((congrArg₂ (fun (p : Fin 2048) (q : Fin 4) => (m ((c : Thread nD τ).loc main_arg6)) (ix3 t p q))
        (Fin.ext (by simp only [Fin.val_ofNat]; omega)) (Fin.ext (by simp only [Fin.val_ofNat]; omega))).trans (he 3 (128 * a.val + l.val))))

theorem new1_eq (h : Fin 4) : rowN (iblk m c 1 t) h.val = newRow (m ((c : Thread nD τ).loc main_arg1)) t h := by
  funext d
  exact (block1 m c t (Fin.ofNat 4 h.val) d).trans
    (congrArg (fun b : Fin 4 => (m ((c : Thread nD τ).loc main_arg1)) (ix4 t 0 b d)) (Fin.ext (by have := h.isLt; simp only [Fin.val_ofNat]; omega)))

theorem new2_eq (h : Fin 4) : rowN (iblk m c 2 t) h.val = newRow (m ((c : Thread nD τ).loc main_arg2)) t h := by
  funext d
  exact (block2 m c t (Fin.ofNat 4 h.val) d).trans
    (congrArg (fun b : Fin 4 => (m ((c : Thread nD τ).loc main_arg2)) (ix4 t 0 b d)) (Fin.ext (by have := h.isLt; simp only [Fin.val_ofNat]; omega)))

/-- The patterns of scales that are all zero or positive normal numbers of bfloat16. -/
theorem patterns (s : Fin 2048 → Fin 4 → EReal) (hb : ∀ n h, Bf (s n h)) :
    ∃ N : Nat → Nat → Nat, (∀ h n, N h n < 0x7F80) ∧ (∀ h n, N h n = 0 ∨ 128 ≤ N h n)
      ∧ ∀ h n, s (Fin.ofNat 2048 n) (Fin.ofNat 4 h) = val (N h n) :=
  ⟨fun h n => Classical.choose (hb (Fin.ofNat 2048 n) (Fin.ofNat 4 h)),
    fun h n => (Classical.choose_spec (hb (Fin.ofNat 2048 n) (Fin.ofNat 4 h))).1,
    fun h n => (Classical.choose_spec (hb (Fin.ofNat 2048 n) (Fin.ofNat 4 h))).2.1,
    fun h n => (Classical.choose_spec (hb (Fin.ofNat 2048 n) (Fin.ofNat 4 h))).2.2⟩

theorem head_ofNat (h : Fin 4) : Fin.ofNat 4 h.val = h := Fin.ext (by have := h.isLt; simp only [Fin.val_ofNat]; omega)

theorem score_eq (N : Nat → Nat → Nat)
    (he : ∀ h n, (m ((c : Thread nD τ).loc main_arg4)) (ix3 t (Fin.ofNat 2048 n) (Fin.ofNat 4 h)) = val (N h n)) (h : Fin 4) (g : Fin 8) :
    scoreAt (iblk m c 0 t) (iblk m c 3 t) N h.val g.val = cacheS (m ((c : Thread nD τ).loc main_arg0)) (m ((c : Thread nD τ).loc main_arg3)) (m ((c : Thread nD τ).loc main_arg4)) t h g := by
  funext n
  unfold scoreAt cacheS
  rw [query_eq, codes3_eq, ← he, head_ofNat]

theorem value_eq (N : Nat → Nat → Nat)
    (he : ∀ h n, (m ((c : Thread nD τ).loc main_arg6)) (ix3 t (Fin.ofNat 2048 n) (Fin.ofNat 4 h)) = val (N h n)) (h : Fin 4) (d : Fin 128) :
    (fun n => valueAt (iblk m c 5 t) N h.val n d) = fun n => cacheV (m ((c : Thread nD τ).loc main_arg5)) (m ((c : Thread nD τ).loc main_arg6)) t h n d := by
  funext n
  unfold valueAt cacheV
  rw [codes5_eq, ← he, head_ofNat]

theorem newScore_eq (h : Fin 4) (g : Fin 8) :
    newAt (iblk m c 0 t) (iblk m c 1 t) h.val g.val = newS (m ((c : Thread nD τ).loc main_arg0)) (m ((c : Thread nD τ).loc main_arg1)) t h g := by
  unfold newAt newS
  rw [query_eq, new1_eq]

theorem newValue_eq (h : Fin 4) (d : Fin 128) : newValueAt (iblk m c 2 t) h.val d = newV (m ((c : Thread nD τ).loc main_arg2)) t h d := by
  unfold newValueAt newV
  rw [new2_eq]

/-- The attention output. -/
theorem region8 (h4 : ∀ n h, Bf ((m ((c : Thread nD τ).loc main_arg4)) (ix3 t n h))) (h6 : ∀ n h, Bf ((m ((c : Thread nD τ).loc main_arg6)) (ix3 t n h)))
    (h : Fin 4) (g : Fin 8) (d : Fin 128) :
    (dats m 0 c).arrAt 8 cfg0.N (ix3 t ⟨8 * h.val + g.val, by omega⟩ d)
      = Cert.ReferenceIdeal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 t 0 ⟨h.val * 1024 + g.val * 128 + d.val, by omega⟩) := by
  obtain ⟨NK, hK1, hK2, hK3⟩ := patterns (fun n h => (m ((c : Thread nD τ).loc main_arg4)) (ix3 t n h)) h4
  obtain ⟨NV, hV1, hV2, hV3⟩ := patterns (fun n h => (m ((c : Thread nD τ).loc main_arg6)) (ix3 t n h)) h6
  refine (final8 m c t ⟨8 * h.val + g.val, by omega⟩ d).trans
    ((out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (block7 m c t) (scales4 m c t NK hK1 hK2 hK3) (scales6 m c t NV hV1 hV2 hV3) h.val h.isLt g d).trans ?_)
  rw [score_eq m c t NK hK3, value_eq m c t NV hV3, newScore_eq, newValue_eq]
  exact (Cert.ReferenceIdeal.Read.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t h g d).symm

/-- The new keys' codes. -/
theorem region9 (h : Fin 4) (d : Fin 128) : (dats m 0 c).arrAt 9 cfg0.N (ix3 t h d)
      = Cert.ReferenceIdeal.Read.val_main_v14 (F := Ideal) (m ((c : Thread nD τ).loc main_arg1)) (ix4 t 0 h d) := by
  refine (final9 m c t h d).trans ((out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) h d).trans ?_)
  rw [new1_eq]
  exact (Cert.ReferenceIdeal.Read.code_1 (m ((c : Thread nD τ).loc main_arg1)) t h d).symm

/-- The new keys' scales. -/
theorem region10 (h : Fin 4) (d : Fin 128) : (dats m 0 c).arrAt 10 cfg0.N (ix3 t h d)
      = Cert.ReferenceIdeal.Read.val_main_v7 (F := Ideal) (m ((c : Thread nD τ).loc main_arg1)) (ix3 t 0 h) := by
  refine (final10 m c t h d).trans ((out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) h d).trans ?_)
  rw [new1_eq]
  exact (Cert.ReferenceIdeal.Read.scale_1 (m ((c : Thread nD τ).loc main_arg1)) t h).symm

/-- The new values' codes. -/
theorem region11 (h : Fin 4) (d : Fin 128) : (dats m 0 c).arrAt 11 cfg0.N (ix3 t h d)
      = Cert.ReferenceIdeal.Read.val_main_v29 (F := Ideal) (m ((c : Thread nD τ).loc main_arg2)) (ix4 t 0 h d) := by
  refine (final11 m c t h d).trans ((out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) h d).trans ?_)
  rw [new2_eq]
  exact (Cert.ReferenceIdeal.Read.code_2 (m ((c : Thread nD τ).loc main_arg2)) t h d).symm

/-- The new values' scales. -/
theorem region12 (h : Fin 4) (d : Fin 128) : (dats m 0 c).arrAt 12 cfg0.N (ix3 t h d)
      = Cert.ReferenceIdeal.Read.val_main_v22 (F := Ideal) (m ((c : Thread nD τ).loc main_arg2)) (ix3 t 0 h) := by
  refine (final12 m c t h d).trans ((out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) h d).trans ?_)
  rw [new2_eq]
  exact (Cert.ReferenceIdeal.Read.scale_2 (m ((c : Thread nD τ).loc main_arg2)) t h).symm

end Cert.KernelIdeal.Attn

end
-- ==== Proof.Attn.Tail.lean ====
/-
  The kernel program's five results are the reference's, as whole arrays.
-/
module

public import proofs.«01_k».proof.Proof.Attn.Equal

@[expose] public section

set_option synthInstance.maxSize 4096
set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (c : Dev nD) (W : Valuation τ sig (Elt Ideal))

theorem after8 (b : Fin 32) (k : Fin 4096) : StableHlo.after hostOps1 W (Proc.devRef .tc main_v24) (ix3 b 0 k) = W (Proc.devRef .tc main_v23_0) (ix3 b ⟨k.val / 128, by omega⟩ ⟨k.val % 128, by omega⟩) := by
  after_reads_at
  try rfl

theorem after9 (b : Fin 32) (h : Fin 4) (d : Fin 128) : StableHlo.after hostOps1 W (Proc.devRef .tc main_v25) (ix4 b 0 h d) = W (Proc.devRef .tc main_v23_1) (ix3 b h d) := by
  after_reads_at
  try rfl

theorem after10 (b : Fin 32) (h : Fin 4) : StableHlo.after hostOps1 W (Proc.devRef .tc main_v28) (ix3 b 0 h) = W (Proc.devRef .tc main_v23_2) (ix3 b h 0) := by
  after_reads_at
  try rfl

theorem after11 (b : Fin 32) (h : Fin 4) (d : Fin 128) : StableHlo.after hostOps1 W (Proc.devRef .tc main_v29) (ix4 b 0 h d) = W (Proc.devRef .tc main_v23_3) (ix3 b h d) := by
  after_reads_at
  try rfl

theorem after12 (b : Fin 32) (h : Fin 4) : StableHlo.after hostOps1 W (Proc.devRef .tc main_v32) (ix3 b 0 h) = W (Proc.devRef .tc main_v23_4) (ix3 b h 0) := by
  after_reads_at
  try rfl

theorem ext3 {A : Type} {n0 n1 n2 : Nat} {x y : (⟨3, ![n0, n1, n2]⟩ : Shape).Idx → A}
    (h : ∀ a b c, x (ix3 a b c) = y (ix3 a b c)) : x = y := by
  funext i
  have e : i = ix3 (i 0) (i 1) (i 2) := by funext a; fin_cases a <;> rfl
  rw [e]
  exact h _ _ _

theorem ext4 {A : Type} {n0 n1 n2 n3 : Nat} {x y : (⟨4, ![n0, n1, n2, n3]⟩ : Shape).Idx → A}
    (h : ∀ a b c d, x (ix4 a b c d) = y (ix4 a b c d)) : x = y := by
  funext i
  have e : i = ix4 (i 0) (i 1) (i 2) (i 3) := by funext a; fin_cases a <;> rfl
  rw [e]
  exact h _ _ _ _

theorem arrays_inj : Function.Injective (Pipeline.arrRef spec0) :=
  fun a b h => (by decide : ∀ a b, Pipeline.arrRef spec0 a = Pipeline.arrRef spec0 b → a = b) a b h

theorem tail8 (b : Fin 32) (k : Fin 4096) :
    Pipeline.afterTail₀ cfgs (dats m) 0 (V0 m) [hostOps1] c main_v24 (ix3 b 0 k) = (dats m 0 c).arrAt 8 cfg0.N (ix3 b ⟨k.val / 128, by omega⟩ ⟨k.val % 128, by omega⟩) :=
  (after8 _ b k).trans
    (congrFun (Pipeline.withArrays_arr spec0 arrays_inj c (V0 m c) (fun w => (dats m 0 c).arrAt w cfg0.N) 8) (ix3 b ⟨k.val / 128, by omega⟩ ⟨k.val % 128, by omega⟩))

theorem tail9 (b : Fin 32) (h : Fin 4) (d : Fin 128) :
    Pipeline.afterTail₀ cfgs (dats m) 0 (V0 m) [hostOps1] c main_v25 (ix4 b 0 h d) = (dats m 0 c).arrAt 9 cfg0.N (ix3 b h d) :=
  (after9 _ b h d).trans
    (congrFun (Pipeline.withArrays_arr spec0 arrays_inj c (V0 m c) (fun w => (dats m 0 c).arrAt w cfg0.N) 9) (ix3 b h d))

theorem tail10 (b : Fin 32) (h : Fin 4) :
    Pipeline.afterTail₀ cfgs (dats m) 0 (V0 m) [hostOps1] c main_v28 (ix3 b 0 h) = (dats m 0 c).arrAt 10 cfg0.N (ix3 b h 0) :=
  (after10 _ b h).trans
    (congrFun (Pipeline.withArrays_arr spec0 arrays_inj c (V0 m c) (fun w => (dats m 0 c).arrAt w cfg0.N) 10) (ix3 b h 0))

theorem tail11 (b : Fin 32) (h : Fin 4) (d : Fin 128) :
    Pipeline.afterTail₀ cfgs (dats m) 0 (V0 m) [hostOps1] c main_v29 (ix4 b 0 h d) = (dats m 0 c).arrAt 11 cfg0.N (ix3 b h d) :=
  (after11 _ b h d).trans
    (congrFun (Pipeline.withArrays_arr spec0 arrays_inj c (V0 m c) (fun w => (dats m 0 c).arrAt w cfg0.N) 11) (ix3 b h d))

theorem tail12 (b : Fin 32) (h : Fin 4) :
    Pipeline.afterTail₀ cfgs (dats m) 0 (V0 m) [hostOps1] c main_v32 (ix3 b 0 h) = (dats m 0 c).arrAt 12 cfg0.N (ix3 b h 0) :=
  (after12 _ b h).trans
    (congrFun (Pipeline.withArrays_arr spec0 arrays_inj c (V0 m c) (fun w => (dats m 0 c).arrAt w cfg0.N) 12) (ix3 b h 0))

/-- The attention output. -/
theorem result8 (h4 : ∀ t n h, Bf ((m ((c : Thread nD τ).loc main_arg4)) (ix3 t n h))) (h6 : ∀ t n h, Bf ((m ((c : Thread nD τ).loc main_arg6)) (ix3 t n h))) :
    Pipeline.afterTail₀ cfgs (dats m) 0 (V0 m) [hostOps1] c main_v24
      = Cert.ReferenceIdeal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ext3 (fun b o k => ?_)
  obtain rfl : o = 0 := Subsingleton.elim _ _
  have hk := k.isLt
  refine (tail8 m c b k).trans ?_
  have h := region8 m c b (h4 b) (h6 b) ⟨k.val / 1024, by omega⟩ ⟨k.val / 128 % 8, by omega⟩ ⟨k.val % 128, by omega⟩
  refine Eq.trans (congrArg (fun r : Fin 32 => (dats m 0 c).arrAt 8 cfg0.N (ix3 b r ⟨k.val % 128, by omega⟩)) (Fin.ext ?_)) (h.trans
    (congrArg (fun r : Fin 4096 => Cert.ReferenceIdeal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b 0 r)) (Fin.ext ?_)))
  · show k.val / 128 = 8 * (k.val / 1024) + k.val / 128 % 8
    omega
  · show k.val / 1024 * 1024 + k.val / 128 % 8 * 128 + k.val % 128 = k.val
    omega

/-- The new keys' codes. -/
theorem result9 : Pipeline.afterTail₀ cfgs (dats m) 0 (V0 m) [hostOps1] c main_v25 = Cert.ReferenceIdeal.Read.val_main_v14 (F := Ideal) (m ((c : Thread nD τ).loc main_arg1)) := by
  refine ext4 (fun b o h d => ?_)
  obtain rfl : o = 0 := Subsingleton.elim _ _
  exact (tail9 m c b h d).trans (region9 m c b h d)

/-- The new keys' scales. -/
theorem result10 : Pipeline.afterTail₀ cfgs (dats m) 0 (V0 m) [hostOps1] c main_v28 = Cert.ReferenceIdeal.Read.val_main_v7 (F := Ideal) (m ((c : Thread nD τ).loc main_arg1)) := by
  refine ext3 (fun b o h => ?_)
  obtain rfl : o = 0 := Subsingleton.elim _ _
  exact (tail10 m c b h).trans (region10 m c b h 0)

/-- The new values' codes. -/
theorem result11 : Pipeline.afterTail₀ cfgs (dats m) 0 (V0 m) [hostOps1] c main_v29 = Cert.ReferenceIdeal.Read.val_main_v29 (F := Ideal) (m ((c : Thread nD τ).loc main_arg2)) := by
  refine ext4 (fun b o h d => ?_)
  obtain rfl : o = 0 := Subsingleton.elim _ _
  exact (tail11 m c b h d).trans (region11 m c b h d)

/-- The new values' scales. -/
theorem result12 : Pipeline.afterTail₀ cfgs (dats m) 0 (V0 m) [hostOps1] c main_v32 = Cert.ReferenceIdeal.Read.val_main_v22 (F := Ideal) (m ((c : Thread nD τ).loc main_arg2)) := by
  refine ext3 (fun b o h => ?_)
  obtain rfl : o = 0 := Subsingleton.elim _ _
  exact (tail12 m c b h).trans (region12 m c b h 0)

/-- The precondition, at one scale of the cached keys. -/
theorem keys_bf (hp : Cert.Pre_KernelIdeal_scales_bf16 m) (t : Fin 32) (n : Fin 2048) (h : Fin 4) :
    Bf (m ((c : Thread nD τ).loc main_arg4) (ix3 t n h)) :=
  bf_of_test _ fun e => (bit_and.1 ((pre_apply _ _ _ _ _ _ _ e t n h).symm.trans (congrFun (hp c) (ix4 e t n h)))).1

/-- The precondition, at one scale of the cached values. -/
theorem values_bf (hp : Cert.Pre_KernelIdeal_scales_bf16 m) (t : Fin 32) (n : Fin 2048) (h : Fin 4) :
    Bf (m ((c : Thread nD τ).loc main_arg6) (ix3 t n h)) :=
  bf_of_test _ fun e => (bit_and.1 ((pre_apply _ _ _ _ _ _ _ e t n h).symm.trans (congrFun (hp c) (ix4 e t n h)))).2

/-- Every run of the kernel program ends with the reference's five arrays and its arguments unchanged. -/
theorem kernel_results (hp : Cert.Pre_KernelIdeal_scales_bf16 m) (ρ : Dev nD → PrngReg) :
    θ_run (defs (F := Ideal)) (onTc (τ := τ) (main (F := Ideal))) ⟨m, fun _ => 0, ρ⟩ (fun r => ∀ c : Dev nD,
      r.2.mem ((c : Thread nD τ).loc main_v24) = Cert.ReferenceIdeal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v25) = Cert.ReferenceIdeal.Read.val_main_v14 (F := Ideal) (m ((c : Thread nD τ).loc main_arg1))
      ∧ r.2.mem ((c : Thread nD τ).loc main_v28) = Cert.ReferenceIdeal.Read.val_main_v7 (F := Ideal) (m ((c : Thread nD τ).loc main_arg1))
      ∧ r.2.mem ((c : Thread nD τ).loc main_v29) = Cert.ReferenceIdeal.Read.val_main_v29 (F := Ideal) (m ((c : Thread nD τ).loc main_arg2))
      ∧ r.2.mem ((c : Thread nD τ).loc main_v32) = Cert.ReferenceIdeal.Read.val_main_v22 (F := Ideal) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨
      (((h c).2 main_v24 (Pipeline.mem_restRefs_of main_v24 (by decide) (by decide))).trans (result8 m c (keys_bf m c hp) (values_bf m c hp))),
      (((h c).2 main_v25 (Pipeline.mem_restRefs_of main_v25 (by decide) (by decide))).trans (result9 m c)),
      (((h c).2 main_v28 (Pipeline.mem_restRefs_of main_v28 (by decide) (by decide))).trans (result10 m c)),
      (((h c).2 main_v29 (Pipeline.mem_restRefs_of main_v29 (by decide) (by decide))).trans (result11 m c)),
      (((h c).2 main_v32 (Pipeline.mem_restRefs_of main_v32 (by decide) (by decide))).trans (result12 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.KernelIdeal.Attn

end
-- ==== Proof.lean ====
/-
The claim: all three programs run, leave their arguments unchanged and end with every semaphore at zero, and the kernel
program's five results are the reference's as extended reals, element by element, when every scale of the two caches is
a number bfloat16 holds, zero or positive normal.

The steps are in the modules of Proof/Attn. The kernel reads a scale's significand and power of two from its bits and
folds each into a different factor (Scale, Link, Bits); its tiles of scores and values come out interleaved by head
(Scores, Load, Block); the softmax over all tokens is one sum over the tiles (Sums, Softmax, Mix, Out). The reference
runs an online softmax over two halves of the cache and the new token (Online, RefParts, Ref). Blocks, Equal and Tail
carry both through the grid and the reshapes around it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_scales_bf16
public import proofs.«01_k».proof.Proof.Attn.Tail
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged, and has no semaphore. -/
theorem reference_quiescent (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) :=
  (θ_run _ _ _).mono (fun r h => ⟨fun c => (h c).2.2.2.2.2, Idealize.ShloMosaic.sem_eq_zero_of_no_sems (by decide) r.2⟩)
    (Cert.ReferenceIdeal.Value.run (F := Ideal) m ρ)

/-- From memories that agree on the arguments, the two programs end with the same five arrays. -/
theorem algebraic : Cert.algebraic_KernelIdeal_ReferenceIdeal_pre_scales_bf16 := by
  intro m g m' g' hp hagree
  refine ⟨fun c => Cert.ReferenceIdeal.Read.val_main_v157 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v14 (F := Ideal) (m ((c.tc : Thread Cert.KernelIdeal.nD Cert.KernelIdeal.τ).loc Cert.KernelIdeal.main_arg1)), fun c => Cert.ReferenceIdeal.Read.val_main_v7 (F := Ideal) (m ((c.tc : Thread Cert.KernelIdeal.nD Cert.KernelIdeal.τ).loc Cert.KernelIdeal.main_arg1)),
    fun c => Cert.ReferenceIdeal.Read.val_main_v29 (F := Ideal) (m ((c.tc : Thread Cert.KernelIdeal.nD Cert.KernelIdeal.τ).loc Cert.KernelIdeal.main_arg2)), fun c => Cert.ReferenceIdeal.Read.val_main_v22 (F := Ideal) (m ((c.tc : Thread Cert.KernelIdeal.nD Cert.KernelIdeal.τ).loc Cert.KernelIdeal.main_arg2)),
    Cert.KernelIdeal.Attn.kernel_results m hp g,
    (θ_run _ _ _).mono (fun r h c => ?_) (Cert.ReferenceIdeal.Value.run (F := Ideal) m' g')⟩
  obtain ⟨h0, h1, h2, h3, h4, hargs⟩ := h c
  obtain ⟨a0, a1, a2, a3, a4, a5, a6⟩ := hagree c
  refine ⟨h0.trans ((Cert.ReferenceIdeal.Read.val_main_v157_eq (StableHlo.launchContents m' c)).trans ?_),
    h1.trans ((Cert.ReferenceIdeal.Read.val_main_v14_eq (StableHlo.launchContents m' c)).trans (congrArg (Cert.ReferenceIdeal.Read.val_main_v14 (F := Ideal)) a1)),
    h2.trans ((Cert.ReferenceIdeal.Read.val_main_v7_eq (StableHlo.launchContents m' c)).trans (congrArg (Cert.ReferenceIdeal.Read.val_main_v7 (F := Ideal)) a1)),
    h3.trans ((Cert.ReferenceIdeal.Read.val_main_v29_eq (StableHlo.launchContents m' c)).trans (congrArg (Cert.ReferenceIdeal.Read.val_main_v29 (F := Ideal)) a2)),
    h4.trans ((Cert.ReferenceIdeal.Read.val_main_v22_eq (StableHlo.launchContents m' c)).trans (congrArg (Cert.ReferenceIdeal.Read.val_main_v22 (F := Ideal)) a2)), hargs⟩
  show Cert.ReferenceIdeal.Read.val_main_v157 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  rw [a0, a1, a2, a3, a4, a5, a6]

theorem claim : Cert.Claim :=
  ⟨Cert.Kernel.Gen.facts, Cert.KernelIdeal.Gen.facts, Cert.ReferenceIdeal.Gen.facts, Cert.Pre_scales_bf16.Gen.facts,
    fun m ρ _ => Cert.Kernel.Gen.frame m ρ,
    fun m ρ _ => Cert.KernelIdeal.Gen.frame m ρ,
    fun m ρ _ => Cert.KernelIdeal.Gen.frame m ρ,
    fun m ρ _ => reference_quiescent m ρ,
    fun m ρ _ => reference_quiescent m ρ,
    trivial,
    algebraic⟩

end Cert.Proof

end
